-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "c" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v27_0) = v1 c
          ∧ r.2.mem ((c.tc : Thread Cert.ReferenceIdeal.nD Cert.ReferenceIdeal.τ).loc Cert.ReferenceIdeal.main_v27_1) = v2 c
          ∧ r.2.mem ((c.tc : Thread Cert.ReferenceIdeal.nD Cert.ReferenceIdeal.τ).loc Cert.ReferenceIdeal.main_v27_2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x5120 : Shape := ⟨3, ![2, 768, 5120]⟩
abbrev S2x768x1024 : Shape := ⟨3, ![2, 768, 1024]⟩
abbrev S2x768x160 : Shape := ⟨3, ![2, 768, 160]⟩
abbrev S2x768x32 : Shape := ⟨3, ![2, 768, 32]⟩
abbrev S2x8 : Shape := ⟨2, ![2, 8]⟩
abbrev S2x768x160x1 : Shape := ⟨4, ![2, 768, 160, 1]⟩
abbrev S2x768x160x32 : Shape := ⟨4, ![2, 768, 160, 32]⟩
abbrev S2x768x32x1 : Shape := ⟨4, ![2, 768, 32, 1]⟩
abbrev S2x768x32x32 : Shape := ⟨4, ![2, 768, 32, 32]⟩
abbrev S2x1x8x1 : Shape := ⟨4, ![2, 1, 8, 1]⟩
abbrev S2x1x8x128 : Shape := ⟨4, ![2, 1, 8, 128]⟩
abbrev S2x1x1024 : Shape := ⟨3, ![2, 1, 1024]⟩
abbrev S1x768x640 : Shape := ⟨3, ![1, 768, 640]⟩
abbrev S1x768x128 : Shape := ⟨3, ![1, 768, 128]⟩
abbrev S1x1x128 : Shape := ⟨3, ![1, 1, 128]⟩
abbrev S15x256x128 : Shape := ⟨3, ![15, 256, 128]⟩
abbrev S768x128 : Shape := ⟨2, ![768, 128]⟩
abbrev S128x768 : Shape := ⟨2, ![128, 768]⟩
abbrev S768x256 : Shape := ⟨2, ![768, 256]⟩
abbrev S2x16x256 : Shape := ⟨3, ![2, 16, 256]⟩
abbrev S1x128 : Shape := ⟨2, ![1, 128]⟩
abbrev S128x128 : Shape := ⟨2, ![128, 128]⟩
abbrev S1x16x128 : Shape := ⟨3, ![1, 16, 128]⟩
abbrev S16x128 : Shape := ⟨2, ![16, 128]⟩
abbrev S64x128 : Shape := ⟨2, ![64, 128]⟩
abbrev S1x256x128 : Shape := ⟨3, ![1, 256, 128]⟩
abbrev S256x128 : Shape := ⟨2, ![256, 128]⟩
abbrev S64x256 : Shape := ⟨2, ![64, 256]⟩
abbrev S8x8x128 : Shape := ⟨3, ![8, 8, 128]⟩
abbrev S8x128 : Shape := ⟨2, ![8, 128]⟩
abbrev S128 : Shape := ⟨1, ![128]⟩
abbrev S128x64 : Shape := ⟨2, ![128, 64]⟩
abbrev S128x256 : Shape := ⟨2, ![128, 256]⟩
abbrev S1x1x256 : Shape := ⟨3, ![1, 1, 256]⟩
abbrev S1x256 : Shape := ⟨2, ![1, 256]⟩
abbrev S1x1 : Shape := ⟨2, ![1, 1]⟩
abbrev S1x64x128 : Shape := ⟨3, ![1, 64, 128]⟩
abbrev S16x8x128 : Shape := ⟨3, ![16, 8, 128]⟩
abbrev S192x128 : Shape := ⟨2, ![192, 128]⟩
abbrev S192x256 : Shape := ⟨2, ![192, 256]⟩
abbrev S24x8x128 : Shape := ⟨3, ![24, 8, 128]⟩
abbrev S128x192 : Shape := ⟨2, ![128, 192]⟩
abbrev S256x256 : Shape := ⟨2, ![256, 256]⟩
abbrev S32x8x128 : Shape := ⟨3, ![32, 8, 128]⟩
abbrev S320x128 : Shape := ⟨2, ![320, 128]⟩
abbrev S320x256 : Shape := ⟨2, ![320, 256]⟩
abbrev S40x8x128 : Shape := ⟨3, ![40, 8, 128]⟩
abbrev S128x320 : Shape := ⟨2, ![128, 320]⟩
abbrev S384x128 : Shape := ⟨2, ![384, 128]⟩
abbrev S384x256 : Shape := ⟨2, ![384, 256]⟩
abbrev S48x8x128 : Shape := ⟨3, ![48, 8, 128]⟩
abbrev S128x384 : Shape := ⟨2, ![128, 384]⟩
abbrev S448x128 : Shape := ⟨2, ![448, 128]⟩
abbrev S448x256 : Shape := ⟨2, ![448, 256]⟩
abbrev S56x8x128 : Shape := ⟨3, ![56, 8, 128]⟩
abbrev S128x448 : Shape := ⟨2, ![128, 448]⟩
abbrev S512x128 : Shape := ⟨2, ![512, 128]⟩
abbrev S512x256 : Shape := ⟨2, ![512, 256]⟩
abbrev S64x8x128 : Shape := ⟨3, ![64, 8, 128]⟩
abbrev S128x512 : Shape := ⟨2, ![128, 512]⟩
abbrev S576x128 : Shape := ⟨2, ![576, 128]⟩
abbrev S576x256 : Shape := ⟨2, ![576, 256]⟩
abbrev S72x8x128 : Shape := ⟨3, ![72, 8, 128]⟩
abbrev S128x576 : Shape := ⟨2, ![128, 576]⟩
abbrev S640x128 : Shape := ⟨2, ![640, 128]⟩
abbrev S640x256 : Shape := ⟨2, ![640, 256]⟩
abbrev S80x8x128 : Shape := ⟨3, ![80, 8, 128]⟩
abbrev S128x640 : Shape := ⟨2, ![128, 640]⟩
abbrev S704x128 : Shape := ⟨2, ![704, 128]⟩
abbrev S704x256 : Shape := ⟨2, ![704, 256]⟩
abbrev S88x8x128 : Shape := ⟨3, ![88, 8, 128]⟩
abbrev S128x704 : Shape := ⟨2, ![128, 704]⟩
abbrev S96x8x128 : Shape := ⟨3, ![96, 8, 128]⟩
abbrev S1x128x128 : Shape := ⟨3, ![1, 128, 128]⟩

abbrev nBuf : Space → Nat
  | .hbm => 21
  | .vmem => 26
  | .smem => 0
  | _ => 0

abbrev bufTy : (tb : Table) → Fin (tcTables nBuf tb) → BufTy
  | .hbm, ⟨0, _⟩ => ⟨S2x768x5120, .bf16⟩
  | .hbm, ⟨1, _⟩ => ⟨S2x768x1024, .bf16⟩
  | .hbm, ⟨2, _⟩ => ⟨S2x768x1024, .bf16⟩
  | .hbm, ⟨3, _⟩ => ⟨S2x768x160, .f32⟩
  | .hbm, ⟨4, _⟩ => ⟨S2x768x32, .f32⟩
  | .hbm, ⟨5, _⟩ => ⟨S2x8, .f32⟩
  | .hbm, ⟨6, _⟩ => ⟨S2x768x160, .bf16⟩
  | .hbm, ⟨7, _⟩ => ⟨S2x768x160x1, .bf16⟩
  | .hbm, ⟨8, _⟩ => ⟨S2x768x160x32, .bf16⟩
  | .hbm, ⟨9, _⟩ => ⟨S2x768x5120, .bf16⟩
  | .hbm, ⟨10, _⟩ => ⟨S2x768x32, .bf16⟩
  | .hbm, ⟨11, _⟩ => ⟨S2x768x32x1, .bf16⟩
  | .hbm, ⟨12, _⟩ => ⟨S2x768x32x32, .bf16⟩
  | .hbm, ⟨13, _⟩ => ⟨S2x768x1024, .bf16⟩
  | .hbm, ⟨14, _⟩ => ⟨S2x1x8x1, .f32⟩
  | .hbm, ⟨15, _⟩ => ⟨S2x1x8x128, .f32⟩
  | .hbm, ⟨16, _⟩ => ⟨S2x1x1024, .f32⟩
  | .hbm, ⟨17, _⟩ => ⟨S2x768x5120, .bf16⟩
  | .hbm, ⟨18, _⟩ => ⟨S2x768x5120, .fp8e4m3⟩
  | .hbm, ⟨19, _⟩ => ⟨S2x768x1024, .fp8e4m3⟩
  | .hbm, ⟨20, _⟩ => ⟨S2x768x1024, .fp8e4m3⟩
  | .local _ .vmem, ⟨0, _⟩ => ⟨S1x768x640, .bf16⟩
  | .local _ .vmem, ⟨1, _⟩ => ⟨S1x768x640, .bf16⟩
  | .local _ .vmem, ⟨2, _⟩ => ⟨S1x768x128, .bf16⟩
  | .local _ .vmem, ⟨3, _⟩ => ⟨S1x768x128, .bf16⟩
  | .local _ .vmem, ⟨4, _⟩ => ⟨S1x768x128, .bf16⟩
  | .local _ .vmem, ⟨5, _⟩ => ⟨S1x768x128, .bf16⟩
  | .local _ .vmem, ⟨6, _⟩ => ⟨S1x768x640, .bf16⟩
  | .local _ .vmem, ⟨7, _⟩ => ⟨S1x768x640, .bf16⟩
  | .local _ .vmem, ⟨8, _⟩ => ⟨S1x768x128, .bf16⟩
  | .local _ .vmem, ⟨9, _⟩ => ⟨S1x768x128, .bf16⟩
  | .local _ .vmem, ⟨10, _⟩ => ⟨S1x1x128, .f32⟩
  | .local _ .vmem, ⟨11, _⟩ => ⟨S1x1x128, .f32⟩
  | .local _ .vmem, ⟨12, _⟩ => ⟨S1x768x640, .bf16⟩
  | .local _ .vmem, ⟨13, _⟩ => ⟨S1x768x640, .bf16⟩
  | .local _ .vmem, ⟨14, _⟩ => ⟨S1x768x640, .fp8e4m3⟩
  | .local _ .vmem, ⟨15, _⟩ => ⟨S1x768x640, .fp8e4m3⟩
  | .local _ .vmem, ⟨16, _⟩ => ⟨S1x768x128, .fp8e4m3⟩
  | .local _ .vmem, ⟨17, _⟩ => ⟨S1x768x128, .fp8e4m3⟩
  | .local _ .vmem, ⟨18, _⟩ => ⟨S1x768x128, .fp8e4m3⟩
  | .local _ .vmem, ⟨19, _⟩ => ⟨S1x768x128, .fp8e4m3⟩
  | .local _ .vmem, ⟨20, _⟩ => ⟨S15x256x128, .bf16⟩
  | .local _ .vmem, ⟨21, _⟩ => ⟨S768x128, .bf16⟩
  | .local _ .vmem, ⟨22, _⟩ => ⟨S128x768, .fp8e4m3⟩
  | .local _ .vmem, ⟨23, _⟩ => ⟨S768x256, .f32⟩
  | .local _ .vmem, ⟨24, _⟩ => ⟨S768x256, .fp8e4m3⟩
  | .local _ .vmem, ⟨25, _⟩ => ⟨S2x16x256, .f32⟩
  | _, _ => ⟨S2x768x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x768x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x768x640 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x768x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x768x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "c" => some (((Real.sqrt 128)⁻¹ * (Real.log 2)⁻¹ : ℝ) : EReal)
  | _ => none
-- ==== ReferenceIdeal.lean ====
abbrev S2x768x5120 : Shape := ⟨3, ![2, 768, 5120]⟩
abbrev S2x768x1024 : Shape := ⟨3, ![2, 768, 1024]⟩
abbrev S2x768x160 : Shape := ⟨3, ![2, 768, 160]⟩
abbrev S2x768x32 : Shape := ⟨3, ![2, 768, 32]⟩
abbrev S2x8 : Shape := ⟨2, ![2, 8]⟩
abbrev S2x768x160x32 : Shape := ⟨4, ![2, 768, 160, 32]⟩
abbrev S_ : Shape := ⟨0, ![]⟩
abbrev S2x768x160x1 : Shape := ⟨4, ![2, 768, 160, 1]⟩
abbrev S2x768x32x32 : Shape := ⟨4, ![2, 768, 32, 32]⟩
abbrev S2x768x32x1 : Shape := ⟨4, ![2, 768, 32, 1]⟩
abbrev S2x768x8x128 : Shape := ⟨4, ![2, 768, 8, 128]⟩
abbrev S2x1x8x1 : Shape := ⟨4, ![2, 1, 8, 1]⟩
abbrev S2x768x8x5x128 : Shape := ⟨5, ![2, 768, 8, 5, 128]⟩
abbrev S2x8x768x768x5 : Shape := ⟨5, ![2, 8, 768, 768, 5]⟩
abbrev S2x8x5x768x768 : Shape := ⟨5, ![2, 8, 5, 768, 768]⟩
abbrev S768 : Shape := ⟨1, ![768]⟩
abbrev S1x768 : Shape := ⟨2, ![1, 768]⟩
abbrev S768x1 : Shape := ⟨2, ![768, 1]⟩
abbrev S768x768 : Shape := ⟨2, ![768, 768]⟩
abbrev S2x8x5x768 : Shape := ⟨4, ![2, 8, 5, 768]⟩
abbrev S2x8x5x768x1 : Shape := ⟨5, ![2, 8, 5, 768, 1]⟩
abbrev S2x8x5x768x128 : Shape := ⟨5, ![2, 8, 5, 768, 128]⟩
abbrev S2x8x1x1x1 : Shape := ⟨5, ![2, 8, 1, 1, 1]⟩

abbrev nBuf : Space → Nat
  | .hbm => 117
  | .vmem => 6
  | .smem => 0
  | _ => 0

abbrev bufTy : (tb : Table) → Fin (tcTables nBuf tb) → BufTy
  | .hbm, ⟨0, _⟩ => ⟨S2x768x5120, .bf16⟩
  | .hbm, ⟨1, _⟩ => ⟨S2x768x1024, .bf16⟩
  | .hbm, ⟨2, _⟩ => ⟨S2x768x1024, .bf16⟩
  | .hbm, ⟨3, _⟩ => ⟨S2x768x160, .f32⟩
  | .hbm, ⟨4, _⟩ => ⟨S2x768x32, .f32⟩
  | .hbm, ⟨5, _⟩ => ⟨S2x8, .f32⟩
  | .hbm, ⟨6, _⟩ => ⟨S2x768x5120, .f32⟩
  | .hbm, ⟨7, _⟩ => ⟨S2x768x160x32, .f32⟩
  | .hbm, ⟨8, _⟩ => ⟨S_, .f32⟩
  | .hbm, ⟨9, _⟩ => ⟨S2x768x160, .f32⟩
  | .hbm, ⟨10, _⟩ => ⟨S2x768x160, .f32⟩
  | .hbm, ⟨11, _⟩ => ⟨S2x768x160x1, .f32⟩
  | .hbm, ⟨12, _⟩ => ⟨S2x768x160x32, .f32⟩
  | .hbm, ⟨13, _⟩ => ⟨S2x768x160x32, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S2x768x160x32, .f32⟩
  | .hbm, ⟨18, _⟩ => ⟨S2x768x160x32, .f32⟩
  | .hbm, ⟨19, _⟩ => ⟨S_, .f32⟩
  | .hbm, ⟨20, _⟩ => ⟨S2x768x160x32, .f32⟩
  | .hbm, ⟨21, _⟩ => ⟨S2x768x160x32, .f32⟩
  | .hbm, ⟨22, _⟩ => ⟨S2x768x1024, .f32⟩
  | .hbm, ⟨23, _⟩ => ⟨S2x768x32x32, .f32⟩
  | .hbm, ⟨24, _⟩ => ⟨S_, .f32⟩
  | .hbm, ⟨25, _⟩ => ⟨S2x768x32, .f32⟩
  | .hbm, ⟨26, _⟩ => ⟨S2x768x32, .f32⟩
  | .hbm, ⟨27, _⟩ => ⟨S2x768x32x1, .f32⟩
  | .hbm, ⟨28, _⟩ => ⟨S2x768x32x32, .f32⟩
  | .hbm, ⟨29, _⟩ => ⟨S2x768x32x32, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2x768x32x32, .f32⟩
  | .hbm, ⟨34, _⟩ => ⟨S2x768x32x32, .f32⟩
  | .hbm, ⟨35, _⟩ => ⟨S_, .f32⟩
  | .hbm, ⟨36, _⟩ => ⟨S2x768x32x32, .f32⟩
  | .hbm, ⟨37, _⟩ => ⟨S2x768x32x32, .f32⟩
  | .hbm, ⟨38, _⟩ => ⟨S2x768x1024, .f32⟩
  | .hbm, ⟨39, _⟩ => ⟨S2x768x8x128, .f32⟩
  | .hbm, ⟨40, _⟩ => ⟨S_, .f32⟩
  | .hbm, ⟨41, _⟩ => ⟨S2x8, .f32⟩
  | .hbm, ⟨42, _⟩ => ⟨S2x8, .f32⟩
  | .hbm, ⟨43, _⟩ => ⟨S2x1x8x1, .f32⟩
  | .hbm, ⟨44, _⟩ => ⟨S2x768x8x128, .f32⟩
  | .hbm, ⟨45, _⟩ => ⟨S2x768x8x128, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2x768x8x128, .f32⟩
  | .hbm, ⟨50, _⟩ => ⟨S2x768x8x128, .f32⟩
  | .hbm, ⟨51, _⟩ => ⟨S_, .f32⟩
  | .hbm, ⟨52, _⟩ => ⟨S2x768x8x128, .f32⟩
  | .hbm, ⟨53, _⟩ => ⟨S2x768x8x128, .f32⟩
  | .hbm, ⟨54, _⟩ => ⟨S2x768x5120, .f32⟩
  | .hbm, ⟨55, _⟩ => ⟨S2x768x1024, .f32⟩
  | .hbm, ⟨56, _⟩ => ⟨S2x768x1024, .f32⟩
  | .hbm, ⟨57, _⟩ => ⟨S2x768x5120, .fp8e4m3⟩
  | .hbm, ⟨58, _⟩ => ⟨S2x768x1024, .fp8e4m3⟩
  | .hbm, ⟨59, _⟩ => ⟨S2x768x1024, .fp8e4m3⟩
  | .hbm, ⟨60, _⟩ => ⟨S2x768x160x1, .f32⟩
  | .hbm, ⟨61, _⟩ => ⟨S2x768x160x32, .f32⟩
  | .hbm, ⟨62, _⟩ => ⟨S2x768x160x32, .f32⟩
  | .hbm, ⟨63, _⟩ => ⟨S2x768x8x5x128, .f32⟩
  | .hbm, ⟨64, _⟩ => ⟨S2x768x32x1, .f32⟩
  | .hbm, ⟨65, _⟩ => ⟨S2x768x32x32, .f32⟩
  | .hbm, ⟨66, _⟩ => ⟨S2x768x32x32, .f32⟩
  | .hbm, ⟨67, _⟩ => ⟨S2x768x8x128, .f32⟩
  | .hbm, ⟨68, _⟩ => ⟨S2x8x768x768x5, .f32⟩
  | .hbm, ⟨69, _⟩ => ⟨S2x8x5x768x768, .f32⟩
  | .hbm, ⟨70, _⟩ => ⟨S768, .i32⟩
  | .hbm, ⟨71, _⟩ => ⟨S1x768, .i32⟩
  | .hbm, ⟨72, _⟩ => ⟨S768x1, .i32⟩
  | .hbm, ⟨73, _⟩ => ⟨S768x768, .i32⟩
  | .hbm, ⟨74, _⟩ => ⟨S768x768, .i32⟩
  | .hbm, ⟨75, _⟩ => ⟨S768x768, .i1⟩
  | .hbm, ⟨76, _⟩ => ⟨S_, .f32⟩
  | .hbm, ⟨77, _⟩ => ⟨S_, .f32⟩
  | .hbm, ⟨78, _⟩ => ⟨S2x8x5x768x768, .f32⟩
  | .hbm, ⟨79, _⟩ => ⟨S2x8x5x768x768, .f32⟩
  | .hbm, ⟨80, _⟩ => ⟨S_, .f32⟩
  | .hbm, ⟨81, _⟩ => ⟨S_, .f32⟩
  | .hbm, ⟨82, _⟩ => ⟨S2x8x5x768x768, .i1⟩
  | .hbm, ⟨83, _⟩ => ⟨S2x8x5x768x768, .f32⟩
  | .hbm, ⟨84, _⟩ => ⟨S2x8x5x768x768, .f32⟩
  | .hbm, ⟨85, _⟩ => ⟨S_, .f32⟩
  | .hbm, ⟨86, _⟩ => ⟨S2x8x5x768, .f32⟩
  | .hbm, ⟨87, _⟩ => ⟨S2x8x5x768x1, .f32⟩
  | .hbm, ⟨88, _⟩ => ⟨S2x8x5x768x768, .f32⟩
  | .hbm, ⟨89, _⟩ => ⟨S2x8x5x768x768, .f32⟩
  | .hbm, ⟨90, _⟩ => ⟨S2x8x5x768x768, .f32⟩
  | .hbm, ⟨91, _⟩ => ⟨S_, .f32⟩
  | .hbm, ⟨92, _⟩ => ⟨S2x8x5x768, .f32⟩
  | .hbm, ⟨93, _⟩ => ⟨S_, .f32⟩
  | .hbm, ⟨94, _⟩ => ⟨S2x8x5x768x768, .f32⟩
  | .hbm, ⟨95, _⟩ => ⟨S2x8x5x768x768, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S2x8x5x768x768, .f32⟩
  | .hbm, ⟨100, _⟩ => ⟨S2x8x5x768x768, .f32⟩
  | .hbm, ⟨101, _⟩ => ⟨S_, .f32⟩
  | .hbm, ⟨102, _⟩ => ⟨S2x8x5x768x768, .f32⟩
  | .hbm, ⟨103, _⟩ => ⟨S2x8x5x768x768, .f32⟩
  | .hbm, ⟨104, _⟩ => ⟨S2x8x5x768x128, .f32⟩
  | .hbm, ⟨105, _⟩ => ⟨S2x8x1x1x1, .f32⟩
  | .hbm, ⟨106, _⟩ => ⟨S_, .f32⟩
  | .hbm, ⟨107, _⟩ => ⟨S2x8x1x1x1, .f32⟩
  | .hbm, ⟨108, _⟩ => ⟨S2x8x1x1x1, .f32⟩
  | .hbm, ⟨109, _⟩ => ⟨S2x8x5x768x1, .f32⟩
  | .hbm, ⟨110, _⟩ => ⟨S2x8x5x768x1, .f32⟩
  | .hbm, ⟨111, _⟩ => ⟨S2x8x5x768x1, .f32⟩
  | .hbm, ⟨112, _⟩ => ⟨S2x8x5x768x128, .f32⟩
  | .hbm, ⟨113, _⟩ => ⟨S2x8x5x768x128, .f32⟩
  | .hbm, ⟨114, _⟩ => ⟨S2x8x5x768x128, .bf16⟩
  | .hbm, ⟨115, _⟩ => ⟨S2x768x8x5x128, .bf16⟩
  | .hbm, ⟨116, _⟩ => ⟨S2x768x5120, .bf16⟩
  | .local _ .vmem, ⟨0, _⟩ => ⟨S2x768x5120, .f32⟩
  | .local _ .vmem, ⟨1, _⟩ => ⟨S2x768x1024, .f32⟩
  | .local _ .vmem, ⟨2, _⟩ => ⟨S2x768x1024, .f32⟩
  | .local _ .vmem, ⟨3, _⟩ => ⟨S2x768x5120, .fp8e4m3⟩
  | .local _ .vmem, ⟨4, _⟩ => ⟨S2x768x1024, .fp8e4m3⟩
  | .local _ .vmem, ⟨5, _⟩ => ⟨S2x768x1024, .fp8e4m3⟩
  | _, _ => ⟨S2x768x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_6 : Ref sig .tc := ⟨.hbm, 46, rfl⟩
abbrev main_cst_7 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27_0 : Ref sig .tc := ⟨.hbm, 57, rfl⟩
abbrev main_v27_1 : Ref sig .tc := ⟨.hbm, 58, rfl⟩
abbrev main_v27_2 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_8 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_9 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v47 : Ref sig .tc := ⟨.hbm, 84, rfl⟩
abbrev main_cst_10 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_11 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_v55 : Ref sig .tc := ⟨.hbm, 95, rfl⟩
abbrev main_cst_13 : Ref sig .tc := ⟨.hbm, 96, rfl⟩
abbrev main_cst_14 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_15 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x768x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Consts.lean ====
/-
  The float constants the two programs spell, as the extended reals their patterns denote at the ideal values.
-/
module

public import Idealize.ShloMosaic.PureOps.Ideal

@[expose] public section

noncomputable section

namespace Cert.Consts

open Idealize.ShloMosaic

/-- The mask value: minus infinity. -/
theorem ofBits_ninf : Ideal.ofBits .f32 0xFF800000#32 = ⊥ := by simp [Ideal.ofBits, Ideal.ieee]
/-- The shift of the exponent, `8 = log2 256`. -/
theorem ofBits_8 : Ideal.ofBits .f32 0x41000000#32 = ((8 : ℝ) : EReal) := by
  simp [Ideal.ofBits, Ideal.ieee, -EReal.coe_mul]; norm_num
/-- The upper clipping bound of the eight bit format. -/
theorem ofBits_448 : Ideal.ofBits .f32 0x43E00000#32 = ((448 : ℝ) : EReal) := by
  simp [Ideal.ofBits, Ideal.ieee, -EReal.coe_mul]; norm_num
/-- The lower clipping bound of the eight bit format. -/
theorem ofBits_neg448 : Ideal.ofBits .f32 0xC3E00000#32 = ((-448 : ℝ) : EReal) := by
  simp [Ideal.ofBits, Ideal.ieee, -EReal.coe_mul]; norm_num
/-- The head dimension. -/
theorem ofBits_128 : Ideal.ofBits .f32 0x43000000#32 = ((128 : ℝ) : EReal) := by
  simp [Ideal.ofBits, Ideal.ieee, -EReal.coe_mul]; norm_num
/-- The multiplier of the probabilities. -/
theorem ofBits_256 : Ideal.ofBits .f32 0x43800000#32 = ((256 : ℝ) : EReal) := by
  simp [Ideal.ofBits, Ideal.ieee, -EReal.coe_mul]; norm_num
/-- Its inverse. -/
theorem ofBits_inv256 : Ideal.ofBits .f32 0x3B800000#32 = (((1 : ℝ) / 256 : ℝ) : EReal) := by
  simp [Ideal.ofBits, Ideal.ieee, -EReal.coe_mul]; norm_num
/-- The zero of the eight bit format. -/
theorem ofBits_zero_fp8 : Ideal.ofBits .fp8e4m3 0x00#8 = 0 := by simp [Ideal.ofBits, Ideal.e4m3fn]
/-- The zero of the single format. -/
theorem ofBits_zero : Ideal.ofBits .f32 0x00000000#32 = 0 := by simp [Ideal.ofBits, Ideal.ieee]
/-- One. -/
theorem ofBits_1 : Ideal.ofBits .f32 0x3F800000#32 = 1 := by
  simp [Ideal.ofBits, Ideal.ieee, -EReal.coe_mul]; norm_num

end Cert.Consts

end
-- ==== Proof.Tile.lean ====
/-
  One tile of scores, read at an index, at the ideal values and at a number `n` of keys that stays a variable: the
  product of the key block with the query block, the diagonal mask, the maximum and the sum down a column (each taken
  in two steps over eight sublanes), the shifted exponential, the clip, and the product with the values.
-/
module

public import proofs.«01_k».proof.Proof.Consts
public import Idealize.ShloMosaic.Lib.MatmulPlain
public import Idealize.ShloMosaic.Lib.Pipeline.Value

@[expose] public section

noncomputable section

namespace Cert.Tile

open Idealize.ShloMosaic Idealize.ShloMosaic.ValueIdx
open scoped BigOperators

/-- A block with a leading unit axis, viewed without it. -/
theorem drop1 {α : Type} {a b : ℕ} (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 0 i j) := by
  apply shapeCast_apply
  rw [Shape.rowMajor_val_three, Shape.rowMajor_val_two]
  show ((0 : ℕ) * a + i.val) * b + j.val = i.val * b + j.val
  simp

/-- A matrix viewed with a leading unit axis. -/
theorem add1 {α : Type} {a b : ℕ} (x : (⟨2, ![a, b]⟩ : Shape).Idx → α)
    (h : (⟨2, ![a, b]⟩ : Shape).ShapeCasts ⟨3, ![1, a, b]⟩) (z : Fin 1) (i : Fin a) (j : Fin b) :
    shapeCast ⟨3, ![1, a, b]⟩ x h (ix3 z i j) = x (ix2 i j) := by
  apply shapeCast_apply
  rw [Shape.rowMajor_val_three, Shape.rowMajor_val_two]
  obtain rfl : z = 0 := Subsingleton.elim _ _
  show i.val * b + j.val = ((0 : ℕ) * a + i.val) * b + j.val
  simp

/-- A vector viewed as a one row matrix. -/
theorem row1 {α : Type} {b : ℕ} (x : (⟨1, ![b]⟩ : Shape).Idx → α)
    (h : (⟨1, ![b]⟩ : Shape).ShapeCasts ⟨2, ![1, b]⟩) (z : Fin 1) (j : Fin b) :
    shapeCast ⟨2, ![1, b]⟩ x h (ix2 z j) = x (ix1 j) := by
  apply shapeCast_apply
  rw [Shape.rowMajor_val_one, Shape.rowMajor_val_two]
  obtain rfl : z = 0 := Subsingleton.elim _ _
  show j.val = (0 : ℕ) * b + j.val
  simp

/-- `n = 8 m` rows viewed as `m` groups of eight. -/
theorem groups {α : Type} {n m b : ℕ} (x : (⟨2, ![n, b]⟩ : Shape).Idx → α)
    (h : (⟨2, ![n, b]⟩ : Shape).ShapeCasts ⟨3, ![m, 8, b]⟩) (g : Fin m) (r : Fin 8) (j : Fin b) (k : Fin n)
    (hk : k.val = g.val * 8 + r.val) :
    shapeCast ⟨3, ![m, 8, b]⟩ x h (ix3 g r j) = x (ix2 k j) := by
  apply shapeCast_apply
  rw [Shape.rowMajor_val_three, Shape.rowMajor_val_two]
  show k.val * b + j.val = (g.val * 8 + r.val) * b + j.val
  rw [hk]

/-- The index a reduction of the leading axis of three inserts. -/
theorem lift3 {m a b : ℕ} (h : (⟨3, ![m, a, b]⟩ : Shape).Reduces [0] ⟨2, ![a, b]⟩) (i : Fin a) (j : Fin b) (k : Fin m) :
    h.lift (ix2 i j) k = ix3 k i j := by
  funext c
  apply Fin.ext
  match c with
  | ⟨0, _⟩ => rfl
  | ⟨1, _⟩ => rfl
  | ⟨2, _⟩ => rfl

/-- The index a reduction of the leading axis of two inserts. -/
theorem lift2 {a b : ℕ} (h : (⟨2, ![a, b]⟩ : Shape).Reduces [0] ⟨1, ![b]⟩) (j : Fin b) (k : Fin a) :
    h.lift (ix1 j) k = ix2 k j := by
  funext c
  apply Fin.ext
  match c with
  | ⟨0, _⟩ => rfl
  | ⟨1, _⟩ => rfl

/-- Rows numbered in groups of eight. -/
def rows {n m : ℕ} (hn : n = m * 8) : Fin 8 × Fin m ≃ Fin n where
  toFun p := ⟨p.2.val * 8 + p.1.val, by have := p.1.isLt; have := p.2.isLt; omega⟩
  invFun k := (⟨k.val % 8, Nat.mod_lt _ (by norm_num)⟩, ⟨k.val / 8, by have := k.isLt; omega⟩)
  left_inv p := by ext <;> simp <;> omega
  right_inv k := by ext; simp; omega

/-- Folding `max` from minus infinity is the supremum. -/
theorem fold_max_bot {ι : Type} (s : Finset ι) (f : ι → EReal) :
    s.fold max (⊥ : EReal) f = s.sup f := rfl

/-- The maximum down a column, in two steps over eight sublanes, is the supremum over the column. -/
theorem colMax {n m : ℕ} (hn : n = m * 8) (x : FVec Ideal ⟨2, ![n, 128]⟩ .f32)
    (h1 : (⟨2, ![n, 128]⟩ : Shape).ShapeCasts ⟨3, ![m, 8, 128]⟩)
    (r1 : (⟨3, ![m, 8, 128]⟩ : Shape).Reduces [0] ⟨2, ![8, 128]⟩) (r2 : (⟨2, ![8, 128]⟩ : Shape).Reduces [0] ⟨1, ![128]⟩)
    (h2 : (⟨1, ![128]⟩ : Shape).ShapeCasts ⟨2, ![1, 128]⟩)
    (f1 f2 : FKind.Formats .f32) (e1 : (0xFF800000#32 : BitVec 32) = FKind.maximumf.neutral .f32 f1)
    (e2 : (0xFF800000#32 : BitVec 32) = FKind.maximumf.neutral .f32 f2) (z : Fin 1) (q : Fin 128) :
    shapeCast ⟨2, ![1, 128]⟩ (multiReduction .maximumf [0] ⟨1, ![128]⟩
      (multiReduction .maximumf [0] ⟨2, ![8, 128]⟩ (shapeCast ⟨3, ![m, 8, 128]⟩ x h1) 0xFF800000#32 r1 f1 e1)
      0xFF800000#32 r2 f2 e2) h2 (ix2 z q)
    = Finset.univ.sup fun k : Fin n => x (ix2 k q) := by
  rw [row1, Ideal.multiReduction_maximumf_single, Ideal.ofBits_def, Consts.ofBits_ninf, fold_max_bot]
  have inner : ∀ r : Fin 8, multiReduction .maximumf [0] ⟨2, ![8, 128]⟩ (shapeCast ⟨3, ![m, 8, 128]⟩ x h1) 0xFF800000#32 r1 f1 e1 (ix2 r q)
      = Finset.univ.sup fun g : Fin m => x (ix2 (rows hn (r, g)) q) := by
    intro r
    rw [Ideal.multiReduction_maximumf_single, Ideal.ofBits_def, Consts.ofBits_ninf, fold_max_bot]
    refine Finset.sup_congr rfl fun g _ => ?_
    exact (congrArg (shapeCast ⟨3, ![m, 8, 128]⟩ x h1) (lift3 r1 r q g)).trans (groups x h1 g r q _ rfl)
  have : (Finset.univ : Finset (Fin 8)).sup (fun r => Finset.univ.sup fun g : Fin m => x (ix2 (rows hn (r, g)) q))
      = Finset.univ.sup fun k : Fin n => x (ix2 k q) := by
    apply le_antisymm
    · exact Finset.sup_le fun r _ => Finset.sup_le fun g _ =>
        Finset.le_sup (f := fun k : Fin n => x (ix2 k q)) (Finset.mem_univ (rows hn (r, g)))
    · refine Finset.sup_le fun k _ => ?_
      obtain ⟨⟨r, g⟩, rfl⟩ := (rows hn).surjective k
      exact le_trans (Finset.le_sup (f := fun g : Fin m => x (ix2 (rows hn (r, g)) q)) (Finset.mem_univ g))
        (Finset.le_sup (f := fun r : Fin 8 => Finset.univ.sup fun g : Fin m => x (ix2 (rows hn (r, g)) q)) (Finset.mem_univ r))
  rw [← this]
  refine Finset.sup_congr rfl fun r _ => ?_
  exact (congrArg (multiReduction .maximumf [0] ⟨2, ![8, 128]⟩ (shapeCast ⟨3, ![m, 8, 128]⟩ x h1) 0xFF800000#32 r1 f1 e1)
    (lift2 r2 q r)).trans (inner r)

/-- The sum down a column, in two steps over eight sublanes, is the sum over the column. -/
theorem colSum {n m : ℕ} (hn : n = m * 8) (x : FVec Ideal ⟨2, ![n, 128]⟩ .f32)
    (h1 : (⟨2, ![n, 128]⟩ : Shape).ShapeCasts ⟨3, ![m, 8, 128]⟩)
    (r1 : (⟨3, ![m, 8, 128]⟩ : Shape).Reduces [0] ⟨2, ![8, 128]⟩) (r2 : (⟨2, ![8, 128]⟩ : Shape).Reduces [0] ⟨1, ![128]⟩)
    (h2 : (⟨1, ![128]⟩ : Shape).ShapeCasts ⟨2, ![1, 128]⟩)
    (f1 f2 : FKind.Formats .f32) (e1 : (0x00000000#32 : BitVec 32) = FKind.add.neutral .f32 f1)
    (e2 : (0x00000000#32 : BitVec 32) = FKind.add.neutral .f32 f2) (z : Fin 1) (q : Fin 128) :
    shapeCast ⟨2, ![1, 128]⟩ (multiReduction .add [0] ⟨1, ![128]⟩
      (multiReduction .add [0] ⟨2, ![8, 128]⟩ (shapeCast ⟨3, ![m, 8, 128]⟩ x h1) 0x00000000#32 r1 f1 e1)
      0x00000000#32 r2 f2 e2) h2 (ix2 z q)
    = ∑ k : Fin n, x (ix2 k q) := by
  rw [row1, Ideal.multiReduction_add_single]
  rw [← Equiv.sum_comp (rows hn), Fintype.sum_prod_type]
  refine Finset.sum_congr rfl fun r _ => ?_
  refine (congrArg (multiReduction .add [0] ⟨2, ![8, 128]⟩ (shapeCast ⟨3, ![m, 8, 128]⟩ x h1) 0x00000000#32 r1 f1 e1)
    (lift2 r2 q r)).trans ?_
  rw [Ideal.multiReduction_add_single]
  refine Finset.sum_congr rfl fun g _ => ?_
  exact (congrArg (shapeCast ⟨3, ![m, 8, 128]⟩ x h1) (lift3 r1 r q g)).trans (groups x h1 g r q _ rfl)

/-- A window of columns of the scores. -/
theorem cols {α : Type} {n N n' N' o p : ℕ} (x : (⟨2, ![n, N]⟩ : Shape).Idx → α)
    (h : (⟨2, ![n, N]⟩ : Shape).Slices ![o, p] ⟨2, ![n', N']⟩) (k : Fin n') (q : Fin N') (k' : Fin n) (q' : Fin N)
    (hk : k'.val = o + k.val) (hq : q'.val = p + q.val) :
    extractStridedSlice ⟨2, ![n', N']⟩ ![o, p] x h (ix2 k q) = x (ix2 k' q') := by
  apply extractStridedSlice_apply
  intro a
  match a with
  | ⟨0, _⟩ => exact hk
  | ⟨1, _⟩ => exact hq

/-- The comparison of a row number with a column number modulo a power of two, both below 128. -/
theorem mask_bit (i q d : ℕ) (hi : i < 128) (hq : q < 128) (hd : d = 64 ∨ d = 128) :
    IntOp.cmpi .sle (BitVec.ofNat 32 i) (IntOp.andi (BitVec.ofNat 32 q) (BitVec.ofNat 32 (d - 1)))
      = if i ≤ q % d then 1#1 else 0#1 := by
  have key : IntOp.andi (BitVec.ofNat 32 q) (BitVec.ofNat 32 (d - 1)) = BitVec.ofNat 32 (q % d) := by
    apply BitVec.eq_of_toNat_eq
    show (BitVec.ofNat 32 q &&& BitVec.ofNat 32 (d - 1)).toNat = _
    rw [BitVec.toNat_and]
    simp only [BitVec.toNat_ofNat]
    rcases hd with rfl | rfl
    · rw [Nat.mod_eq_of_lt (a := q) (by omega)]
      have := Nat.and_two_pow_sub_one_eq_mod q 6
      norm_num at this ⊢
      rw [this, Nat.mod_eq_of_lt (a := q % 64) (by omega)]
    · rw [Nat.mod_eq_of_lt (a := q) (by omega)]
      have := Nat.and_two_pow_sub_one_eq_mod q 7
      norm_num at this ⊢
      rw [this, Nat.mod_eq_of_lt (a := q % 128) (by omega)]
  rw [key]
  have hlt : q % d < 128 := by rcases hd with rfl | rfl <;> omega
  show BitVec.ofBool (BitVec.sle (BitVec.ofNat 32 i) (BitVec.ofNat 32 (q % d))) = _
  generalize q % d = w at hlt
  have e : BitVec.sle (BitVec.ofNat 32 i) (BitVec.ofNat 32 w) = decide (i ≤ w) := by
    rw [BitVec.sle_eq_decide]
    have t : ∀ k, k < 128 → (BitVec.ofNat 32 k).toInt = (k : ℤ) := by
      intro k hk
      have e : (BitVec.ofNat 32 k).toNat = k := by
        rw [BitVec.toNat_ofNat]; exact Nat.mod_eq_of_lt (by omega)
      rw [BitVec.toInt_eq_toNat_of_lt (by omega), e]
    rw [t i hi, t w hlt]
    simp
  rw [e]
  by_cases h : i ≤ w <;> simp [h]

/-- The key block times the transposed query block. -/
theorem scores {n K N : ℕ} (kv : FVec Ideal ⟨2, ![n, K]⟩ .bf16) (qv : FVec Ideal ⟨3, ![1, N, K]⟩ .bf16)
    (h : (⟨3, ![1, N, K]⟩ : Shape).ShapeCasts ⟨2, ![N, K]⟩) (k : Fin n) (q : Fin N) :
    matmul (DotDims.transposedRhs n K N) none kv (shapeCast ⟨2, ![N, K]⟩ qv h)
      (constant ⟨2, ![n, N]⟩ .f32 0x00000000#32) (ix2 k q)
    = ∑ t : Fin K, kv (ix2 k t) * qv (ix3 0 q t) := by
  refine (Ideal.matmul_transposedRhs_apply none _ _ _ k q).trans ?_
  show Ideal.ofBits .f32 0x00000000#32 + _ = _
  rw [Consts.ofBits_zero, zero_add]
  exact Finset.sum_congr rfl fun t _ => by rw [drop1]

/-- The mask: below the diagonal the score, above it minus infinity. -/
theorem masked {d : ℕ} (hd : d = 64 ∨ d = 128) (i0 i1 : IVec ⟨2, ![d, 128]⟩ 32) (x : FVec Ideal ⟨2, ![d, 128]⟩ .f32)
    (w : BitVec 32) (hw : w = BitVec.ofNat 32 (d - 1)) (k : Fin d) (q : Fin 128)
    (h0 : i0 (ix2 k q) = BitVec.ofNat 32 k.val) (h1 : i1 (ix2 k q) = BitVec.ofNat 32 q.val) :
    select (cmpi .sle i0 (andi i1 (broadcast ⟨2, ![d, 128]⟩ w))) x
      (broadcast ⟨2, ![d, 128]⟩ (Scalar.ofBits .f32 0xFF800000#32 : Ideal .f32)) (ix2 k q)
    = if k.val ≤ q.val % d then x (ix2 k q) else ⊥ := by
  show Scalar.select (IntOp.cmpi .sle (i0 (ix2 k q)) (IntOp.andi (i1 (ix2 k q)) w)) (x (ix2 k q)) (Ideal.ofBits .f32 0xFF800000#32) = _
  rw [h0, h1, hw, mask_bit _ _ _ (by have := k.isLt; omega) q.isLt hd, Consts.ofBits_ninf]
  by_cases h : k.val ≤ q.val % d
  · rw [if_pos h, if_pos h]; rfl
  · rw [if_neg h, if_neg h]; rfl

/-- Two blocks of rows, one above the other. -/
theorem stack {α : Type} {n a b N : ℕ} (x₁ : (⟨2, ![a, N]⟩ : Shape).Idx → α) (x₂ : (⟨2, ![b, N]⟩ : Shape).Idx → α)
    (h : Shape.Concatenates [⟨2, ![a, N]⟩, ⟨2, ![b, N]⟩] ⟨2, ![n, N]⟩ 0) (k : Fin n) (q : Fin N) (hn : n = a + b) :
    concatenate ⟨2, ![n, N]⟩ 0 [⟨⟨2, ![a, N]⟩, x₁⟩, ⟨⟨2, ![b, N]⟩, x₂⟩] h (ix2 k q)
    = if hk : k.val < a then x₁ (ix2 ⟨k.val, hk⟩ q) else x₂ (ix2 ⟨k.val - a, by have := k.isLt; omega⟩ q) := by
  by_cases hk : k.val < a
  · rw [dif_pos hk]
    refine concatenate_pair_apply_left 0 x₁ x₂ h _ rfl _ fun c => ?_
    match c with
    | ⟨0, _⟩ => rfl
    | ⟨1, _⟩ => rfl
  · rw [dif_neg hk]
    refine concatenate_pair_apply_right 0 x₁ x₂ h _ rfl rfl _ (fun c hc => ?_) ?_
    · match c with
      | ⟨0, _⟩ => exact absurd rfl hc
      | ⟨1, _⟩ => rfl
    · show k.val - a + a = k.val
      omega

/-- A one row matrix repeated down the rows. -/
theorem down {α : Type} {n N : ℕ} (hN : N ≠ 1) (x : (⟨2, ![1, N]⟩ : Shape).Idx → α)
    (h : (⟨2, ![1, N]⟩ : Shape).Broadcasts ⟨2, ![n, N]⟩) (k : Fin n) (q : Fin N) :
    broadcastTo ⟨2, ![n, N]⟩ x h (ix2 k q) = x (ix2 0 q) := by
  apply broadcastTo_apply
  intro a
  match a with
  | ⟨0, _⟩ => rfl
  | ⟨1, _⟩ => exact (if_neg hN).symm

/-- A single entry repeated along a row. -/
theorem along {α : Type} {N : ℕ} (x : (⟨2, ![1, 1]⟩ : Shape).Idx → α)
    (h : (⟨2, ![1, 1]⟩ : Shape).Broadcasts ⟨2, ![1, N]⟩) (z : Fin 1) (q : Fin N) :
    broadcastTo ⟨2, ![1, N]⟩ x h (ix2 z q) = x (ix2 0 0) := by
  apply broadcastTo_apply
  intro a
  match a with
  | ⟨0, _⟩ => rfl
  | ⟨1, _⟩ => rfl

/-- The shifted exponential of a tile: the scores scaled by `c`, less the scaled column maximum lowered by eight. -/
theorem expTile {n : ℕ} (c : Ideal .f32) (s : FVec Ideal ⟨2, ![n, 128]⟩ .f32) (mx : FVec Ideal ⟨2, ![1, 128]⟩ .f32)
    (h : (⟨2, ![1, 128]⟩ : Shape).Broadcasts ⟨2, ![n, 128]⟩) (k : Fin n) (q : Fin 128) :
    exp2 (subf (mulf s (broadcast ⟨2, ![n, 128]⟩ c))
      (broadcastTo ⟨2, ![n, 128]⟩ (subf (mulf mx (broadcast ⟨2, ![1, 128]⟩ c))
        (broadcast ⟨2, ![1, 128]⟩ (Scalar.ofBits .f32 0x41000000#32 : Ideal .f32))) h)) (ix2 k q)
    = Ideal.exp2 (s (ix2 k q) * c - (mx (ix2 0 q) * c - ((8 : ℝ) : EReal))) := by
  show Ideal.exp2 (s (ix2 k q) * c - broadcastTo ⟨2, ![n, 128]⟩ _ h (ix2 k q)) = _
  rw [down (by norm_num)]
  show Ideal.exp2 (s (ix2 k q) * c - (mx (ix2 0 q) * c - Ideal.ofBits .f32 0x41000000#32)) = _
  rw [Consts.ofBits_8]

/-- The clip to the range of the eight bit format. -/
def clip (x : EReal) : EReal := min ((448 : ℝ) : EReal) (max ((-448 : ℝ) : EReal) x)

/-- The clipped tile. -/
theorem clipTile {n N : ℕ} (p : FVec Ideal ⟨2, ![n, N]⟩ .f32) (hb : FTy.bits .fp8e4m3 < FTy.bits .f32) (k : Fin n) (q : Fin N) :
    truncf .fp8e4m3 (minimumf (broadcast ⟨2, ![n, N]⟩ (Scalar.ofBits .f32 0x43E00000#32 : Ideal .f32))
      (maximumf (broadcast ⟨2, ![n, N]⟩ (Scalar.ofBits .f32 0xC3E00000#32 : Ideal .f32)) p)) hb (ix2 k q)
    = clip (p (ix2 k q)) := by
  show min (Ideal.ofBits .f32 0x43E00000#32) (max (Ideal.ofBits .f32 0xC3E00000#32) (p (ix2 k q))) = _
  rw [Consts.ofBits_448, Consts.ofBits_neg448]; rfl

/-- The values times the tile, over the row sums. -/
theorem outTile {n : ℕ} (vt : FVec Ideal ⟨2, ![128, n]⟩ .fp8e4m3) (p : FVec Ideal ⟨2, ![n, 256]⟩ .fp8e4m3)
    (v3 : FVec Ideal ⟨2, ![1, 128]⟩ .f32) (l : FVec Ideal ⟨3, ![1, 1, 256]⟩ .f32)
    (h1 : (⟨3, ![1, 1, 256]⟩ : Shape).ShapeCasts ⟨2, ![1, 256]⟩)
    (h2 : (⟨2, ![1, 128]⟩ : Shape).Slices ![0, 0] ⟨2, ![1, 1]⟩)
    (h3 : (⟨2, ![1, 1]⟩ : Shape).Broadcasts ⟨2, ![1, 256]⟩) (h4 : (⟨2, ![1, 256]⟩ : Shape).Broadcasts ⟨2, ![128, 256]⟩)
    (hb : FTy.bits .bf16 < FTy.bits .f32) (d : Fin 128) (q : Fin 256) :
    truncf .bf16 (mulf (matmul (DotDims.plain 128 n 256) none vt p (constant ⟨2, ![128, 256]⟩ .f32 0x00000000#32))
      (broadcastTo ⟨2, ![128, 256]⟩ (divf (broadcastTo ⟨2, ![1, 256]⟩ (extractStridedSlice ⟨2, ![1, 1]⟩ ![0, 0] v3 h2) h3)
        (shapeCast ⟨2, ![1, 256]⟩ l h1)) h4)) hb (ix2 d q)
    = (∑ k : Fin n, vt (ix2 d k) * p (ix2 k q)) * Ideal.div (v3 (ix2 0 0)) (l (ix3 0 0 q)) := by
  show matmul (DotDims.plain 128 n 256) none vt p _ (ix2 d q) * broadcastTo ⟨2, ![128, 256]⟩ _ h4 (ix2 d q) = _
  rw [down (by norm_num)]
  refine congrArg₂ (· * ·) ?_ ?_
  · refine (Ideal.matmul_plain_apply none _ _ _ d q).trans ?_
    show Ideal.ofBits .f32 0x00000000#32 + _ = _
    rw [Consts.ofBits_zero, zero_add]
  · show Ideal.div (broadcastTo ⟨2, ![1, 256]⟩ _ h3 (ix2 0 q)) (shapeCast ⟨2, ![1, 256]⟩ l h1 (ix2 0 q)) = _
    rw [along, drop1]
    exact congrArg (Ideal.div · _) (cols (o := 0) (p := 0) v3 h2 0 0 0 0 rfl rfl)

/-- A transposed block. -/
theorem flip {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  apply transpose_apply
  intro c
  match c with
  | ⟨0, _⟩ => rfl
  | ⟨1, _⟩ => rfl

end Cert.Tile

end
-- ==== Proof.Scalar.lean ====
/-
  One row of attention over the extended reals, in the two forms the programs compute it: the kernel's powers of two
  lowered by the scaled maximum less eight, and the textbook's exponentials of the scores over the root of the head
  dimension. The kernel's weights are 256 times the textbook's, at every extended real, so the two outputs agree.
-/
module

public import proofs.«01_k».proof.Proof.Tile

@[expose] public section

noncomputable section

namespace Cert.Row

open Idealize.ShloMosaic
open scoped BigOperators

/-- The folded constant of the exponent: the inverse root of the head dimension over the logarithm of two. -/
def c : ℝ := (Real.sqrt 128)⁻¹ * (Real.log 2)⁻¹

/-- The root of the head dimension is positive. -/
theorem root_pos : 0 < Real.sqrt 128 := Real.sqrt_pos.mpr (by norm_num)
/-- The logarithm of two is positive. -/
theorem log_pos : 0 < Real.log 2 := Real.log_pos (by norm_num)
/-- The folded constant is positive. -/
theorem c_pos : 0 < c := mul_pos (inv_pos.mpr root_pos) (inv_pos.mpr log_pos)

/-- A score divided by the root. -/
def sc (a : EReal) : EReal := Ideal.div a ((Real.sqrt 128 : ℝ) : EReal)

/-- Dividing by the root is multiplying by its inverse. -/
theorem sc_eq (a : EReal) : sc a = a * (((Real.sqrt 128)⁻¹ : ℝ) : EReal) := by
  unfold sc; rw [Ideal.div_coe root_pos.ne', one_div]

/-- Dividing minus infinity leaves minus infinity. -/
theorem sc_bot : sc ⊥ = ⊥ := by rw [sc_eq]; exact EReal.bot_mul_coe_of_pos (inv_pos.mpr root_pos)
/-- Dividing infinity leaves infinity. -/
theorem sc_top : sc ⊤ = ⊤ := by rw [sc_eq]; exact EReal.top_mul_coe_of_pos (inv_pos.mpr root_pos)
/-- Dividing a real. -/
theorem sc_coe (x : ℝ) : sc (x : EReal) = ((x * (Real.sqrt 128)⁻¹ : ℝ) : EReal) := by rw [sc_eq, EReal.coe_mul]
/-- Dividing keeps the order. -/
theorem sc_mono : Monotone sc := by
  intro x y h
  rw [sc_eq, sc_eq]
  exact mul_le_mul_of_nonneg_right h (EReal.coe_nonneg.mpr (inv_nonneg.mpr root_pos.le))

/-- Dividing commutes with the supremum of a row. -/
theorem sc_sup {ι : Type} (s : Finset ι) (f : ι → EReal) : s.sup (fun j => sc (f j)) = sc (s.sup f) :=
  (Finset.comp_sup_eq_sup_comp sc (fun x y => sc_mono.map_sup x y) sc_bot).symm

/-- The kernel's weight of a score `a` in a row of maximum `M`. -/
def wk (a M : EReal) : EReal := Ideal.exp2 (a * (c : EReal) - (M * (c : EReal) - ((8 : ℝ) : EReal)))

/-- The textbook's weight. -/
def wr (a M : EReal) : EReal := Ideal.exp (sc a - sc M)

/-- The textbook's weight of a score not above the maximum is a real number that is not negative. -/
theorem wr_real (a M : EReal) (h : a ≤ M) : ∃ r : ℝ, 0 ≤ r ∧ wr a M = (r : EReal) ∧ wk a M = ((256 * r : ℝ) : EReal) := by
  have zero : ∀ b : EReal, b = ⊥ → Ideal.exp b = ((0 : ℝ) : EReal) ∧ Ideal.exp2 b = ((256 * 0 : ℝ) : EReal) := by
    rintro b rfl; constructor
    · rfl
    · rw [mul_zero]; rfl
  unfold wr wk
  rcases eq_or_ne a ⊥ with rfl | ha
  · refine ⟨0, le_rfl, (zero _ ?_).1, (zero _ ?_).2⟩
    · rw [sc_bot, sub_eq_add_neg, EReal.bot_add]
    · rw [EReal.bot_mul_coe_of_pos c_pos, sub_eq_add_neg, EReal.bot_add]
  rcases eq_or_ne M ⊤ with rfl | hM
  · refine ⟨0, le_rfl, (zero _ ?_).1, (zero _ ?_).2⟩
    · rw [sc_top, sub_eq_add_neg, EReal.neg_top, EReal.add_bot]
    · rw [EReal.top_mul_coe_of_pos c_pos, EReal.top_sub_coe, sub_eq_add_neg, EReal.neg_top, EReal.add_bot]
  have ha' : a ≠ ⊤ := fun e => hM (top_le_iff.mp (e ▸ h))
  have hM' : M ≠ ⊥ := fun e => ha (le_bot_iff.mp (e ▸ h))
  lift a to ℝ using ⟨ha', ha⟩
  lift M to ℝ using ⟨hM, hM'⟩
  refine ⟨Real.exp (a * (Real.sqrt 128)⁻¹ - M * (Real.sqrt 128)⁻¹), (Real.exp_pos _).le, ?_, ?_⟩
  · rw [sc_coe, sc_coe, ← EReal.coe_sub]; rfl
  · rw [← EReal.coe_mul, ← EReal.coe_mul, ← EReal.coe_sub, ← EReal.coe_sub]
    show (((2 : ℝ) ^ (a * c - (M * c - 8)) : ℝ) : EReal) = _
    congr 1
    rw [Real.rpow_def_of_pos (by norm_num)]
    have : (256 : ℝ) = Real.exp (Real.log 2 * 8) := by
      rw [← Real.rpow_def_of_pos (by norm_num)]; norm_num
    rw [this, ← Real.exp_add]
    congr 1
    unfold c
    field_simp [log_pos.ne']
    ring

/-- **One output of the kernel's row and of the textbook's row agree.** `a` are the scores of the row with minus
    infinity where a key is masked; `v` the quantised values; `vs` the scale of the values. -/
theorem row_eq {ι : Type} [Fintype ι] (a v : ι → EReal) (vs : EReal) :
    (∑ j, v j * Tile.clip (wk (a j) (Finset.univ.sup a))) * Ideal.div vs (∑ j, wk (a j) (Finset.univ.sup a))
    = (∑ j, Tile.clip (Ideal.exp (sc (a j) - Finset.univ.sup fun j => sc (a j)) * ((256 : ℝ) : EReal)) * v j)
      * Ideal.div (vs * ((1 / 256 : ℝ) : EReal)) (∑ j, Ideal.exp (sc (a j) - Finset.univ.sup fun j => sc (a j))) := by
  rw [sc_sup]
  have hle : ∀ j, a j ≤ Finset.univ.sup a := fun j => Finset.le_sup (Finset.mem_univ j)
  choose r hr0 hr hk using fun j => wr_real (a j) _ (hle j)
  have hr' : ∀ j, Ideal.exp (sc (a j) - sc (Finset.univ.sup a)) = (r j : EReal) := hr
  have e1 : ∑ j, wk (a j) (Finset.univ.sup a) = ((256 * ∑ j, r j : ℝ) : EReal) := by
    rw [Finset.mul_sum, Finset.sum_congr rfl fun j _ => hk j]
    exact (map_sum (⟨⟨fun x : ℝ => (x : EReal), EReal.coe_zero⟩, EReal.coe_add⟩ : ℝ →+ EReal) _ _).symm
  have e2 : ∑ j, Ideal.exp (sc (a j) - sc (Finset.univ.sup a)) = ((∑ j, r j : ℝ) : EReal) := by
    rw [Finset.sum_congr rfl fun j _ => hr' j]
    exact (map_sum (⟨⟨fun x : ℝ => (x : EReal), EReal.coe_zero⟩, EReal.coe_add⟩ : ℝ →+ EReal) _ _).symm
  rw [e1, e2]
  refine congrArg₂ (· * ·) ?_ ?_
  · refine Finset.sum_congr rfl fun j _ => ?_
    rw [hk, hr', ← EReal.coe_mul, mul_comm (v j), mul_comm (256 : ℝ)]
  · rcases eq_or_ne (∑ j, r j) 0 with h0 | h0
    · rw [h0, mul_zero, EReal.coe_zero]
      have : (0 < vs * ((1 / 256 : ℝ) : EReal)) ↔ 0 < vs := by
        induction vs with
        | bot => rw [EReal.bot_mul_coe_of_pos (by norm_num)]
        | top => rw [EReal.top_mul_coe_of_pos (by norm_num)]
        | coe x =>
          rw [← EReal.coe_mul, EReal.coe_pos, EReal.coe_pos]
          constructor <;> intro h <;> linarith
      unfold Ideal.div
      rw [if_pos rfl, if_pos rfl]
      by_cases h : 0 < vs
      · rw [if_pos h, if_pos (this.mpr h)]
      · rw [if_neg h, if_neg (fun h' => h (this.mp h'))]
    · rw [Ideal.div_coe (mul_ne_zero (by norm_num) h0), Ideal.div_coe h0, mul_assoc, ← EReal.coe_mul]
      congr 2
      field_simp

end Cert.Row

end
-- ==== Proof.Unit.lean ====
/-
  One unit of the kernel at the ideal values: 256 query rows against their `n` visible keys, in two tiles of 128
  columns. The scalar specification of one attention row (`Spec`), and the operations of a unit read as it, at a number
  of keys that stays a variable.
-/
module

public import proofs.«01_k».proof.Proof.Scalar
public import proofs.«01_k».proof.Proof.Gen.KernelIdeal
public import Idealize.ShloMosaic.Lib.Pipeline.ReadBack
public import Idealize.ShloMosaic.Lib.Pipeline.FrameBody

@[expose] public section

noncomputable section

namespace Cert.Attn

open Idealize.ShloMosaic Idealize.ShloMosaic.ValueIdx
open scoped BigOperators

/-! ## The specification of one grid point -/

section Spec

variable (x0 : Vec Ideal ⟨3, ![1, 768, 640]⟩ .bf16) (x1 x2 : Vec Ideal ⟨3, ![1, 768, 128]⟩ .bf16) (x3 : Vec Ideal ⟨3, ![1, 1, 128]⟩ .f32)

/-- The score of query row `i` of head `h` with key `j`. -/
def A (h i j : ℕ) : EReal :=
  ∑ t : Fin 128, x1 (ix3 0 (Fin.ofNat 768 j) t) * x0 (ix3 0 (Fin.ofNat 768 i) (Fin.ofNat 640 (128 * h + t.val)))

/-- The score, minus infinity where the key comes after the query. -/
def S (h i j : ℕ) : EReal := if j ≤ i then A x0 x1 h i j else ⊥

/-- The maximum of a row. -/
def M (h i : ℕ) : EReal := Finset.univ.sup fun j : Fin 768 => S x0 x1 h i j.val

/-- The weight of a key in a row. -/
def W (h i j : ℕ) : EReal := Row.wk (S x0 x1 h i j) (M x0 x1 h i)

/-- The sum of a row's weights. -/
def L (h i : ℕ) : EReal := ∑ j : Fin 768, W x0 x1 h i j.val

/-- The quantised values. -/
def V (d : Fin 128) (j : ℕ) : EReal :=
  Tile.clip (x2 (ix3 0 (Fin.ofNat 768 j) d) * Ideal.div 1 (x3 (ix3 0 0 d)))

/-- One output. -/
def O (h i : ℕ) (d : Fin 128) : EReal :=
  (∑ j : Fin 768, V x2 x3 d j.val * Tile.clip (W x0 x1 h i j.val)) * Ideal.div (x3 (ix3 0 0 0)) (L x0 x1 h i)

/-- The head of column `q` of unit `u`: twelve units of four heads' half blocks, then three of the fifth head. -/
def hd (u q : ℕ) : ℕ := if u < 12 then q / 64 else 4

/-- The query row of column `q` of unit `u`. -/
def rw' (u q : ℕ) : ℕ := if u < 12 then 64 * u + q % 64 else 256 * (u - 12) + q

/-- A masked key has weight zero. -/
theorem W_masked (h i j : ℕ) (hj : i < j) : W x0 x1 h i j = 0 := by
  unfold W S Row.wk
  rw [if_neg (by omega), EReal.bot_mul_coe_of_pos Row.c_pos, sub_eq_add_neg, EReal.bot_add]
  rfl

/-- Zero lies in the range of the eight bit format. -/
theorem clip_zero : Tile.clip 0 = 0 := by
  unfold Tile.clip
  rw [max_eq_right (by rw [← EReal.coe_zero, EReal.coe_le_coe_iff]; norm_num),
    min_eq_right (by rw [← EReal.coe_zero, EReal.coe_le_coe_iff]; norm_num)]

/-- The first `n` keys of a row hold its maximum when the row ends before `n`. -/
theorem sup_first {n : ℕ} (hn : n ≤ 768) (h i : ℕ) (hi : i < n) :
    (Finset.univ.sup fun k : Fin n => S x0 x1 h i k.val) = M x0 x1 h i := by
  apply le_antisymm
  · exact Finset.sup_le fun k _ =>
      Finset.le_sup (f := fun j : Fin 768 => S x0 x1 h i j.val) (Finset.mem_univ ⟨k.val, by omega⟩)
  · refine Finset.sup_le fun j _ => ?_
    by_cases hj : j.val < n
    · exact Finset.le_sup (f := fun k : Fin n => S x0 x1 h i k.val) (Finset.mem_univ ⟨j.val, hj⟩)
    · show S x0 x1 h i j.val ≤ _
      unfold S
      rw [if_neg (by omega)]; exact bot_le

/-- A sum over the first `n` keys is the sum over all of them when the others give zero. -/
theorem sum_first {n : ℕ} (hn : n ≤ 768) (f : ℕ → EReal) (hf : ∀ j, n ≤ j → f j = 0) :
    ∑ k : Fin n, f k.val = ∑ j : Fin 768, f j.val := by
  rw [Fin.sum_univ_eq_sum_range, Fin.sum_univ_eq_sum_range]
  refine Finset.sum_subset (Finset.range_mono hn) fun j _ h => hf j ?_
  rw [Finset.mem_range] at h; omega

end Spec

/-! ## A tile -/

section Tiles

variable (x0 : Vec Ideal ⟨3, ![1, 768, 640]⟩ .bf16) (x1 x2 : Vec Ideal ⟨3, ![1, 768, 128]⟩ .bf16) (x3 : Vec Ideal ⟨3, ![1, 1, 128]⟩ .f32)

/-- The kernel's folded constant. -/
abbrev cK : Ideal .f32 := Named.named (F := Ideal) Cert.KernelIdeal.κ "c" (φ := .f32) 0x3E0293EE#32

/-- It names the inverse root of 128 over the logarithm of two. -/
theorem cK_eq : cK = (Row.c : EReal) := IdealRules.named_const.ideal_named_scalar _ _ _ _ rfl

/-- A row number of the diagonal block. -/
theorem iota0 {d : ℕ} (h : (⟨2, ![d, 128]⟩ : Shape).Iotas .tc 32 [0]) (k : Fin d) (q : Fin 128) :
    iota .tc ⟨2, ![d, 128]⟩ 32 [0] h (ix2 k q) = BitVec.ofNat 32 k.val := iota_single_apply _ _ _ _ _ _

/-- A column number of the diagonal block. -/
theorem iota1 {d : ℕ} (h : (⟨2, ![d, 128]⟩ : Shape).Iotas .tc 32 [1]) (k : Fin d) (q : Fin 128) :
    iota .tc ⟨2, ![d, 128]⟩ 32 [1] h (ix2 k q) = BitVec.ofNat 32 q.val := iota_single_apply _ _ _ _ _ _

/-- The same in the first 64 rows. -/
theorem iota0_half (h : (⟨2, ![128, 128]⟩ : Shape).Iotas .tc 32 [0])
    (hs : (⟨2, ![128, 128]⟩ : Shape).Slices ![0, 0] ⟨2, ![64, 128]⟩) (k : Fin 64) (q : Fin 128) :
    extractStridedSlice ⟨2, ![64, 128]⟩ ![0, 0] (iota .tc ⟨2, ![128, 128]⟩ 32 [0] h) hs (ix2 k q) = BitVec.ofNat 32 k.val :=
  (Tile.cols _ hs k q ⟨k.val, by omega⟩ q (by simp) (by simp)).trans (iota0 h _ _)

/-- The same in the first 64 rows. -/
theorem iota1_half (h : (⟨2, ![128, 128]⟩ : Shape).Iotas .tc 32 [1])
    (hs : (⟨2, ![128, 128]⟩ : Shape).Slices ![0, 0] ⟨2, ![64, 128]⟩) (k : Fin 64) (q : Fin 128) :
    extractStridedSlice ⟨2, ![64, 128]⟩ ![0, 0] (iota .tc ⟨2, ![128, 128]⟩ 32 [1] h) hs (ix2 k q) = BitVec.ofNat 32 q.val :=
  (Tile.cols _ hs k q ⟨k.val, by omega⟩ q (by simp) (by simp)).trans (iota1 h _ _)

/-- The scores of a unit: key block times query block. -/
theorem acc {n : ℕ} (u : ℕ) (kv : FVec Ideal ⟨2, ![n, 128]⟩ .bf16) (qv : FVec Ideal ⟨3, ![1, 256, 128]⟩ .bf16)
    (h : (⟨3, ![1, 256, 128]⟩ : Shape).ShapeCasts ⟨2, ![256, 128]⟩)
    (hk : ∀ (k : Fin n) (t : Fin 128), kv (ix2 k t) = x1 (ix3 0 (Fin.ofNat 768 k.val) t))
    (hq : ∀ (q : Fin 256) (t : Fin 128), qv (ix3 0 q t)
      = x0 (ix3 0 (Fin.ofNat 768 (rw' u q.val)) (Fin.ofNat 640 (128 * hd u q.val + t.val)))) (k : Fin n) (q : Fin 256) :
    matmul (DotDims.transposedRhs n 128 256) none kv (shapeCast ⟨2, ![256, 128]⟩ qv h)
      (constant ⟨2, ![n, 256]⟩ .f32 0x00000000#32) (ix2 k q) = A x0 x1 (hd u q.val) (rw' u q.val) k.val := by
  rw [Tile.scores]
  exact Finset.sum_congr rfl fun t _ => by rw [hk, hq]

/-- A tile whose keys are all in the diagonal block, which is masked. -/
theorem tilePlain {d N o : ℕ} (u : ℕ) (hd' : d = 64 ∨ d = 128) (hN : d ≤ N) (ho : o + 128 ≤ 256)
    (a : FVec Ideal ⟨2, ![N, 256]⟩ .f32)
    (ha : ∀ (k : Fin N) (q : Fin 256), a (ix2 k q) = A x0 x1 (hd u q.val) (rw' u q.val) k.val)
    (hr : ∀ q, q < 128 → rw' u (o + q) = q % d)
    (h1 : (⟨2, ![N, 256]⟩ : Shape).Slices ![0, o] ⟨2, ![d, 128]⟩)
    (i0 i1 : IVec ⟨2, ![d, 128]⟩ 32) (w : BitVec 32) (hw : w = BitVec.ofNat 32 (d - 1))
    (h0 : ∀ (k : Fin d) (q : Fin 128), i0 (ix2 k q) = BitVec.ofNat 32 k.val)
    (h2 : ∀ (k : Fin d) (q : Fin 128), i1 (ix2 k q) = BitVec.ofNat 32 q.val) (k : Fin d) (q : Fin 128) :
    select (cmpi .sle i0 (andi i1 (broadcast ⟨2, ![d, 128]⟩ w))) (extractStridedSlice ⟨2, ![d, 128]⟩ ![0, o] a h1)
      (broadcast ⟨2, ![d, 128]⟩ (Scalar.ofBits .f32 0xFF800000#32 : Ideal .f32)) (ix2 k q)
    = S x0 x1 (hd u (o + q.val)) (rw' u (o + q.val)) k.val := by
  rw [Tile.masked hd' i0 i1 _ w hw k q (h0 k q) (h2 k q)]
  unfold S
  rw [hr q.val q.isLt]
  refine if_congr Iff.rfl ?_ rfl
  rw [Tile.cols a h1 k q ⟨k.val, by omega⟩ ⟨o + q.val, by omega⟩ (by simp) rfl, ha, ← hr q.val q.isLt]

/-- A tile: the keys before the diagonal block unmasked, the diagonal block masked. -/
theorem tileCat {n N e d o : ℕ} (u : ℕ) (hd' : d = 64 ∨ d = 128) (hn : n = e + d) (hN : n ≤ N) (ho : o + 128 ≤ 256)
    (a : FVec Ideal ⟨2, ![N, 256]⟩ .f32)
    (ha : ∀ (k : Fin N) (q : Fin 256), a (ix2 k q) = A x0 x1 (hd u q.val) (rw' u q.val) k.val)
    (hr : ∀ q, q < 128 → rw' u (o + q) = e + q % d)
    (h1 : (⟨2, ![N, 256]⟩ : Shape).Slices ![0, o] ⟨2, ![n, 128]⟩)
    (h3 : (⟨2, ![n, 128]⟩ : Shape).Slices ![0, 0] ⟨2, ![e, 128]⟩)
    (h4 : (⟨2, ![n, 128]⟩ : Shape).Slices ![e, 0] ⟨2, ![d, 128]⟩)
    (h5 : Shape.Concatenates [⟨2, ![e, 128]⟩, ⟨2, ![d, 128]⟩] ⟨2, ![n, 128]⟩ 0)
    (i0 i1 : IVec ⟨2, ![d, 128]⟩ 32) (w : BitVec 32) (hw : w = BitVec.ofNat 32 (d - 1))
    (h0 : ∀ (k : Fin d) (q : Fin 128), i0 (ix2 k q) = BitVec.ofNat 32 k.val)
    (h2 : ∀ (k : Fin d) (q : Fin 128), i1 (ix2 k q) = BitVec.ofNat 32 q.val) (k : Fin n) (q : Fin 128) :
    concatenate ⟨2, ![n, 128]⟩ 0
      [⟨⟨2, ![e, 128]⟩, extractStridedSlice ⟨2, ![e, 128]⟩ ![0, 0] (extractStridedSlice ⟨2, ![n, 128]⟩ ![0, o] a h1) h3⟩,
       ⟨⟨2, ![d, 128]⟩, select (cmpi .sle i0 (andi i1 (broadcast ⟨2, ![d, 128]⟩ w)))
          (extractStridedSlice ⟨2, ![d, 128]⟩ ![e, 0] (extractStridedSlice ⟨2, ![n, 128]⟩ ![0, o] a h1) h4)
          (broadcast ⟨2, ![d, 128]⟩ (Scalar.ofBits .f32 0xFF800000#32 : Ideal .f32))⟩] h5 (ix2 k q)
    = S x0 x1 (hd u (o + q.val)) (rw' u (o + q.val)) k.val := by
  rw [Tile.stack _ _ h5 k q hn]
  unfold S
  rw [hr q.val q.isLt]
  by_cases hk : k.val < e
  · rw [dif_pos hk, if_pos (by omega),
      Tile.cols _ h3 ⟨k.val, hk⟩ q k q (by simp) (by simp),
      Tile.cols a h1 k q ⟨k.val, by omega⟩ ⟨o + q.val, by omega⟩ (by simp) rfl, ha, ← hr q.val q.isLt]
  · rw [dif_neg hk, Tile.masked hd' i0 i1 _ w hw _ q (h0 _ q) (h2 _ q)]
    refine if_congr (by simp only; omega) ?_ rfl
    rw [Tile.cols _ h4 _ q k q (by simp only; omega) (by simp),
      Tile.cols a h1 k q ⟨k.val, by omega⟩ ⟨o + q.val, by omega⟩ (by simp) rfl, ha, ← hr q.val q.isLt]

/-- The maximum down the columns of a tile. -/
abbrev CMax {n m : ℕ} (a : FVec Ideal ⟨2, ![n, 128]⟩ .f32)
    (h1 : (⟨2, ![n, 128]⟩ : Shape).ShapeCasts ⟨3, ![m, 8, 128]⟩)
    (r1 : (⟨3, ![m, 8, 128]⟩ : Shape).Reduces [0] ⟨2, ![8, 128]⟩) (r2 : (⟨2, ![8, 128]⟩ : Shape).Reduces [0] ⟨1, ![128]⟩)
    (h2 : (⟨1, ![128]⟩ : Shape).ShapeCasts ⟨2, ![1, 128]⟩) : FVec Ideal ⟨2, ![1, 128]⟩ .f32 :=
  shapeCast ⟨2, ![1, 128]⟩ (multiReduction .maximumf [0] ⟨1, ![128]⟩
      (multiReduction .maximumf [0] ⟨2, ![8, 128]⟩ (shapeCast ⟨3, ![m, 8, 128]⟩ a h1) 0xFF800000#32 r1 (.inl rfl) rfl)
      0xFF800000#32 r2 (.inl rfl) rfl) h2

/-- It is the maximum of the rows. -/
theorem cmax {n m : ℕ} (hm : n = m * 8) (hn : n ≤ 768) (hh ii : ℕ → ℕ) (a : FVec Ideal ⟨2, ![n, 128]⟩ .f32)
    (h1 : (⟨2, ![n, 128]⟩ : Shape).ShapeCasts ⟨3, ![m, 8, 128]⟩)
    (r1 : (⟨3, ![m, 8, 128]⟩ : Shape).Reduces [0] ⟨2, ![8, 128]⟩) (r2 : (⟨2, ![8, 128]⟩ : Shape).Reduces [0] ⟨1, ![128]⟩)
    (h2 : (⟨1, ![128]⟩ : Shape).ShapeCasts ⟨2, ![1, 128]⟩)
    (ha : ∀ (k : Fin n) (q : Fin 128), a (ix2 k q) = S x0 x1 (hh q.val) (ii q.val) k.val) (hi : ∀ q, q < 128 → ii q < n)
    (z : Fin 1) (q : Fin 128) : CMax a h1 r1 r2 h2 (ix2 z q) = M x0 x1 (hh q.val) (ii q.val) := by
  refine (Tile.colMax hm a h1 r1 r2 h2 _ _ _ _ z q).trans ?_
  rw [← sup_first x0 x1 hn _ _ (hi q.val q.isLt)]
  exact Finset.sup_congr rfl fun k _ => ha k q

/-- The weights of a tile. -/
abbrev Exp {n m : ℕ} (s a : FVec Ideal ⟨2, ![n, 128]⟩ .f32)
    (h1 : (⟨2, ![n, 128]⟩ : Shape).ShapeCasts ⟨3, ![m, 8, 128]⟩)
    (r1 : (⟨3, ![m, 8, 128]⟩ : Shape).Reduces [0] ⟨2, ![8, 128]⟩) (r2 : (⟨2, ![8, 128]⟩ : Shape).Reduces [0] ⟨1, ![128]⟩)
    (h2 : (⟨1, ![128]⟩ : Shape).ShapeCasts ⟨2, ![1, 128]⟩)
    (hb : (⟨2, ![1, 128]⟩ : Shape).Broadcasts ⟨2, ![n, 128]⟩) : FVec Ideal ⟨2, ![n, 128]⟩ .f32 :=
  exp2 (subf (mulf s (broadcast ⟨2, ![n, 128]⟩ cK))
      (broadcastTo ⟨2, ![n, 128]⟩ (subf (mulf (CMax a h1 r1 r2 h2) (broadcast ⟨2, ![1, 128]⟩ cK))
        (broadcast ⟨2, ![1, 128]⟩ (Scalar.ofBits .f32 0x41000000#32 : Ideal .f32))) hb))

/-- They are the weights of the rows. -/
theorem weights {n m : ℕ} (hm : n = m * 8) (hn : n ≤ 768) (hh ii : ℕ → ℕ) (s a : FVec Ideal ⟨2, ![n, 128]⟩ .f32)
    (h1 : (⟨2, ![n, 128]⟩ : Shape).ShapeCasts ⟨3, ![m, 8, 128]⟩)
    (r1 : (⟨3, ![m, 8, 128]⟩ : Shape).Reduces [0] ⟨2, ![8, 128]⟩) (r2 : (⟨2, ![8, 128]⟩ : Shape).Reduces [0] ⟨1, ![128]⟩)
    (h2 : (⟨1, ![128]⟩ : Shape).ShapeCasts ⟨2, ![1, 128]⟩)
    (hb : (⟨2, ![1, 128]⟩ : Shape).Broadcasts ⟨2, ![n, 128]⟩)
    (hs : ∀ (k : Fin n) (q : Fin 128), s (ix2 k q) = S x0 x1 (hh q.val) (ii q.val) k.val)
    (ha : ∀ (k : Fin n) (q : Fin 128), a (ix2 k q) = S x0 x1 (hh q.val) (ii q.val) k.val) (hi : ∀ q, q < 128 → ii q < n)
    (k : Fin n) (q : Fin 128) : Exp s a h1 r1 r2 h2 hb (ix2 k q) = W x0 x1 (hh q.val) (ii q.val) k.val := by
  unfold Exp
  rw [Tile.expTile, cmax x0 x1 hm hn hh ii a h1 r1 r2 h2 ha hi, hs, cK_eq]
  rfl

/-- The clipped weights, as stored. -/
theorem codes {n m : ℕ} (hm : n = m * 8) (hn : n ≤ 768) (hh ii : ℕ → ℕ) (s a : FVec Ideal ⟨2, ![n, 128]⟩ .f32)
    (h1 : (⟨2, ![n, 128]⟩ : Shape).ShapeCasts ⟨3, ![m, 8, 128]⟩)
    (r1 : (⟨3, ![m, 8, 128]⟩ : Shape).Reduces [0] ⟨2, ![8, 128]⟩) (r2 : (⟨2, ![8, 128]⟩ : Shape).Reduces [0] ⟨1, ![128]⟩)
    (h2 : (⟨1, ![128]⟩ : Shape).ShapeCasts ⟨2, ![1, 128]⟩)
    (hb : (⟨2, ![1, 128]⟩ : Shape).Broadcasts ⟨2, ![n, 128]⟩) (ht : FTy.bits .fp8e4m3 < FTy.bits .f32)
    (hc : (⟨2, ![n, 128]⟩ : Shape).ShapeCasts ⟨2, ![n, 128]⟩)
    (hs : ∀ (k : Fin n) (q : Fin 128), s (ix2 k q) = S x0 x1 (hh q.val) (ii q.val) k.val)
    (ha : ∀ (k : Fin n) (q : Fin 128), a (ix2 k q) = S x0 x1 (hh q.val) (ii q.val) k.val) (hi : ∀ q, q < 128 → ii q < n)
    (k : Fin n) (q : Fin 128) :
    shapeCast ⟨2, ![n, 128]⟩ (truncf .fp8e4m3 (minimumf (broadcast ⟨2, ![n, 128]⟩ (Scalar.ofBits .f32 0x43E00000#32 : Ideal .f32))
      (maximumf (broadcast ⟨2, ![n, 128]⟩ (Scalar.ofBits .f32 0xC3E00000#32 : Ideal .f32)) (Exp s a h1 r1 r2 h2 hb))) ht) hc (ix2 k q)
    = Tile.clip (W x0 x1 (hh q.val) (ii q.val) k.val) := by
  rw [shapeCast_self, Tile.clipTile, weights x0 x1 hm hn hh ii s a h1 r1 r2 h2 hb hs ha hi]

/-- The sums of the weights, as stored. -/
theorem sums {n m : ℕ} (hm : n = m * 8) (hn : n ≤ 768) (hh ii : ℕ → ℕ) (s a : FVec Ideal ⟨2, ![n, 128]⟩ .f32)
    (h1 h1' : (⟨2, ![n, 128]⟩ : Shape).ShapeCasts ⟨3, ![m, 8, 128]⟩)
    (r1 r1' : (⟨3, ![m, 8, 128]⟩ : Shape).Reduces [0] ⟨2, ![8, 128]⟩) (r2 r2' : (⟨2, ![8, 128]⟩ : Shape).Reduces [0] ⟨1, ![128]⟩)
    (h2 h2' : (⟨1, ![128]⟩ : Shape).ShapeCasts ⟨2, ![1, 128]⟩)
    (hb : (⟨2, ![1, 128]⟩ : Shape).Broadcasts ⟨2, ![n, 128]⟩)
    (hc : (⟨2, ![1, 128]⟩ : Shape).ShapeCasts ⟨3, ![1, 1, 128]⟩)
    (hs : ∀ (k : Fin n) (q : Fin 128), s (ix2 k q) = S x0 x1 (hh q.val) (ii q.val) k.val)
    (ha : ∀ (k : Fin n) (q : Fin 128), a (ix2 k q) = S x0 x1 (hh q.val) (ii q.val) k.val) (hi : ∀ q, q < 128 → ii q < n)
    (q : Fin 128) :
    shapeCast ⟨3, ![1, 1, 128]⟩ (shapeCast ⟨2, ![1, 128]⟩ (multiReduction .add [0] ⟨1, ![128]⟩
      (multiReduction .add [0] ⟨2, ![8, 128]⟩ (shapeCast ⟨3, ![m, 8, 128]⟩ (Exp s a h1 r1 r2 h2 hb) h1') 0x00000000#32 r1' (.inl rfl) rfl)
      0x00000000#32 r2' (.inl rfl) rfl) h2') hc (ix3 0 0 q)
    = L x0 x1 (hh q.val) (ii q.val) := by
  rw [Tile.add1]
  refine (Tile.colSum hm _ h1' r1' r2' h2' _ _ _ _ 0 q).trans ?_
  rw [Finset.sum_congr rfl fun k _ => weights x0 x1 hm hn hh ii s a h1 r1 r2 h2 hb hs ha hi k q]
  exact sum_first hn (W x0 x1 (hh q.val) (ii q.val)) fun j hj => W_masked x0 x1 _ _ _ (lt_of_lt_of_le (hi q.val q.isLt) hj)

/-- The rows past a tile's keys are filled with zero, which is what the clipped weights are there. -/
theorem fill {z : ℕ} (e : ℕ) (hh ii : ℕ → ℕ) (hi : ∀ q, q < 128 → ii q < e)
    (hc : (⟨2, ![z, 128]⟩ : Shape).ShapeCasts ⟨2, ![z, 128]⟩) (k : Fin z) (q : Fin 128) :
    shapeCast ⟨2, ![z, 128]⟩ (broadcast ⟨2, ![z, 128]⟩ (Scalar.ofBits .fp8e4m3 0x00#8 : Ideal .fp8e4m3)) hc (ix2 k q)
    = Tile.clip (W x0 x1 (hh q.val) (ii q.val) (e + k.val)) := by
  rw [shapeCast_self, W_masked x0 x1 _ _ _ (by have := hi q.val q.isLt; omega), clip_zero]
  exact Consts.ofBits_zero_fp8

/-- The outputs of a unit. -/
theorem outs {n : ℕ} (u : ℕ) (hn : n ≤ 768) (vt : FVec Ideal ⟨2, ![128, n]⟩ .fp8e4m3) (p : FVec Ideal ⟨2, ![n, 256]⟩ .fp8e4m3)
    (v3 : FVec Ideal ⟨2, ![1, 128]⟩ .f32) (l : FVec Ideal ⟨3, ![1, 1, 256]⟩ .f32)
    (h1 : (⟨3, ![1, 1, 256]⟩ : Shape).ShapeCasts ⟨2, ![1, 256]⟩)
    (h2 : (⟨2, ![1, 128]⟩ : Shape).Slices ![0, 0] ⟨2, ![1, 1]⟩)
    (h3 : (⟨2, ![1, 1]⟩ : Shape).Broadcasts ⟨2, ![1, 256]⟩) (h4 : (⟨2, ![1, 256]⟩ : Shape).Broadcasts ⟨2, ![128, 256]⟩)
    (hb : FTy.bits .bf16 < FTy.bits .f32)
    (hv : ∀ (d : Fin 128) (k : Fin n), vt (ix2 d k) = V x2 x3 d k.val)
    (hp : ∀ (k : Fin n) (q : Fin 256), p (ix2 k q) = Tile.clip (W x0 x1 (hd u q.val) (rw' u q.val) k.val))
    (hl : ∀ q : Fin 256, l (ix3 0 0 q) = L x0 x1 (hd u q.val) (rw' u q.val))
    (h3' : v3 (ix2 0 0) = x3 (ix3 0 0 0)) (hi : ∀ q, q < 256 → rw' u q < n) (d : Fin 128) (q : Fin 256) :
    truncf .bf16 (mulf (matmul (DotDims.plain 128 n 256) none vt p (constant ⟨2, ![128, 256]⟩ .f32 0x00000000#32))
      (broadcastTo ⟨2, ![128, 256]⟩ (divf (broadcastTo ⟨2, ![1, 256]⟩ (extractStridedSlice ⟨2, ![1, 1]⟩ ![0, 0] v3 h2) h3)
        (shapeCast ⟨2, ![1, 256]⟩ l h1)) h4)) hb (ix2 d q)
    = O x0 x1 x2 x3 (hd u q.val) (rw' u q.val) d := by
  rw [Tile.outTile, hl, h3']
  unfold O
  refine congrArg (· * _) ?_
  rw [← sum_first hn (fun j => V x2 x3 d j * Tile.clip (W x0 x1 (hd u q.val) (rw' u q.val) j)) (fun j hj => by
    rw [W_masked x0 x1 _ _ _ (lt_of_lt_of_le (hi q.val q.isLt) hj), clip_zero, mul_zero])]
  exact Finset.sum_congr rfl fun k _ => by rw [hv, hp]

end Tiles

end Cert.Attn

end
-- ==== Proof.Scratch.lean ====
/-
  What the loads of the kernel's scratch buffers return, read from the stores before them: the query block rearranged
  by unit, the key block, the transposed quantised values, and, inside a unit, the weights and their sums.
-/
module

public import proofs.«01_k».proof.Proof.Unit
public import Idealize.ShloMosaic.Lib.WholeRead

@[expose] public section

noncomputable section

namespace Cert.Attn

open Idealize.ShloMosaic Idealize.ShloMosaic.ValueIdx

/-! ## Loads of pieces just stored -/

section Loads

variable {sig : RefSig} {κ : Kind} {sp : Space}

/-- A load over two pieces of 128 columns. -/
theorem read2 {n : ℕ} (G : ℕ → ℕ → EReal) (v : View sig κ sp ⟨2, ![768, 256]⟩ .fp8e4m3)
    (i1 i0 iB) (y1 y0 : Vec Ideal ⟨2, ![n, 128]⟩ .fp8e4m3) (L : List (View.Piece (Elt Ideal) ⟨2, ![768, 256]⟩ .fp8e4m3))
    (h0 : ∀ (k : Fin n) (q : Fin 128), y0 (ix2 k q) = G (0 + q.val) k.val)
    (h1 : ∀ (k : Fin n) (q : Fin 128), y1 (ix2 k q) = G (128 + q.val) k.val) (k : Fin n) (q : Fin 256) :
    v.readCov (⟨Rect.unit ![0, 128] (⟨2, ![n, 128]⟩ : Shape).size i1, y1⟩
      :: ⟨Rect.unit ![0, 0] (⟨2, ![n, 128]⟩ : Shape).size i0, y0⟩ :: L)
      (Rect.unit (s := ⟨2, ![768, 256]⟩) ![0, 0] (⟨2, ![n, 256]⟩ : Shape).size iB).toLoadRect (ix2 k q) = G q.val k.val := by
  rw [View.readCov_eq_canon']
  by_cases hq : q.val < 128
  · refine (View.canon_cons_of_not_mem _ _ ?_).trans ?_
    · intro h
      have := (Rect.mem_set_unit (inb := i1).mp h 1).1
      have e : (128 : ℕ) ≤ 0 + 1 * q.val := this
      omega
    · have e : (Rect.unit (s := ⟨2, ![768, 256]⟩) ![0, 0] (⟨2, ![n, 256]⟩ : Shape).size iB).toLoadRect.idx (ix2 k q)
          = (Rect.unit (s := ⟨2, ![768, 256]⟩) ![0, 0] (⟨2, ![n, 128]⟩ : Shape).size i0).emb (ix2 k ⟨q.val, hq⟩) := by
        funext a; refine Fin.ext ?_; match a with | 0 => rfl | 1 => rfl
      show View.canon _ ((Rect.unit (s := ⟨2, ![768, 256]⟩) ![0, 0] (⟨2, ![n, 256]⟩ : Shape).size iB).toLoadRect.idx (ix2 k q)) = _
      rw [e]
      refine (View.canon_cons_emb _ _ _ _).trans ((h0 k ⟨q.val, hq⟩).trans ?_)
      rw [Nat.zero_add]
  · have e : (Rect.unit (s := ⟨2, ![768, 256]⟩) ![0, 0] (⟨2, ![n, 256]⟩ : Shape).size iB).toLoadRect.idx (ix2 k q)
        = (Rect.unit (s := ⟨2, ![768, 256]⟩) ![0, 128] (⟨2, ![n, 128]⟩ : Shape).size i1).emb (ix2 k ⟨q.val - 128, by omega⟩) := by
      funext a; refine Fin.ext ?_
      match a with
      | 0 => rfl
      | 1 => show 0 + 1 * q.val = 128 + 1 * (q.val - 128); omega
    show View.canon _ ((Rect.unit (s := ⟨2, ![768, 256]⟩) ![0, 0] (⟨2, ![n, 256]⟩ : Shape).size iB).toLoadRect.idx (ix2 k q)) = _
    rw [e]
    refine (View.canon_cons_emb _ _ _ _).trans ((h1 k ⟨q.val - 128, by omega⟩).trans ?_)
    show G (128 + (q.val - 128)) k.val = _
    rw [Nat.add_sub_cancel' (by omega)]

/-- A load over three pieces: the second tile, the rows past the first tile, the first tile. -/
theorem read3 {n e z : ℕ} (hn : n = e + z) (G : ℕ → ℕ → EReal) (v : View sig κ sp ⟨2, ![768, 256]⟩ .fp8e4m3)
    (i1 iz i0 iB) (y1 : Vec Ideal ⟨2, ![n, 128]⟩ .fp8e4m3) (yz : Vec Ideal ⟨2, ![z, 128]⟩ .fp8e4m3)
    (y0 : Vec Ideal ⟨2, ![e, 128]⟩ .fp8e4m3) (L : List (View.Piece (Elt Ideal) ⟨2, ![768, 256]⟩ .fp8e4m3))
    (h0 : ∀ (k : Fin e) (q : Fin 128), y0 (ix2 k q) = G (0 + q.val) k.val)
    (hz : ∀ (k : Fin z) (q : Fin 128), yz (ix2 k q) = G (0 + q.val) (e + k.val))
    (h1 : ∀ (k : Fin n) (q : Fin 128), y1 (ix2 k q) = G (128 + q.val) k.val) (k : Fin n) (q : Fin 256) :
    v.readCov (⟨Rect.unit ![0, 128] (⟨2, ![n, 128]⟩ : Shape).size i1, y1⟩
      :: ⟨Rect.unit ![e, 0] (⟨2, ![z, 128]⟩ : Shape).size iz, yz⟩
      :: ⟨Rect.unit ![0, 0] (⟨2, ![e, 128]⟩ : Shape).size i0, y0⟩ :: L)
      (Rect.unit (s := ⟨2, ![768, 256]⟩) ![0, 0] (⟨2, ![n, 256]⟩ : Shape).size iB).toLoadRect (ix2 k q) = G q.val k.val := by
  rw [View.readCov_eq_canon']
  show View.canon _ ((Rect.unit (s := ⟨2, ![768, 256]⟩) ![0, 0] (⟨2, ![n, 256]⟩ : Shape).size iB).toLoadRect.idx (ix2 k q)) = _
  by_cases hq : q.val < 128
  · refine (View.canon_cons_of_not_mem _ _ ?_).trans ?_
    · intro h
      have := (Rect.mem_set_unit (inb := i1).mp h 1).1
      have e : (128 : ℕ) ≤ 0 + 1 * q.val := this
      omega
    by_cases hk : k.val < e
    · refine (View.canon_cons_of_not_mem _ _ ?_).trans ?_
      · intro h
        have := (Rect.mem_set_unit (inb := iz).mp h 0).1
        have e : (e : ℕ) ≤ 0 + 1 * k.val := this
        omega
      have e : (Rect.unit (s := ⟨2, ![768, 256]⟩) ![0, 0] (⟨2, ![n, 256]⟩ : Shape).size iB).toLoadRect.idx (ix2 k q)
          = (Rect.unit (s := ⟨2, ![768, 256]⟩) ![0, 0] (⟨2, ![e, 128]⟩ : Shape).size i0).emb (ix2 ⟨k.val, hk⟩ ⟨q.val, hq⟩) := by
        funext a; refine Fin.ext ?_; match a with | 0 => rfl | 1 => rfl
      rw [e]
      refine (View.canon_cons_emb _ _ _ _).trans ((h0 ⟨k.val, hk⟩ ⟨q.val, hq⟩).trans ?_)
      rw [Nat.zero_add]
    · have e : (Rect.unit (s := ⟨2, ![768, 256]⟩) ![0, 0] (⟨2, ![n, 256]⟩ : Shape).size iB).toLoadRect.idx (ix2 k q)
          = (Rect.unit (s := ⟨2, ![768, 256]⟩) ![e, 0] (⟨2, ![z, 128]⟩ : Shape).size iz).emb
              (ix2 ⟨k.val - e, by have := k.isLt; omega⟩ ⟨q.val, hq⟩) := by
        funext a; refine Fin.ext ?_
        match a with
        | 0 => show 0 + 1 * k.val = e + 1 * (k.val - e); omega
        | 1 => rfl
      rw [e]
      refine (View.canon_cons_emb _ _ _ _).trans ((hz _ ⟨q.val, hq⟩).trans ?_)
      show G (0 + q.val) (_ + (k.val - _)) = _
      rw [Nat.zero_add, Nat.add_sub_cancel' (by omega)]
  · have e : (Rect.unit (s := ⟨2, ![768, 256]⟩) ![0, 0] (⟨2, ![n, 256]⟩ : Shape).size iB).toLoadRect.idx (ix2 k q)
        = (Rect.unit (s := ⟨2, ![768, 256]⟩) ![0, 128] (⟨2, ![n, 128]⟩ : Shape).size i1).emb (ix2 k ⟨q.val - 128, by omega⟩) := by
      funext a; refine Fin.ext ?_
      match a with
      | 0 => rfl
      | 1 => show 0 + 1 * q.val = 128 + 1 * (q.val - 128); omega
    rw [e]
    refine (View.canon_cons_emb _ _ _ _).trans ((h1 k ⟨q.val - 128, by omega⟩).trans ?_)
    show G (128 + (q.val - 128)) k.val = _
    rw [Nat.add_sub_cancel' (by omega)]

/-- A load of a unit's sums over the two halves stored with the two maxima. -/
theorem readSums {u : ℕ} (G : ℕ → EReal) (v : View sig κ sp ⟨3, ![2, 16, 256]⟩ .f32)
    (i1 i2 i3 i4 iB) (y1 m1 y0 m0 : Vec Ideal ⟨3, ![1, 1, 128]⟩ .f32) (L : List (View.Piece (Elt Ideal) ⟨3, ![2, 16, 256]⟩ .f32))
    (h0 : ∀ q : Fin 128, y0 (ix3 0 0 q) = G (0 + q.val)) (h1 : ∀ q : Fin 128, y1 (ix3 0 0 q) = G (128 + q.val)) (q : Fin 256) :
    v.readCov (⟨Rect.unit ![1, u, 128] (⟨3, ![1, 1, 128]⟩ : Shape).size i1, y1⟩
      :: ⟨Rect.unit ![0, u, 128] (⟨3, ![1, 1, 128]⟩ : Shape).size i2, m1⟩
      :: ⟨Rect.unit ![1, u, 0] (⟨3, ![1, 1, 128]⟩ : Shape).size i3, y0⟩
      :: ⟨Rect.unit ![0, u, 0] (⟨3, ![1, 1, 128]⟩ : Shape).size i4, m0⟩ :: L)
      (Rect.unit (s := ⟨3, ![2, 16, 256]⟩) ![1, u, 0] (⟨3, ![1, 1, 256]⟩ : Shape).size iB).toLoadRect (ix3 0 0 q) = G q.val := by
  rw [View.readCov_eq_canon']
  show View.canon _ ((Rect.unit (s := ⟨3, ![2, 16, 256]⟩) ![1, u, 0] (⟨3, ![1, 1, 256]⟩ : Shape).size iB).toLoadRect.idx (ix3 0 0 q)) = _
  by_cases hq : q.val < 128
  · refine (View.canon_cons_of_not_mem _ _ ?_).trans ?_
    · intro h
      have := (Rect.mem_set_unit (inb := i1).mp h 2).1
      have e : (128 : ℕ) ≤ 0 + 1 * q.val := this
      omega
    refine (View.canon_cons_of_not_mem _ _ ?_).trans ?_
    · intro h
      have := (Rect.mem_set_unit (inb := i2).mp h 2).1
      have e : (128 : ℕ) ≤ 0 + 1 * q.val := this
      omega
    have e : (Rect.unit (s := ⟨3, ![2, 16, 256]⟩) ![1, u, 0] (⟨3, ![1, 1, 256]⟩ : Shape).size iB).toLoadRect.idx (ix3 0 0 q)
        = (Rect.unit (s := ⟨3, ![2, 16, 256]⟩) ![1, u, 0] (⟨3, ![1, 1, 128]⟩ : Shape).size i3).emb (ix3 0 0 ⟨q.val, hq⟩) := by
      funext a; refine Fin.ext ?_; match a with | 0 => rfl | 1 => rfl | 2 => rfl
    rw [e]
    refine (View.canon_cons_emb _ _ _ _).trans ((h0 ⟨q.val, hq⟩).trans ?_)
    rw [Nat.zero_add]
  · have e : (Rect.unit (s := ⟨3, ![2, 16, 256]⟩) ![1, u, 0] (⟨3, ![1, 1, 256]⟩ : Shape).size iB).toLoadRect.idx (ix3 0 0 q)
        = (Rect.unit (s := ⟨3, ![2, 16, 256]⟩) ![1, u, 128] (⟨3, ![1, 1, 128]⟩ : Shape).size i1).emb (ix3 0 0 ⟨q.val - 128, by omega⟩) := by
      funext a; refine Fin.ext ?_
      match a with
      | 0 => rfl
      | 1 => rfl
      | 2 => show 0 + 1 * q.val = 128 + 1 * (q.val - 128); omega
    rw [e]
    refine (View.canon_cons_emb _ _ _ _).trans ((h1 ⟨q.val - 128, by omega⟩).trans ?_)
    show G (128 + (q.val - 128)) = _
    rw [Nat.add_sub_cancel' (by omega)]

end Loads

/-! ## The query block, rearranged by unit -/

section Queries

/-- The place of an entry's store among the 240 stores of sixteen rows of one head. -/
def qidx (u q : ℕ) : ℕ := if u < 12 then 5 * (4 * u + q % 64 / 16) + q / 64 else 5 * (16 * (u - 12) + q / 16) + 4

/-- After the first `k` stores, the entries they write hold the query rows of their units. -/
def QGood (x0 : Vec Ideal ⟨3, ![1, 768, 640]⟩ .bf16) (k : ℕ) (L : List (View.Piece (Elt Ideal) ⟨3, ![15, 256, 128]⟩ .bf16)) : Prop :=
  ∀ (u : Fin 15) (q : Fin 256) (t : Fin 128), qidx u.val q.val < k →
    View.canon L (ix3 u q t) = x0 (ix3 0 (Fin.ofNat 768 (rw' u.val q.val)) (Fin.ofNat 640 (128 * hd u.val q.val + t.val)))

variable (x0 : Vec Ideal ⟨3, ![1, 768, 640]⟩ .bf16)

/-- Before the stores there is nothing to say. -/
theorem qBase (L : List (View.Piece (Elt Ideal) ⟨3, ![15, 256, 128]⟩ .bf16)) : QGood x0 0 L := fun _ _ _ h => absurd h (Nat.not_lt_zero _)

/-- One more store: sixteen rows of one head. -/
theorem qStep {k j o r c : ℕ} {i1} {y : Vec Ideal ⟨3, ![1, 16, 128]⟩ .bf16} {L : List (View.Piece (Elt Ideal) ⟨3, ![15, 256, 128]⟩ .bf16)}
    (hk : k < 240)
    (hj : j = if k % 5 < 4 then k / 5 / 4 else 12 + k / 5 / 16)
    (ho : o = if k % 5 < 4 then 64 * (k % 5) + 16 * (k / 5 % 4) else 16 * (k / 5 % 16))
    (hr : r = 16 * (k / 5)) (hc : c = 128 * (k % 5))
    (hy : ∀ (i : Fin 16) (t : Fin 128), y (ix3 0 i t) = x0 (ix3 0 (Fin.ofNat 768 (r + i.val)) (Fin.ofNat 640 (c + t.val))))
    (ih : QGood x0 k L) :
    QGood x0 (k + 1) (⟨Rect.unit ![j, o, 0] (⟨3, ![1, 16, 128]⟩ : Shape).size i1, y⟩ :: L) := by
  intro u q t hu
  by_cases hkq : qidx u.val q.val = k
  · have hu' := u.isLt
    have hq' := q.isLt
    have key : u.val = j ∧ o ≤ q.val ∧ q.val < o + 16 ∧ rw' u.val q.val = r + (q.val - o) ∧ 128 * hd u.val q.val = c := by
      subst hj ho hr hc hkq
      unfold qidx rw' hd
      clear ih
      by_cases h : u.val < 12
      · simp only [if_pos h]
        have d1 : q.val / 64 < 4 := by omega
        have d2 : q.val % 64 / 16 < 4 := by omega
        have d3 : q.val = 64 * (q.val / 64) + q.val % 64 := by omega
        have d4 : q.val % 64 = 16 * (q.val % 64 / 16) + q.val % 16 := by omega
        have d5 : q.val % 16 < 16 := by omega
        generalize q.val / 64 = a at *
        generalize q.val % 64 / 16 = b at *
        have e5 : (5 * (4 * u.val + b) + a) % 5 = a := by omega
        have e6 : (5 * (4 * u.val + b) + a) / 5 = 4 * u.val + b := by omega
        have e7 : (4 * u.val + b) / 4 = u.val := by omega
        have e8 : (4 * u.val + b) % 4 = b := by omega
        simp only [e5, e6, e7, e8, if_pos d1]
        refine ⟨trivial, ?_, ?_, ?_, ?_⟩ <;> first | trivial | omega
      · simp only [if_neg h]
        have d1 : q.val / 16 < 16 := by omega
        have d4 : q.val = 16 * (q.val / 16) + q.val % 16 := by omega
        have d5 : q.val % 16 < 16 := by omega
        generalize q.val / 16 = b at *
        obtain ⟨w, hw⟩ : ∃ w, u.val = 12 + w := ⟨u.val - 12, by omega⟩
        simp only [hw, Nat.add_sub_cancel_left]
        have e5 : (5 * (16 * w + b) + 4) % 5 = 4 := by omega
        have e6 : (5 * (16 * w + b) + 4) / 5 = 16 * w + b := by omega
        have e7 : (16 * w + b) / 16 = w := by omega
        have e8 : (16 * w + b) % 16 = b := by omega
        simp only [e5, e6, e7, e8, if_neg (show ¬ 4 < 4 by omega)]
        refine ⟨?_, ?_, ?_, ?_, ?_⟩ <;> first | trivial | omega
    obtain ⟨k1, k2, k3, k4, k5⟩ := key
    have hR : r + 16 ≤ 768 := by rw [hr]; omega
    have hC : c + 128 ≤ 640 := by rw [hc]; omega
    have e : ix3 u q t = (Rect.unit (s := ⟨3, ![15, 256, 128]⟩) ![j, o, 0] (⟨3, ![1, 16, 128]⟩ : Shape).size i1).emb
        (ix3 0 ⟨q.val - o, by omega⟩ t) := by
      funext a; refine Fin.ext ?_
      match a with
      | 0 => show u.val = j + 1 * 0; omega
      | 1 => show q.val = o + 1 * (q.val - o); omega
      | 2 => show t.val = 0 + 1 * t.val; omega
    rw [e]
    refine (View.canon_cons_emb _ _ _ _).trans ?_
    refine (hy _ _).trans (congrArg x0 ?_)
    funext a; refine Fin.ext ?_
    have ht := t.isLt
    match a with
    | 0 => rfl
    | 1 => show (r + (q.val - o)) % 768 = rw' u.val q.val % 768; rw [k4]
    | 2 => show (c + t.val) % 640 = (128 * hd u.val q.val + t.val) % 640; rw [k5]
  · have hlt : qidx u.val q.val < k := by omega
    refine (View.canon_cons_of_not_mem _ _ ?_).trans (ih u q t hlt)
    intro h
    refine hkq ?_
    have a0 := Rect.mem_set_unit (inb := i1).mp h 0
    have a1 := Rect.mem_set_unit (inb := i1).mp h 1
    have b0 : j ≤ u.val ∧ u.val < j + 1 := a0
    have b1 : o ≤ q.val ∧ q.val < o + 16 := a1
    have hj' : u.val = if k % 5 < 4 then k / 5 / 4 else 12 + k / 5 / 16 := by rw [← hj]; omega
    unfold qidx
    by_cases h4 : k % 5 < 4
    · rw [if_pos h4] at hj' ho
      rw [if_pos (by omega)]
      omega
    · rw [if_neg h4] at hj' ho
      rw [if_neg (by omega)]
      omega

end Queries

/-! ## The key block -/

section Keys

/-- After the first `k` stores the first `16 k` rows hold the keys. -/
def KGood (x1 : Vec Ideal ⟨3, ![1, 768, 128]⟩ .bf16) (k : ℕ) (L : List (View.Piece (Elt Ideal) ⟨2, ![768, 128]⟩ .bf16)) : Prop :=
  ∀ (j : Fin 768) (t : Fin 128), j.val < 16 * k → View.canon L (ix2 j t) = x1 (ix3 0 j t)

variable (x1 : Vec Ideal ⟨3, ![1, 768, 128]⟩ .bf16)

/-- Before the stores there is nothing to say. -/
theorem kBase (L : List (View.Piece (Elt Ideal) ⟨2, ![768, 128]⟩ .bf16)) : KGood x1 0 L := fun _ _ h => absurd h (by omega)

/-- One more store of sixteen rows. -/
theorem kStep {k r : ℕ} {i1} {y : Vec Ideal ⟨2, ![16, 128]⟩ .bf16} {L : List (View.Piece (Elt Ideal) ⟨2, ![768, 128]⟩ .bf16)}
    (hk : k < 48) (hr : r = 16 * k)
    (hy : ∀ (i : Fin 16) (t : Fin 128), y (ix2 i t) = x1 (ix3 0 (Fin.ofNat 768 (r + i.val)) (Fin.ofNat 128 (0 + t.val))))
    (ih : KGood x1 k L) :
    KGood x1 (k + 1) (⟨Rect.unit ![r, 0] (⟨2, ![16, 128]⟩ : Shape).size i1, y⟩ :: L) := by
  intro j t hj
  by_cases hlt : j.val < 16 * k
  · refine (View.canon_cons_of_not_mem _ _ ?_).trans (ih j t hlt)
    intro h
    have a1 := (Rect.mem_set_unit (inb := i1).mp h 0).1
    have a0 : r ≤ j.val := a1
    omega
  · have e : ix2 j t = (Rect.unit (s := ⟨2, ![768, 128]⟩) ![r, 0] (⟨2, ![16, 128]⟩ : Shape).size i1).emb
        (ix2 ⟨j.val - r, by omega⟩ t) := by
      funext a; refine Fin.ext ?_
      match a with
      | 0 => show j.val = r + 1 * (j.val - r); omega
      | 1 => show t.val = 0 + 1 * t.val; omega
    rw [e]
    refine (View.canon_cons_emb _ _ _ _).trans ?_
    refine (hy _ _).trans (congrArg x1 ?_)
    funext a; refine Fin.ext ?_
    match a with
    | 0 => rfl
    | 1 => show (r + (j.val - r)) % 768 = j.val; omega
    | 2 => show (0 + t.val) % 128 = t.val; omega

end Keys

/-! ## The quantised values, transposed -/

section Values

/-- After the first `k` stores the first `128 k` columns hold the quantised values. -/
def VGood (x2 : Vec Ideal ⟨3, ![1, 768, 128]⟩ .bf16) (x3 : Vec Ideal ⟨3, ![1, 1, 128]⟩ .f32) (k : ℕ)
    (L : List (View.Piece (Elt Ideal) ⟨2, ![128, 768]⟩ .fp8e4m3)) : Prop :=
  ∀ (d : Fin 128) (j : Fin 768), j.val < 128 * k → View.canon L (ix2 d j) = V x2 x3 d j.val

variable (x2 : Vec Ideal ⟨3, ![1, 768, 128]⟩ .bf16) (x3 : Vec Ideal ⟨3, ![1, 1, 128]⟩ .f32)

/-- Before the stores there is nothing to say. -/
theorem vBase (L : List (View.Piece (Elt Ideal) ⟨2, ![128, 768]⟩ .fp8e4m3)) : VGood x2 x3 0 L := fun _ _ h => absurd h (by omega)

/-- One more store: the transpose of 128 rows. -/
theorem vStep {k r : ℕ} {i1} {y : Vec Ideal ⟨2, ![128, 128]⟩ .fp8e4m3} {L : List (View.Piece (Elt Ideal) ⟨2, ![128, 768]⟩ .fp8e4m3)}
    (hk : k < 6) (hr : r = 128 * k) (hy : ∀ d j : Fin 128, y (ix2 d j) = V x2 x3 d (r + j.val)) (ih : VGood x2 x3 k L) :
    VGood x2 x3 (k + 1) (⟨Rect.unit ![0, r] (⟨2, ![128, 128]⟩ : Shape).size i1, y⟩ :: L) := by
  intro d j hj
  by_cases hlt : j.val < 128 * k
  · refine (View.canon_cons_of_not_mem _ _ ?_).trans (ih d j hlt)
    intro h
    have a1 := (Rect.mem_set_unit (inb := i1).mp h 1).1
    have a0 : r ≤ j.val := a1
    omega
  · have e : ix2 d j = (Rect.unit (s := ⟨2, ![128, 768]⟩) ![0, r] (⟨2, ![128, 128]⟩ : Shape).size i1).emb
        (ix2 d ⟨j.val - r, by omega⟩) := by
      funext a; refine Fin.ext ?_
      match a with
      | 0 => show d.val = 0 + 1 * d.val; omega
      | 1 => show j.val = r + 1 * (j.val - r); omega
    rw [e]
    refine (View.canon_cons_emb _ _ _ _).trans ((hy _ _).trans (congrArg (V x2 x3 d) ?_))
    show r + (j.val - r) = j.val
    omega

end Values

end Cert.Attn

end
-- ==== Proof.Parts.lean ====
/-
  A whole unit of the kernel, from its stored score tiles to its outputs, and the pieces in which the outputs are
  stored, at shapes that stay variables.
-/
module

public import proofs.«01_k».proof.Proof.Scratch

@[expose] public section

noncomputable section

namespace Cert.Attn

open Idealize.ShloMosaic Idealize.ShloMosaic.ValueIdx
open scoped BigOperators

variable (x0 : Vec Ideal ⟨3, ![1, 768, 640]⟩ .bf16) (x1 x2 : Vec Ideal ⟨3, ![1, 768, 128]⟩ .bf16) (x3 : Vec Ideal ⟨3, ![1, 1, 128]⟩ .f32)

/-- The codes of a block: inputs times the inverse of their scales, clipped. -/
def C {s : Shape} (x y : s.Idx → EReal) (i : s.Idx) : EReal := Tile.clip (x i * Ideal.div 1 (y i))

/-- The words of a block: codes times scales. -/
def D {s : Shape} (x y : s.Idx → EReal) (i : s.Idx) : EReal := C x y i * y i

/-- The codes of a block of values, whose scales are given by lane. -/
def VC (x : (⟨3, ![1, 768, 128]⟩ : Shape).Idx → EReal) (y : (⟨3, ![1, 1, 128]⟩ : Shape).Idx → EReal)
    (i : (⟨3, ![1, 768, 128]⟩ : Shape).Idx) : EReal := Tile.clip (x i * Ideal.div 1 (y (ix3 0 0 (i 2))))

/-! ## Loads of the operand buffers -/

section Operands

variable {sig : RefSig} {κ : Kind} {sp : Space}

/-- A load of the first `n` keys. -/
theorem keyLoad {n : ℕ} (hn : n ≤ 768) {L : List (View.Piece (Elt Ideal) ⟨2, ![768, 128]⟩ .bf16)} (h : KGood x1 48 L)
    (v : View sig κ sp ⟨2, ![768, 128]⟩ .bf16) (i) (k : Fin n) (t : Fin 128) :
    v.readCov L (Rect.unit (s := ⟨2, ![768, 128]⟩) ![0, 0] (⟨2, ![n, 128]⟩ : Shape).size i).toLoadRect (ix2 k t)
    = x1 (ix3 0 (Fin.ofNat 768 k.val) t) := by
  rw [View.readCov_eq_canon']
  have hk : k.val % 768 = k.val := Nat.mod_eq_of_lt (by omega)
  have e : (Rect.unit (s := ⟨2, ![768, 128]⟩) ![0, 0] (⟨2, ![n, 128]⟩ : Shape).size i).toLoadRect.idx (ix2 k t)
      = ix2 (Fin.ofNat 768 k.val) t := by
    funext a; refine Fin.ext ?_
    match a with
    | 0 => show 0 + 1 * k.val = k.val % 768; omega
    | 1 => show 0 + 1 * t.val = t.val; omega
  show View.canon L ((Rect.unit (s := ⟨2, ![768, 128]⟩) ![0, 0] (⟨2, ![n, 128]⟩ : Shape).size i).toLoadRect.idx (ix2 k t)) = _
  rw [e]
  exact h _ t (by show k.val % 768 < 16 * 48; omega)

/-- A load of a unit's query rows. -/
theorem queryLoad (u : ℕ) (hu : u < 15) {L : List (View.Piece (Elt Ideal) ⟨3, ![15, 256, 128]⟩ .bf16)} (h : QGood x0 240 L)
    (v : View sig κ sp ⟨3, ![15, 256, 128]⟩ .bf16) (i) (q : Fin 256) (t : Fin 128) :
    v.readCov L (Rect.unit (s := ⟨3, ![15, 256, 128]⟩) ![u, 0, 0] (⟨3, ![1, 256, 128]⟩ : Shape).size i).toLoadRect (ix3 0 q t)
    = x0 (ix3 0 (Fin.ofNat 768 (rw' u q.val)) (Fin.ofNat 640 (128 * hd u q.val + t.val))) := by
  rw [View.readCov_eq_canon']
  have e : (Rect.unit (s := ⟨3, ![15, 256, 128]⟩) ![u, 0, 0] (⟨3, ![1, 256, 128]⟩ : Shape).size i).toLoadRect.idx (ix3 0 q t)
      = ix3 ⟨u, hu⟩ q t := by
    funext a; refine Fin.ext ?_
    match a with
    | 0 => rfl
    | 1 => show 0 + 1 * q.val = q.val; omega
    | 2 => show 0 + 1 * t.val = t.val; omega
  show View.canon L ((Rect.unit (s := ⟨3, ![15, 256, 128]⟩) ![u, 0, 0] (⟨3, ![1, 256, 128]⟩ : Shape).size i).toLoadRect.idx (ix3 0 q t)) = _
  rw [e]
  refine h ⟨u, hu⟩ q t ?_
  have hq := q.isLt
  show qidx u q.val < 240
  unfold qidx
  split_ifs <;> omega

/-- A load of the first `n` columns of the quantised values. -/
theorem valueLoad {n : ℕ} (hn : n ≤ 768) {L : List (View.Piece (Elt Ideal) ⟨2, ![128, 768]⟩ .fp8e4m3)} (h : VGood x2 x3 6 L)
    (v : View sig κ sp ⟨2, ![128, 768]⟩ .fp8e4m3) (i) (d : Fin 128) (k : Fin n) :
    v.readCov L (Rect.unit (s := ⟨2, ![128, 768]⟩) ![0, 0] (⟨2, ![128, n]⟩ : Shape).size i).toLoadRect (ix2 d k)
    = V x2 x3 d k.val := by
  rw [View.readCov_eq_canon']
  have e : (Rect.unit (s := ⟨2, ![128, 768]⟩) ![0, 0] (⟨2, ![128, n]⟩ : Shape).size i).toLoadRect.idx (ix2 d k)
      = ix2 d ⟨k.val, by omega⟩ := by
    funext a; refine Fin.ext ?_
    match a with
    | 0 => show 0 + 1 * d.val = d.val; omega
    | 1 => show 0 + 1 * k.val = k.val; omega
  show View.canon L ((Rect.unit (s := ⟨2, ![128, 768]⟩) ![0, 0] (⟨2, ![128, n]⟩ : Shape).size i).toLoadRect.idx (ix2 d k)) = _
  rw [e]
  exact h d ⟨k.val, by omega⟩ (by show k.val < 128 * 6; omega)

/-- What is stored of the quantised values: a block of rows scaled by the inverse scale, clipped and transposed. -/
theorem valueTile {r : ℕ} (hr : r + 128 ≤ 768) {m4 : Memref sig κ sp ⟨3, ![1, 768, 128]⟩ .bf16} (hm4 : m4.IsWhole)
    {m5 : Memref sig κ sp ⟨3, ![1, 1, 128]⟩ .f32} (hm5 : m5.IsWhole) {i4 i5}
    (h1 : (⟨3, ![1, 768, 128]⟩ : Shape).ShapeCasts ⟨2, ![768, 128]⟩) (h2 : (⟨3, ![1, 1, 128]⟩ : Shape).ShapeCasts ⟨2, ![1, 128]⟩)
    (h3 : (⟨2, ![1, 128]⟩ : Shape).Broadcasts ⟨2, ![768, 128]⟩) (hb hb1 hb2 : FTy.bits .bf16 < FTy.bits .f32)
    (h4 : (⟨2, ![768, 128]⟩ : Shape).Slices ![r, 0] ⟨2, ![128, 128]⟩)
    (h5 : (⟨2, ![128, 128]⟩ : Shape).Transposes [1, 0] ⟨2, ![128, 128]⟩) (h6 : FTy.bits .fp8e4m3 < FTy.bits .bf16)
    (h7 : (⟨2, ![128, 128]⟩ : Shape).ShapeCasts ⟨2, ![128, 128]⟩) (d j : Fin 128) :
    shapeCast ⟨2, ![128, 128]⟩ (truncf .fp8e4m3 (transpose ⟨2, ![128, 128]⟩ [1, 0]
      (extractStridedSlice ⟨2, ![128, 128]⟩ ![r, 0]
        (minimumf (broadcast ⟨2, ![768, 128]⟩ (Scalar.truncf .bf16 hb1 (Scalar.ofBits .f32 0x43E00000#32 : Ideal .f32)))
          (maximumf (broadcast ⟨2, ![768, 128]⟩ (Scalar.truncf .bf16 hb2 (Scalar.ofBits .f32 0xC3E00000#32 : Ideal .f32)))
            (mulf (shapeCast ⟨2, ![768, 128]⟩ (View.readAt (Elt Ideal) m4.view
                (Rect.unit (s := ⟨3, ![1, 768, 128]⟩) ![0, 0, 0] (⟨3, ![1, 768, 128]⟩ : Shape).size i4).toLoadRect (hm4.unread x2)) h1)
              (broadcastTo ⟨2, ![768, 128]⟩ (truncf .bf16 (divf (broadcast ⟨2, ![1, 128]⟩ (Scalar.ofBits .f32 0x3F800000#32 : Ideal .f32))
                (shapeCast ⟨2, ![1, 128]⟩ (View.readAt (Elt Ideal) m5.view
                  (Rect.unit (s := ⟨3, ![1, 1, 128]⟩) ![0, 0, 0] (⟨3, ![1, 1, 128]⟩ : Shape).size i5).toLoadRect (hm5.unread x3)) h2)) hb) h3))))
        h4) h5) h6) h7 (ix2 d j)
    = V x2 x3 d (r + j.val) := by
  rw [shapeCast_self]
  have e0 : ∀ y : FVec Ideal ⟨2, ![128, 128]⟩ .bf16,
      (truncf .fp8e4m3 y h6 (ix2 d j) : EReal) = (y (ix2 d j) : EReal) := fun _ => rfl
  refine (e0 _).trans ?_
  refine (Tile.flip _ h5 d j).trans ?_
  refine (Tile.cols _ h4 j d ⟨r + j.val, by omega⟩ d rfl (by simp)).trans ?_
  have e1 : ∀ i : Fin 768, shapeCast ⟨2, ![768, 128]⟩ (View.readAt (Elt Ideal) m4.view
      (Rect.unit (s := ⟨3, ![1, 768, 128]⟩) ![0, 0, 0] (⟨3, ![1, 768, 128]⟩ : Shape).size i4).toLoadRect (hm4.unread x2)) h1 (ix2 i d)
      = x2 (ix3 0 i d) := fun i => by
    refine (Tile.drop1 _ h1 i d).trans ((Memref.IsWhole.readAt_unread hm4 x2 _ _).trans (congrArg x2 ?_))
    funext a; refine Fin.ext ?_
    match a with
    | 0 => rfl
    | 1 => show 0 + 1 * i.val = i.val; omega
    | 2 => show 0 + 1 * d.val = d.val; omega
  have e2 : shapeCast ⟨2, ![1, 128]⟩ (View.readAt (Elt Ideal) m5.view
      (Rect.unit (s := ⟨3, ![1, 1, 128]⟩) ![0, 0, 0] (⟨3, ![1, 1, 128]⟩ : Shape).size i5).toLoadRect (hm5.unread x3)) h2 (ix2 0 d)
      = x3 (ix3 0 0 d) := by
    refine (Tile.drop1 _ h2 0 d).trans ((Memref.IsWhole.readAt_unread hm5 x3 _ _).trans (congrArg x3 ?_))
    funext a; refine Fin.ext ?_
    match a with
    | 0 => rfl
    | 1 => rfl
    | 2 => show 0 + 1 * d.val = d.val; omega
  show min (Ideal.ofBits .f32 0x43E00000#32) (max (Ideal.ofBits .f32 0xC3E00000#32) (_ * _)) = _
  rw [e1, Tile.down (by decide) _ h3, Consts.ofBits_448, Consts.ofBits_neg448]
  show min _ (max _ (_ * Ideal.div (Ideal.ofBits .f32 0x3F800000#32) _)) = _
  rw [e2, Consts.ofBits_1]
  have hk : (⟨r + j.val, by omega⟩ : Fin 768) = Fin.ofNat 768 (r + j.val) := Fin.ext (Nat.mod_eq_of_lt (by omega)).symm
  rw [hk]
  rfl

/-- What is stored of the codes of the values: all rows, scaled by the inverse scale and clipped. -/
theorem valueCodes {m4 : Memref sig κ sp ⟨3, ![1, 768, 128]⟩ .bf16} (hm4 : m4.IsWhole)
    {m5 : Memref sig κ sp ⟨3, ![1, 1, 128]⟩ .f32} (hm5 : m5.IsWhole) {i4 i5 i6}
    (h1 : (⟨3, ![1, 768, 128]⟩ : Shape).ShapeCasts ⟨2, ![768, 128]⟩) (h2 : (⟨3, ![1, 1, 128]⟩ : Shape).ShapeCasts ⟨2, ![1, 128]⟩)
    (h3 : (⟨2, ![1, 128]⟩ : Shape).Broadcasts ⟨2, ![768, 128]⟩) (hb hb1 hb2 : FTy.bits .bf16 < FTy.bits .f32)
    (h6 : FTy.bits .fp8e4m3 < FTy.bits .bf16)
    (h7 : (⟨2, ![768, 128]⟩ : Shape).ShapeCasts ⟨3, ![1, 768, 128]⟩) (x) :
    shapeCast ⟨3, ![1, 768, 128]⟩ (truncf .fp8e4m3
        (minimumf (broadcast ⟨2, ![768, 128]⟩ (Scalar.truncf .bf16 hb1 (Scalar.ofBits .f32 0x43E00000#32 : Ideal .f32)))
          (maximumf (broadcast ⟨2, ![768, 128]⟩ (Scalar.truncf .bf16 hb2 (Scalar.ofBits .f32 0xC3E00000#32 : Ideal .f32)))
            (mulf (shapeCast ⟨2, ![768, 128]⟩ (View.readAt (Elt Ideal) m4.view
                (Rect.unit (s := ⟨3, ![1, 768, 128]⟩) ![0, 0, 0] (⟨3, ![1, 768, 128]⟩ : Shape).size i4).toLoadRect (hm4.unread x2)) h1)
              (broadcastTo ⟨2, ![768, 128]⟩ (truncf .bf16 (divf (broadcast ⟨2, ![1, 128]⟩ (Scalar.ofBits .f32 0x3F800000#32 : Ideal .f32))
                (shapeCast ⟨2, ![1, 128]⟩ (View.readAt (Elt Ideal) m5.view
                  (Rect.unit (s := ⟨3, ![1, 1, 128]⟩) ![0, 0, 0] (⟨3, ![1, 1, 128]⟩ : Shape).size i5).toLoadRect (hm5.unread x3)) h2)) hb) h3))))
        h6) h7 x
    = VC x2 x3 ((Rect.unit (s := ⟨3, ![1, 768, 128]⟩) ![0, 0, 0] (⟨3, ![1, 768, 128]⟩ : Shape).size i6).emb x) := by
  obtain ⟨z, k, d, rfl⟩ : ∃ (z : Fin 1) (k : Fin 768) (d : Fin 128), x = ix3 z k d :=
    ⟨x 0, x 1, x 2, by funext i; match i with | 0 => rfl | 1 => rfl | 2 => rfl⟩
  have e0 : (Rect.unit (s := ⟨3, ![1, 768, 128]⟩) ![0, 0, 0] (⟨3, ![1, 768, 128]⟩ : Shape).size i6).emb (ix3 z k d) = ix3 0 k d := by
    funext a; refine Fin.ext ?_
    match a with
    | 0 => show 0 + 1 * z.val = 0; omega
    | 1 => show 0 + 1 * k.val = k.val; omega
    | 2 => show 0 + 1 * d.val = d.val; omega
  rw [e0]
  refine (Tile.add1 _ h7 z k d).trans ?_
  have e1 : shapeCast ⟨2, ![768, 128]⟩ (View.readAt (Elt Ideal) m4.view
      (Rect.unit (s := ⟨3, ![1, 768, 128]⟩) ![0, 0, 0] (⟨3, ![1, 768, 128]⟩ : Shape).size i4).toLoadRect (hm4.unread x2)) h1 (ix2 k d)
      = x2 (ix3 0 k d) := by
    refine (Tile.drop1 _ h1 k d).trans ((Memref.IsWhole.readAt_unread hm4 x2 _ _).trans (congrArg x2 ?_))
    funext a; refine Fin.ext ?_
    match a with
    | 0 => rfl
    | 1 => show 0 + 1 * k.val = k.val; omega
    | 2 => show 0 + 1 * d.val = d.val; omega
  have e2 : shapeCast ⟨2, ![1, 128]⟩ (View.readAt (Elt Ideal) m5.view
      (Rect.unit (s := ⟨3, ![1, 1, 128]⟩) ![0, 0, 0] (⟨3, ![1, 1, 128]⟩ : Shape).size i5).toLoadRect (hm5.unread x3)) h2 (ix2 0 d)
      = x3 (ix3 0 0 d) := by
    refine (Tile.drop1 _ h2 0 d).trans ((Memref.IsWhole.readAt_unread hm5 x3 _ _).trans (congrArg x3 ?_))
    funext a; refine Fin.ext ?_
    match a with
    | 0 => rfl
    | 1 => rfl
    | 2 => show 0 + 1 * d.val = d.val; omega
  show min (Ideal.ofBits .f32 0x43E00000#32) (max (Ideal.ofBits .f32 0xC3E00000#32) (_ * _)) = _
  rw [e1, Tile.down (by decide) _ h3, Consts.ofBits_448, Consts.ofBits_neg448]
  show min _ (max _ (_ * Ideal.div (Ideal.ofBits .f32 0x3F800000#32) _)) = _
  rw [e2, Consts.ofBits_1]
  rfl

/-- The codes of sixteen rows of one head: the inputs times the inverse of their scales, clipped. -/
abbrev CodeT (o s : FVec Ideal ⟨2, ![16, 128]⟩ .bf16) (hb hb0 hb1 hb2 : FTy.bits .bf16 < FTy.bits .f32)
    (h6 : FTy.bits .fp8e4m3 < FTy.bits .bf16) : FVec Ideal ⟨2, ![16, 128]⟩ .fp8e4m3 :=
  truncf .fp8e4m3 (minimumf (broadcast ⟨2, ![16, 128]⟩ (Scalar.truncf .bf16 hb1 (Scalar.ofBits .f32 0x43E00000#32 : Ideal .f32)))
    (maximumf (broadcast ⟨2, ![16, 128]⟩ (Scalar.truncf .bf16 hb2 (Scalar.ofBits .f32 0xC3E00000#32 : Ideal .f32)))
      (mulf o (truncf .bf16 (divf (broadcast ⟨2, ![16, 128]⟩ (Scalar.ofBits .f32 0x3F800000#32 : Ideal .f32)) (extf .f32 s hb0)) hb)))) h6

/-- Sixteen rows of one head, loaded. -/
abbrev Rows {N r c : ℕ} (x : Vec Ideal ⟨3, ![1, 768, N]⟩ .bf16) {m : Memref sig κ sp ⟨3, ![1, 768, N]⟩ .bf16} (hm : m.IsWhole)
    (i : ∀ a : Fin 3, (![0, r, c] : Fin 3 → ℕ) a + (⟨3, ![1, 16, 128]⟩ : Shape).size a ≤ (⟨3, ![1, 768, N]⟩ : Shape).size a) (h : (⟨3, ![1, 16, 128]⟩ : Shape).ShapeCasts ⟨2, ![16, 128]⟩) : FVec Ideal ⟨2, ![16, 128]⟩ .bf16 :=
  shapeCast ⟨2, ![16, 128]⟩ (View.readAt (Elt Ideal) m.view
    (Rect.unit (s := ⟨3, ![1, 768, N]⟩) ![0, r, c] (⟨3, ![1, 16, 128]⟩ : Shape).size i).toLoadRect (hm.unread x)) h

/-- A loaded entry. -/
theorem rows_apply {N r c : ℕ} (hN : 0 < N) (hr : r + 16 ≤ 768) (hc : c + 128 ≤ N) (x : Vec Ideal ⟨3, ![1, 768, N]⟩ .bf16)
    {m : Memref sig κ sp ⟨3, ![1, 768, N]⟩ .bf16} (hm : m.IsWhole) (i) (h) (k : Fin 16) (t : Fin 128) :
    Rows (r := r) (c := c) x hm i h (ix2 k t) = x (ix3 0 ⟨r + k.val, by omega⟩ ⟨c + t.val, by omega⟩) := by
  refine (Tile.drop1 _ h k t).trans ((Memref.IsWhole.readAt_unread hm x _ _).trans (congrArg x ?_))
  funext a; refine Fin.ext ?_
  match a with
  | 0 => rfl
  | 1 => show r + 1 * k.val = r + k.val; omega
  | 2 => show c + 1 * t.val = c + t.val; omega

/-- An entry of the codes. -/
theorem codeT_apply (o s : FVec Ideal ⟨2, ![16, 128]⟩ .bf16) (hb hb0 hb1 hb2 h6) (k : Fin 16) (t : Fin 128) :
    CodeT o s hb hb0 hb1 hb2 h6 (ix2 k t) = Tile.clip ((o (ix2 k t) : EReal) * Ideal.div 1 (s (ix2 k t))) := by
  show min (Ideal.ofBits .f32 0x43E00000#32) (max (Ideal.ofBits .f32 0xC3E00000#32)
    (_ * Ideal.div (Ideal.ofBits .f32 0x3F800000#32) _)) = _
  rw [Consts.ofBits_448, Consts.ofBits_neg448, Consts.ofBits_1]
  rfl

/-- What is stored of the codes of sixteen rows of one head. -/
theorem codePiece {N r c : ℕ} (side : 0 < N ∧ r + 16 ≤ 768 ∧ c + 128 ≤ N) (x s : Vec Ideal ⟨3, ![1, 768, N]⟩ .bf16)
    {mx ms : Memref sig κ sp ⟨3, ![1, 768, N]⟩ .bf16} (hx : mx.IsWhole) (hs : ms.IsWhole) {ix is i h h' hb hb0 hb1 hb2 h6}
    {h2 : (⟨2, ![16, 128]⟩ : Shape).ShapeCasts ⟨3, ![1, 16, 128]⟩} (y) :
    shapeCast ⟨3, ![1, 16, 128]⟩ (CodeT (Rows (r := r) (c := c) x hx ix h) (Rows (r := r) (c := c) s hs is h') hb hb0 hb1 hb2 h6) h2 y
    = C x s ((Rect.unit (s := ⟨3, ![1, 768, N]⟩) ![0, r, c] (⟨3, ![1, 16, 128]⟩ : Shape).size i).emb y) := by
  obtain ⟨hN, hr, hc⟩ := side
  obtain ⟨z, k, t, rfl⟩ : ∃ (z : Fin 1) (k : Fin 16) (t : Fin 128), y = ix3 z k t :=
    ⟨y 0, y 1, y 2, by funext i; match i with | 0 => rfl | 1 => rfl | 2 => rfl⟩
  refine (Tile.add1 _ h2 z k t).trans ((codeT_apply _ _ _ _ _ _ _ k t).trans ?_)
  rw [rows_apply hN hr hc, rows_apply hN hr hc]
  have e : (Rect.unit (s := ⟨3, ![1, 768, N]⟩) ![0, r, c] (⟨3, ![1, 16, 128]⟩ : Shape).size i).emb (ix3 z k t)
      = ix3 0 ⟨r + k.val, by omega⟩ ⟨c + t.val, by omega⟩ := by
    funext a; refine Fin.ext ?_
    match a with
    | 0 => show 0 + 1 * z.val = 0; omega
    | 1 => show r + 1 * k.val = r + k.val; omega
    | 2 => show c + 1 * t.val = c + t.val; omega
  rw [e]
  rfl

/-- Sixteen rows of words: codes times scales. -/
theorem word_apply {N r c : ℕ} (hN : N ≠ 0) (hr : r + 16 ≤ 768) (hc : c + 128 ≤ N) (x s : Vec Ideal ⟨3, ![1, 768, N]⟩ .bf16)
    {mx ms : Memref sig κ sp ⟨3, ![1, 768, N]⟩ .bf16} (hx : mx.IsWhole) (hs : ms.IsWhole) {ix is h h' hb hb0 hb1 hb2 h6}
    (k : Fin 16) (t : Fin 128) :
    mulf (extf .bf16 (CodeT (Rows (r := r) (c := c) x hx ix h) (Rows (r := r) (c := c) s hs is h') hb hb0 hb1 hb2 h6) h6)
      (Rows (r := r) (c := c) s hs is h') (ix2 k t)
    = haveI : NeZero N := ⟨hN⟩; D x s (ix3 0 (Fin.ofNat 768 (r + k.val)) (Fin.ofNat N (c + t.val))) := by
  have e0 : ∀ (a b : FVec Ideal ⟨2, ![16, 128]⟩ .bf16), (mulf a b (ix2 k t) : EReal) = (a (ix2 k t) : EReal) * (b (ix2 k t) : EReal) :=
    fun _ _ => rfl
  refine (e0 _ _).trans ((congrArg (fun w : EReal => w * _) (codeT_apply _ _ hb hb0 hb1 hb2 h6 k t)).trans ?_)
  rw [rows_apply (Nat.pos_of_ne_zero hN) hr hc, rows_apply (Nat.pos_of_ne_zero hN) hr hc]
  have f1 : (⟨r + k.val, by omega⟩ : Fin 768) = Fin.ofNat 768 (r + k.val) := Fin.ext (Nat.mod_eq_of_lt (by omega)).symm
  have f2 : (⟨c + t.val, by omega⟩ : Fin N) = (haveI : NeZero N := ⟨hN⟩; Fin.ofNat N (c + t.val)) :=
    Fin.ext (Nat.mod_eq_of_lt (by omega)).symm
  rw [f1, f2]
  rfl

/-- The words stored of the queries. -/
theorem queryWords {r c : ℕ} (side : r + 16 ≤ 768 ∧ c + 128 ≤ 640) (x s : Vec Ideal ⟨3, ![1, 768, 640]⟩ .bf16)
    {mx ms : Memref sig κ sp ⟨3, ![1, 768, 640]⟩ .bf16} (hx : mx.IsWhole) (hs : ms.IsWhole) {ix is h h' hb hb0 hb1 hb2 h6}
    {h2 : (⟨2, ![16, 128]⟩ : Shape).ShapeCasts ⟨3, ![1, 16, 128]⟩} (k : Fin 16) (t : Fin 128) :
    shapeCast ⟨3, ![1, 16, 128]⟩ (mulf (extf .bf16 (CodeT (Rows (r := r) (c := c) x hx ix h) (Rows (r := r) (c := c) s hs is h')
      hb hb0 hb1 hb2 h6) h6) (Rows (r := r) (c := c) s hs is h')) h2 (ix3 0 k t)
    = D x s (ix3 0 (Fin.ofNat 768 (r + k.val)) (Fin.ofNat 640 (c + t.val))) :=
  (Tile.add1 _ h2 0 k t).trans (word_apply (by decide) side.1 side.2 x s hx hs k t)

/-- The words stored of the keys. -/
theorem keyWords {r : ℕ} (side : r + 16 ≤ 768) (x s : Vec Ideal ⟨3, ![1, 768, 128]⟩ .bf16)
    {mx ms : Memref sig κ sp ⟨3, ![1, 768, 128]⟩ .bf16} (hx : mx.IsWhole) (hs : ms.IsWhole) {ix is h h' hb hb0 hb1 hb2 h6}
    {h2 : (⟨2, ![16, 128]⟩ : Shape).ShapeCasts ⟨2, ![16, 128]⟩} (k : Fin 16) (t : Fin 128) :
    shapeCast ⟨2, ![16, 128]⟩ (mulf (extf .bf16 (CodeT (Rows (r := r) (c := 0) x hx ix h) (Rows (r := r) (c := 0) s hs is h')
      hb hb0 hb1 hb2 h6) h6) (Rows (r := r) (c := 0) s hs is h')) h2 (ix2 k t)
    = D x s (ix3 0 (Fin.ofNat 768 (r + k.val)) (Fin.ofNat 128 (0 + t.val))) :=
  (congrFun (shapeCast_self _ _) _).trans (word_apply (by decide) side (by decide) x s hx hs k t)

/-- The scale's first lane. -/
theorem scaleLoad {m5 : Memref sig κ sp ⟨3, ![1, 1, 128]⟩ .f32} (hm5 : m5.IsWhole) {i5}
    (h2 : (⟨3, ![1, 1, 128]⟩ : Shape).ShapeCasts ⟨2, ![1, 128]⟩) :
    shapeCast ⟨2, ![1, 128]⟩ (View.readAt (Elt Ideal) m5.view
      (Rect.unit (s := ⟨3, ![1, 1, 128]⟩) ![0, 0, 0] (⟨3, ![1, 1, 128]⟩ : Shape).size i5).toLoadRect (hm5.unread x3)) h2 (ix2 0 0)
    = x3 (ix3 0 0 0) := by
  refine (Tile.drop1 _ h2 0 0).trans ((Memref.IsWhole.readAt_unread hm5 x3 _ _).trans (congrArg x3 ?_))
  funext a; refine Fin.ext ?_
  match a with
  | 0 => rfl
  | 1 => rfl
  | 2 => rfl

end Operands

/-! ## A unit -/

section Units

variable {sig : RefSig} {κ : Kind} {sp : Space}

/-- The words of a unit's outputs: values times weights, times scale over sums. -/
abbrev OT {n : ℕ} (vt : FVec Ideal ⟨2, ![128, n]⟩ .fp8e4m3) (p : FVec Ideal ⟨2, ![n, 256]⟩ .fp8e4m3)
    (v3 : FVec Ideal ⟨2, ![1, 128]⟩ .f32) (l : FVec Ideal ⟨3, ![1, 1, 256]⟩ .f32)
    (h1 : (⟨3, ![1, 1, 256]⟩ : Shape).ShapeCasts ⟨2, ![1, 256]⟩)
    (h2 : (⟨2, ![1, 128]⟩ : Shape).Slices ![0, 0] ⟨2, ![1, 1]⟩)
    (h3 : (⟨2, ![1, 1]⟩ : Shape).Broadcasts ⟨2, ![1, 256]⟩) (h4 : (⟨2, ![1, 256]⟩ : Shape).Broadcasts ⟨2, ![128, 256]⟩)
    (hb : FTy.bits .bf16 < FTy.bits .f32) : FVec Ideal ⟨2, ![128, 256]⟩ .bf16 :=
  truncf .bf16 (mulf (matmul (DotDims.plain 128 n 256) none vt p (constant ⟨2, ![128, 256]⟩ .f32 0x00000000#32))
      (broadcastTo ⟨2, ![128, 256]⟩ (divf (broadcastTo ⟨2, ![1, 256]⟩ (extractStridedSlice ⟨2, ![1, 1]⟩ ![0, 0] v3 h2) h3)
        (shapeCast ⟨2, ![1, 256]⟩ l h1)) h4)) hb

/-- A tile's clipped weights, from the tile as loaded and as computed. -/
abbrev Codes {n m : ℕ} (s a : FVec Ideal ⟨2, ![n, 128]⟩ .f32)
    (h1 : (⟨2, ![n, 128]⟩ : Shape).ShapeCasts ⟨3, ![m, 8, 128]⟩)
    (r1 : (⟨3, ![m, 8, 128]⟩ : Shape).Reduces [0] ⟨2, ![8, 128]⟩) (r2 : (⟨2, ![8, 128]⟩ : Shape).Reduces [0] ⟨1, ![128]⟩)
    (h2 : (⟨1, ![128]⟩ : Shape).ShapeCasts ⟨2, ![1, 128]⟩)
    (hb : (⟨2, ![1, 128]⟩ : Shape).Broadcasts ⟨2, ![n, 128]⟩) (ht : FTy.bits .fp8e4m3 < FTy.bits .f32)
    (hc : (⟨2, ![n, 128]⟩ : Shape).ShapeCasts ⟨2, ![n, 128]⟩) : FVec Ideal ⟨2, ![n, 128]⟩ .fp8e4m3 :=
  shapeCast ⟨2, ![n, 128]⟩ (truncf .fp8e4m3 (minimumf (broadcast ⟨2, ![n, 128]⟩ (Scalar.ofBits .f32 0x43E00000#32 : Ideal .f32))
      (maximumf (broadcast ⟨2, ![n, 128]⟩ (Scalar.ofBits .f32 0xC3E00000#32 : Ideal .f32)) (Exp s a h1 r1 r2 h2 hb))) ht) hc

/-- A tile's sums of weights, from the tile as loaded and as computed. -/
abbrev Sums {n m : ℕ} (s a : FVec Ideal ⟨2, ![n, 128]⟩ .f32)
    (h1 : (⟨2, ![n, 128]⟩ : Shape).ShapeCasts ⟨3, ![m, 8, 128]⟩)
    (r1 : (⟨3, ![m, 8, 128]⟩ : Shape).Reduces [0] ⟨2, ![8, 128]⟩) (r2 : (⟨2, ![8, 128]⟩ : Shape).Reduces [0] ⟨1, ![128]⟩)
    (h2 : (⟨1, ![128]⟩ : Shape).ShapeCasts ⟨2, ![1, 128]⟩)
    (hb : (⟨2, ![1, 128]⟩ : Shape).Broadcasts ⟨2, ![n, 128]⟩)
    (hc : (⟨2, ![1, 128]⟩ : Shape).ShapeCasts ⟨3, ![1, 1, 128]⟩) : FVec Ideal ⟨3, ![1, 1, 128]⟩ .f32 :=
  shapeCast ⟨3, ![1, 1, 128]⟩ (shapeCast ⟨2, ![1, 128]⟩ (multiReduction .add [0] ⟨1, ![128]⟩
      (multiReduction .add [0] ⟨2, ![8, 128]⟩ (shapeCast ⟨3, ![m, 8, 128]⟩ (Exp s a h1 r1 r2 h2 hb) h1) 0x00000000#32 r1 (.inl rfl) rfl)
      0x00000000#32 r2 (.inl rfl) rfl) h2) hc

/-- A unit of two tiles of equal width: its outputs, from its two masked score tiles. -/
theorem unit2 {n m : ℕ} (u : ℕ) (hm : n = m * 8) (hn : n ≤ 768) (hi : ∀ q, q < 256 → rw' u q < n)
    {t0 t1 s0 s1 : FVec Ideal ⟨2, ![n, 128]⟩ .f32} {vt : FVec Ideal ⟨2, ![128, n]⟩ .fp8e4m3}
    {p : FVec Ideal ⟨2, ![n, 256]⟩ .fp8e4m3} {v3 : FVec Ideal ⟨2, ![1, 128]⟩ .f32} {l : FVec Ideal ⟨3, ![1, 1, 256]⟩ .f32}
    {hS h1 r1 r2 h2 hb ht hc hd1 o1 o2 o3 o4 o5} {L0 L1 : List (View.Piece (Elt Ideal) ⟨2, ![768, 256]⟩ .f32)}
    {Lp : List (View.Piece (Elt Ideal) ⟨2, ![768, 256]⟩ .fp8e4m3)} {Ll : List (View.Piece (Elt Ideal) ⟨3, ![2, 16, 256]⟩ .f32)}
    {vs : View sig κ sp ⟨2, ![768, 256]⟩ .f32} {vp : View sig κ sp ⟨2, ![768, 256]⟩ .fp8e4m3}
    {vl : View sig κ sp ⟨3, ![2, 16, 256]⟩ .f32} {a0 a1 b0 b1 b2 c1 c2 c3 c4 c5} {m0 m1 : Vec Ideal ⟨3, ![1, 1, 128]⟩ .f32}
    (hv : ∀ (d : Fin 128) (k : Fin n), vt (ix2 d k) = V x2 x3 d k.val) (h3 : v3 (ix2 0 0) = x3 (ix3 0 0 0))
    (ep : p = vp.readCov (⟨Rect.unit ![0, 128] (⟨2, ![n, 128]⟩ : Shape).size b1, Codes (m := m) s1 t1 h1 r1 r2 h2 hb ht hc⟩
      :: ⟨Rect.unit ![0, 0] (⟨2, ![n, 128]⟩ : Shape).size b0, Codes (m := m) s0 t0 h1 r1 r2 h2 hb ht hc⟩ :: Lp)
      (Rect.unit (s := ⟨2, ![768, 256]⟩) ![0, 0] (⟨2, ![n, 256]⟩ : Shape).size b2).toLoadRect)
    (el : l = vl.readCov (⟨Rect.unit ![1, u, 128] (⟨3, ![1, 1, 128]⟩ : Shape).size c1, Sums (m := m) s1 t1 h1 r1 r2 h2 hb hd1⟩
      :: ⟨Rect.unit ![0, u, 128] (⟨3, ![1, 1, 128]⟩ : Shape).size c2, m1⟩
      :: ⟨Rect.unit ![1, u, 0] (⟨3, ![1, 1, 128]⟩ : Shape).size c3, Sums (m := m) s0 t0 h1 r1 r2 h2 hb hd1⟩
      :: ⟨Rect.unit ![0, u, 0] (⟨3, ![1, 1, 128]⟩ : Shape).size c4, m0⟩ :: Ll)
      (Rect.unit (s := ⟨3, ![2, 16, 256]⟩) ![1, u, 0] (⟨3, ![1, 1, 256]⟩ : Shape).size c5).toLoadRect)
    (e0 : s0 = vs.readCov (⟨Rect.unit ![0, 0] (⟨2, ![n, 128]⟩ : Shape).size a0, shapeCast ⟨2, ![n, 128]⟩ t0 hS⟩ :: L0)
      (Rect.unit (s := ⟨2, ![768, 256]⟩) ![0, 0] (⟨2, ![n, 128]⟩ : Shape).size a0).toLoadRect)
    (e1 : s1 = vs.readCov (⟨Rect.unit ![0, 128] (⟨2, ![n, 128]⟩ : Shape).size a1, shapeCast ⟨2, ![n, 128]⟩ t1 hS⟩ :: L1)
      (Rect.unit (s := ⟨2, ![768, 256]⟩) ![0, 128] (⟨2, ![n, 128]⟩ : Shape).size a1).toLoadRect)
    (g0 : ∀ (k : Fin n) (q : Fin 128), t0 (ix2 k q) = S x0 x1 (hd u (0 + q.val)) (rw' u (0 + q.val)) k.val)
    (g1 : ∀ (k : Fin n) (q : Fin 128), t1 (ix2 k q) = S x0 x1 (hd u (128 + q.val)) (rw' u (128 + q.val)) k.val)
    (d : Fin 128) (q : Fin 256) :
    OT vt p v3 l o1 o2 o3 o4 o5 (ix2 d q) = O x0 x1 x2 x3 (hd u q.val) (rw' u q.val) d := by
  have f0 : s0 = t0 := e0.trans ((View.readCov_cons_toLoadRect vs _ _ L0).trans (shapeCast_self _ _))
  have f1 : s1 = t1 := e1.trans ((View.readCov_cons_toLoadRect vs _ _ L1).trans (shapeCast_self _ _))
  clear e0 e1
  subst f0 f1
  have i0 : ∀ q, q < 128 → rw' u (0 + q) < n := fun q hq => hi _ (by omega)
  have i1 : ∀ q, q < 128 → rw' u (128 + q) < n := fun q hq => hi _ (by omega)
  refine outs x0 x1 x2 x3 u hn vt p v3 l o1 o2 o3 o4 o5 hv (fun k q => ?_) (fun q => ?_) h3 hi d q
  · rw [ep]
    exact read2 (fun q k => Tile.clip (W x0 x1 (hd u q) (rw' u q) k)) vp _ _ _ _ _ Lp
      (codes x0 x1 hm hn (fun q => hd u (0 + q)) (fun q => rw' u (0 + q)) s0 s0 h1 r1 r2 h2 hb ht hc g0 g0 i0)
      (codes x0 x1 hm hn (fun q => hd u (128 + q)) (fun q => rw' u (128 + q)) s1 s1 h1 r1 r2 h2 hb ht hc g1 g1 i1) k q
  · rw [el]
    exact readSums (fun q => L x0 x1 (hd u q) (rw' u q)) vl _ _ _ _ _ _ _ _ _ Ll
      (sums x0 x1 hm hn (fun q => hd u (0 + q)) (fun q => rw' u (0 + q)) s0 s0 h1 h1 r1 r1 r2 r2 h2 h2 hb hd1 g0 g0 i0)
      (sums x0 x1 hm hn (fun q => hd u (128 + q)) (fun q => rw' u (128 + q)) s1 s1 h1 h1 r1 r1 r2 r2 h2 h2 hb hd1 g1 g1 i1) q

/-- A unit whose first tile is narrower: the rows past it are filled with zero. -/
theorem unit3 {n m e w z : ℕ} (u : ℕ) (hz : n = e + z) (hm : n = m * 8) (hw : e = w * 8) (hn : n ≤ 768)
    (hi : ∀ q, q < 256 → rw' u q < n) (hi0 : ∀ q, q < 128 → rw' u q < e)
    {t0 s0 : FVec Ideal ⟨2, ![e, 128]⟩ .f32} {t1 s1 : FVec Ideal ⟨2, ![n, 128]⟩ .f32} {vt : FVec Ideal ⟨2, ![128, n]⟩ .fp8e4m3}
    {p : FVec Ideal ⟨2, ![n, 256]⟩ .fp8e4m3} {v3 : FVec Ideal ⟨2, ![1, 128]⟩ .f32} {l : FVec Ideal ⟨3, ![1, 1, 256]⟩ .f32}
    {hS h1 r1 r2 h2 hb ht hc hd1 hS0 h10 r10 hb0 hc0 hcz o1 o2 o3 o4 o5} {L0 L1 : List (View.Piece (Elt Ideal) ⟨2, ![768, 256]⟩ .f32)}
    {Lp : List (View.Piece (Elt Ideal) ⟨2, ![768, 256]⟩ .fp8e4m3)} {Ll : List (View.Piece (Elt Ideal) ⟨3, ![2, 16, 256]⟩ .f32)}
    {vs : View sig κ sp ⟨2, ![768, 256]⟩ .f32} {vp : View sig κ sp ⟨2, ![768, 256]⟩ .fp8e4m3}
    {vl : View sig κ sp ⟨3, ![2, 16, 256]⟩ .f32} {a0 a1 b0 b1 b2 b3 c1 c2 c3 c4 c5} {m0 m1 : Vec Ideal ⟨3, ![1, 1, 128]⟩ .f32}
    (hv : ∀ (d : Fin 128) (k : Fin n), vt (ix2 d k) = V x2 x3 d k.val) (h3 : v3 (ix2 0 0) = x3 (ix3 0 0 0))
    (ep : p = vp.readCov (⟨Rect.unit ![0, 128] (⟨2, ![n, 128]⟩ : Shape).size b1, Codes (m := m) s1 t1 h1 r1 r2 h2 hb ht hc⟩
      :: ⟨Rect.unit ![e, 0] (⟨2, ![z, 128]⟩ : Shape).size b3, shapeCast ⟨2, ![z, 128]⟩
          (broadcast ⟨2, ![z, 128]⟩ (Scalar.ofBits .fp8e4m3 0x00#8 : Ideal .fp8e4m3)) hcz⟩
      :: ⟨Rect.unit ![0, 0] (⟨2, ![e, 128]⟩ : Shape).size b0, Codes (m := w) s0 t0 h10 r10 r2 h2 hb0 ht hc0⟩ :: Lp)
      (Rect.unit (s := ⟨2, ![768, 256]⟩) ![0, 0] (⟨2, ![n, 256]⟩ : Shape).size b2).toLoadRect)
    (el : l = vl.readCov (⟨Rect.unit ![1, u, 128] (⟨3, ![1, 1, 128]⟩ : Shape).size c1, Sums (m := m) s1 t1 h1 r1 r2 h2 hb hd1⟩
      :: ⟨Rect.unit ![0, u, 128] (⟨3, ![1, 1, 128]⟩ : Shape).size c2, m1⟩
      :: ⟨Rect.unit ![1, u, 0] (⟨3, ![1, 1, 128]⟩ : Shape).size c3, Sums (m := w) s0 t0 h10 r10 r2 h2 hb0 hd1⟩
      :: ⟨Rect.unit ![0, u, 0] (⟨3, ![1, 1, 128]⟩ : Shape).size c4, m0⟩ :: Ll)
      (Rect.unit (s := ⟨3, ![2, 16, 256]⟩) ![1, u, 0] (⟨3, ![1, 1, 256]⟩ : Shape).size c5).toLoadRect)
    (e0 : s0 = vs.readCov (⟨Rect.unit ![0, 0] (⟨2, ![e, 128]⟩ : Shape).size a0, shapeCast ⟨2, ![e, 128]⟩ t0 hS0⟩ :: L0)
      (Rect.unit (s := ⟨2, ![768, 256]⟩) ![0, 0] (⟨2, ![e, 128]⟩ : Shape).size a0).toLoadRect)
    (e1 : s1 = vs.readCov (⟨Rect.unit ![0, 128] (⟨2, ![n, 128]⟩ : Shape).size a1, shapeCast ⟨2, ![n, 128]⟩ t1 hS⟩ :: L1)
      (Rect.unit (s := ⟨2, ![768, 256]⟩) ![0, 128] (⟨2, ![n, 128]⟩ : Shape).size a1).toLoadRect)
    (g0 : ∀ (k : Fin e) (q : Fin 128), t0 (ix2 k q) = S x0 x1 (hd u (0 + q.val)) (rw' u (0 + q.val)) k.val)
    (g1 : ∀ (k : Fin n) (q : Fin 128), t1 (ix2 k q) = S x0 x1 (hd u (128 + q.val)) (rw' u (128 + q.val)) k.val)
    (d : Fin 128) (q : Fin 256) :
    OT vt p v3 l o1 o2 o3 o4 o5 (ix2 d q) = O x0 x1 x2 x3 (hd u q.val) (rw' u q.val) d := by
  have f0 : s0 = t0 := e0.trans ((View.readCov_cons_toLoadRect vs _ _ L0).trans (shapeCast_self _ _))
  have f1 : s1 = t1 := e1.trans ((View.readCov_cons_toLoadRect vs _ _ L1).trans (shapeCast_self _ _))
  clear e0 e1
  subst f0 f1
  have i0 : ∀ q, q < 128 → rw' u (0 + q) < e := fun q hq => by rw [Nat.zero_add]; exact hi0 q hq
  have i1 : ∀ q, q < 128 → rw' u (128 + q) < n := fun q hq => hi _ (by omega)
  refine outs x0 x1 x2 x3 u hn vt p v3 l o1 o2 o3 o4 o5 hv (fun k q => ?_) (fun q => ?_) h3 hi d q
  · rw [ep]
    exact read3 hz (fun q k => Tile.clip (W x0 x1 (hd u q) (rw' u q) k)) vp _ _ _ _ _ _ _ Lp
      (codes x0 x1 hw (by omega) (fun q => hd u (0 + q)) (fun q => rw' u (0 + q)) s0 s0 h10 r10 r2 h2 hb0 ht hc0 g0 g0 i0)
      (fill x0 x1 e (fun q => hd u (0 + q)) (fun q => rw' u (0 + q)) i0 hcz)
      (codes x0 x1 hm hn (fun q => hd u (128 + q)) (fun q => rw' u (128 + q)) s1 s1 h1 r1 r2 h2 hb ht hc g1 g1 i1) k q
  · rw [el]
    exact readSums (fun q => L x0 x1 (hd u q) (rw' u q)) vl _ _ _ _ _ _ _ _ _ Ll
      (sums x0 x1 hw (by omega) (fun q => hd u (0 + q)) (fun q => rw' u (0 + q)) s0 s0 h10 h10 r10 r10 r2 r2 h2 h2 hb0 hd1 g0 g0 i0)
      (sums x0 x1 hm hn (fun q => hd u (128 + q)) (fun q => rw' u (128 + q)) s1 s1 h1 h1 r1 r1 r2 r2 h2 h2 hb hd1 g1 g1 i1) q

/-! ## The stored outputs -/

/-- The output block of a grid point. -/
def G (y : (⟨3, ![1, 768, 640]⟩ : Shape).Idx) : EReal :=
  O x0 x1 x2 x3 ((y 2).val / 128) (y 1).val (Fin.ofNat 128 (y 2).val)

/-- Sixty-four rows of one head, cut out of a unit's outputs. -/
theorem halfPiece {u r c a b : ℕ} {ot : FVec Ideal ⟨2, ![128, 256]⟩ .bf16}
    (h : ∀ (d : Fin 128) (q : Fin 256), ot (ix2 d q) = O x0 x1 x2 x3 (hd u q.val) (rw' u q.val) d)
    (side : u < 12 ∧ r = 64 * u ∧ c = 2 * (a + b) ∧ (a + b) % 64 = 0 ∧ a + b ≤ 192 ∧ a ≤ 64 ∧ b ≤ 128)
    {i1} {h1 : (⟨2, ![128, 256]⟩ : Shape).Slices ![0, b] ⟨2, ![128, 128]⟩}
    {h2 : (⟨2, ![128, 128]⟩ : Shape).Transposes [1, 0] ⟨2, ![128, 128]⟩}
    {h3 : (⟨2, ![128, 128]⟩ : Shape).Slices ![a, 0] ⟨2, ![64, 128]⟩}
    {h4 : (⟨2, ![64, 128]⟩ : Shape).ShapeCasts ⟨3, ![1, 64, 128]⟩} (x) :
    shapeCast ⟨3, ![1, 64, 128]⟩ (extractStridedSlice ⟨2, ![64, 128]⟩ ![a, 0] (transpose ⟨2, ![128, 128]⟩ [1, 0]
      (extractStridedSlice ⟨2, ![128, 128]⟩ ![0, b] ot h1) h2) h3) h4 x
    = G x0 x1 x2 x3 ((Rect.unit (s := ⟨3, ![1, 768, 640]⟩) ![0, r, c] (⟨3, ![1, 64, 128]⟩ : Shape).size i1).emb x) := by
  obtain ⟨hu, hr, hc, hab, hab', ha, hb⟩ := side
  obtain ⟨z, k, d, rfl⟩ : ∃ (z : Fin 1) (k : Fin 64) (d : Fin 128), x = ix3 z k d :=
    ⟨x 0, x 1, x 2, by funext i; match i with | 0 => rfl | 1 => rfl | 2 => rfl⟩
  have hk := k.isLt
  have hd' := d.isLt
  refine (Tile.add1 _ h4 z k d).trans ?_
  refine (Tile.cols _ h3 k d ⟨a + k.val, by omega⟩ d rfl (by simp)).trans ?_
  refine (Tile.flip _ h2 _ d).trans ?_
  refine (Tile.cols ot h1 d _ d ⟨b + (a + k.val), by omega⟩ (by simp) rfl).trans ?_
  rw [h]
  unfold G
  have e1 : hd u (b + (a + k.val)) = (c + 1 * d.val) / 128 := by unfold hd; rw [if_pos hu]; omega
  have e2 : rw' u (b + (a + k.val)) = r + 1 * k.val := by unfold rw'; rw [if_pos hu]; omega
  have e3 : d = Fin.ofNat 128 (c + 1 * d.val) := Fin.ext (by show d.val = (c + 1 * d.val) % 128; omega)
  show O x0 x1 x2 x3 (hd u (b + (a + k.val))) (rw' u (b + (a + k.val))) d
    = O x0 x1 x2 x3 ((c + 1 * d.val) / 128) (r + 1 * k.val) (Fin.ofNat 128 (c + 1 * d.val))
  rw [e1, e2, ← e3]

/-- A hundred and twenty-eight rows of the fifth head, cut out of a unit's outputs. -/
theorem wholePiece {u r b : ℕ} {ot : FVec Ideal ⟨2, ![128, 256]⟩ .bf16}
    (h : ∀ (d : Fin 128) (q : Fin 256), ot (ix2 d q) = O x0 x1 x2 x3 (hd u q.val) (rw' u q.val) d)
    (side : 12 ≤ u ∧ r = 256 * (u - 12) + b ∧ b ≤ 128)
    {i1} {h1 : (⟨2, ![128, 256]⟩ : Shape).Slices ![0, b] ⟨2, ![128, 128]⟩}
    {h2 : (⟨2, ![128, 128]⟩ : Shape).Transposes [1, 0] ⟨2, ![128, 128]⟩}
    {h4 : (⟨2, ![128, 128]⟩ : Shape).ShapeCasts ⟨3, ![1, 128, 128]⟩} (x) :
    shapeCast ⟨3, ![1, 128, 128]⟩ (transpose ⟨2, ![128, 128]⟩ [1, 0]
      (extractStridedSlice ⟨2, ![128, 128]⟩ ![0, b] ot h1) h2) h4 x
    = G x0 x1 x2 x3 ((Rect.unit (s := ⟨3, ![1, 768, 640]⟩) ![0, r, 512] (⟨3, ![1, 128, 128]⟩ : Shape).size i1).emb x) := by
  obtain ⟨hu, hr, hb⟩ := side
  obtain ⟨z, k, d, rfl⟩ : ∃ (z : Fin 1) (k : Fin 128) (d : Fin 128), x = ix3 z k d :=
    ⟨x 0, x 1, x 2, by funext i; match i with | 0 => rfl | 1 => rfl | 2 => rfl⟩
  have hk := k.isLt
  have hd' := d.isLt
  refine (Tile.add1 _ h4 z k d).trans ?_
  refine (Tile.flip _ h2 _ d).trans ?_
  refine (Tile.cols ot h1 d _ d ⟨b + k.val, by omega⟩ (by simp) rfl).trans ?_
  rw [h]
  unfold G
  have e1 : hd u (b + k.val) = (512 + 1 * d.val) / 128 := by unfold hd; rw [if_neg (by omega)]; omega
  have e2 : rw' u (b + k.val) = r + 1 * k.val := by unfold rw'; rw [if_neg (by omega)]; omega
  have e3 : d = Fin.ofNat 128 (512 + 1 * d.val) := Fin.ext (by show d.val = (512 + 1 * d.val) % 128; omega)
  show O x0 x1 x2 x3 (hd u (b + k.val)) (rw' u (b + k.val)) d
    = O x0 x1 x2 x3 ((512 + 1 * d.val) / 128) (r + 1 * k.val) (Fin.ofNat 128 (512 + 1 * d.val))
  rw [e1, e2, ← e3]

end Units

end Cert.Attn

end
-- ==== Proof.Arrays.lean ====
module
public import proofs.«01_k».proof.Proof.Parts

/-! The result arrays as functions of the arguments: the codes of the three inputs, the dequantised words of queries and
    keys, and the attention of every group. -/

@[expose] public section

noncomputable section

namespace Cert.Array

open Cert.Attn Idealize.ShloMosaic Idealize.ShloMosaic.ValueIdx

/-- Each query entry's scale: one per row and 32 columns. -/
def LQ (Q : (⟨3, ![2, 768, 160]⟩ : Shape).Idx → EReal) (i : (⟨3, ![2, 768, 5120]⟩ : Shape).Idx) : EReal :=
  Q (ix3 (i 0) (i 1) (Fin.ofNat 160 ((i 2).val / 32)))

/-- Each key entry's scale. -/
def LK (Q : (⟨3, ![2, 768, 32]⟩ : Shape).Idx → EReal) (i : (⟨3, ![2, 768, 1024]⟩ : Shape).Idx) : EReal :=
  Q (ix3 (i 0) (i 1) (Fin.ofNat 32 ((i 2).val / 32)))

/-- Each value entry's scale: one per batch entry and group. -/
def LV (Q : (⟨2, ![2, 8]⟩ : Shape).Idx → EReal) (i : (⟨3, ![2, 768, 1024]⟩ : Shape).Idx) : EReal :=
  Q (ix2 (i 0) (Fin.ofNat 8 ((i 2).val / 128)))

/-- A group's query columns. -/
def xb (X : (⟨3, ![2, 768, 5120]⟩ : Shape).Idx → EReal) (b g : ℕ) : (⟨3, ![1, 768, 640]⟩ : Shape).Idx → EReal :=
  fun j => X (ix3 (Fin.ofNat 2 b) (j 1) (Fin.ofNat 5120 (640 * g + (j 2).val)))

/-- A group's key or value columns. -/
def kb (K : (⟨3, ![2, 768, 1024]⟩ : Shape).Idx → EReal) (b g : ℕ) : (⟨3, ![1, 768, 128]⟩ : Shape).Idx → EReal :=
  fun j => K (ix3 (Fin.ofNat 2 b) (j 1) (Fin.ofNat 1024 (128 * g + (j 2).val)))

/-- A group's value scale, once per lane. -/
def sb (S : (⟨2, ![2, 8]⟩ : Shape).Idx → EReal) (b g : ℕ) : (⟨3, ![1, 1, 128]⟩ : Shape).Idx → EReal :=
  fun _ => S (ix2 (Fin.ofNat 2 b) (Fin.ofNat 8 g))

/-- The attention of query and key words. -/
def F (X : (⟨3, ![2, 768, 5120]⟩ : Shape).Idx → EReal) (K U : (⟨3, ![2, 768, 1024]⟩ : Shape).Idx → EReal)
    (S : (⟨2, ![2, 8]⟩ : Shape).Idx → EReal) (i : (⟨3, ![2, 768, 5120]⟩ : Shape).Idx) : EReal :=
  O (xb X (i 0).val ((i 2).val / 640)) (kb K (i 0).val ((i 2).val / 640)) (kb U (i 0).val ((i 2).val / 640))
    (sb S (i 0).val ((i 2).val / 640)) ((i 2).val % 640 / 128) (i 1).val (Fin.ofNat 128 (i 2).val)

end Cert.Array

end
-- ==== Proof.Blocks.lean ====
/-
  The kernel's three operand buffers after their stores: queries, keys, quantised values.
-/
module

public import proofs.«01_k».proof.Proof.Parts
public import proofs.«01_k».proof.Proof.Gen.KernelIdeal.Frame.RunA

@[expose] public section

set_option maxRecDepth 16384

noncomputable section

namespace Cert.KernelIdeal.Gen

open Idealize.ShloMosaic Idealize.ShloMosaic.TcCoe Idealize.ShloMosaic.ValueIdx
open Cert.Attn

variable (c : Dev nD)
  (arg2 : Memref sig .tc .vmem S1x768x640 .bf16) (harg2 : arg2.IsWhole)
  (arg3 : Memref sig .tc .vmem S1x768x128 .bf16) (harg3 : arg3.IsWhole)
  (arg4 : Memref sig .tc .vmem S1x768x128 .bf16) (harg4 : arg4.IsWhole)
  (arg5 : Memref sig .tc .vmem S1x768x640 .bf16) (harg5 : arg5.IsWhole)
  (arg6 : Memref sig .tc .vmem S1x768x128 .bf16) (harg6 : arg6.IsWhole)
  (arg7 : Memref sig .tc .vmem S1x1x128 .f32) (harg7 : arg7.IsWhole)
  (x0 : Vec Ideal S1x768x640 .bf16) (x1 x2 : Vec Ideal S1x768x128 .bf16) (x3 : Vec Ideal S1x768x640 .bf16)
  (x4 : Vec Ideal S1x768x128 .bf16) (x5 : Vec Ideal S1x1x128 .f32)

set_option maxHeartbeats 4000000 in
/-- The key buffer holds the key words. -/
theorem keys : KGood (D x1 x4) 48 (kernelRun0_A.sl.HS1_48 c arg3 harg3 arg6 harg6 x1 x4) := by
  unfold kernelRun0_A.sl.HS1_48
  iterate 48 refine kStep (D x1 x4) (by decide) rfl (keyWords (by decide) x1 x4 harg3 harg6) ?_
  exact kBase (D x1 x4) _

set_option maxHeartbeats 40000000 in
/-- The query buffer holds each unit's query words. -/
theorem queries : QGood (D x0 x3) 240 (kernelRun0_A.sl.HS0_240 c arg2 harg2 arg5 harg5 x0 x3) := by
  unfold kernelRun0_A.sl.HS0_240
  iterate 240 refine qStep (D x0 x3) (by decide) rfl rfl rfl rfl (queryWords (by decide) x0 x3 harg2 harg5) ?_
  exact qBase (D x0 x3) _

/-- The value buffer holds the quantised values, transposed. -/
theorem values : VGood x2 x5 6 (kernelRun0_A.sl.HS2_6 c arg4 harg4 arg7 harg7 x2 x5) := by
  unfold kernelRun0_A.sl.HS2_6
  iterate 6 refine vStep x2 x5 (by decide) rfl (valueTile x2 x5 (by decide) harg4 harg7 _ _ _ _ _ _ _ _ _ _) ?_
  exact vBase x2 x5 _

/-- The row numbers of the diagonal block. -/
theorem rows (k q : Fin 128) : kernelRun0_A.sl.v6967 (ix2 k q) = BitVec.ofNat 32 k.val := iota0 _ k q

/-- The column numbers of the diagonal block. -/
theorem colsOf (k q : Fin 128) : kernelRun0_A.sl.v6968 (ix2 k q) = BitVec.ofNat 32 q.val := iota1 _ k q

end Cert.KernelIdeal.Gen

end
-- ==== Proof.Units.lean ====
/-
  The outputs of the kernel's fifteen units, each an instance of one of the two theorems on units.
-/
module

public import proofs.«01_k».proof.Proof.Blocks

@[expose] public section

set_option maxRecDepth 16384

noncomputable section

namespace Cert.KernelIdeal.Gen

open Idealize.ShloMosaic Idealize.ShloMosaic.TcCoe Idealize.ShloMosaic.ValueIdx
open Cert.Attn

variable (c : Dev nD)
  (arg2 : Memref sig .tc .vmem S1x768x640 .bf16) (harg2 : arg2.IsWhole)
  (arg3 : Memref sig .tc .vmem S1x768x128 .bf16) (harg3 : arg3.IsWhole)
  (arg4 : Memref sig .tc .vmem S1x768x128 .bf16) (harg4 : arg4.IsWhole)
  (arg5 : Memref sig .tc .vmem S1x768x640 .bf16) (harg5 : arg5.IsWhole)
  (arg6 : Memref sig .tc .vmem S1x768x128 .bf16) (harg6 : arg6.IsWhole)
  (arg7 : Memref sig .tc .vmem S1x1x128 .f32) (harg7 : arg7.IsWhole)
  (arg12 : Memref sig .tc .vmem S15x256x128 .bf16) (arg13 : Memref sig .tc .vmem S768x128 .bf16)
  (arg14 : Memref sig .tc .vmem S128x768 .fp8e4m3) (arg15 : Memref sig .tc .vmem S768x256 .f32)
  (arg16 : Memref sig .tc .vmem S768x256 .fp8e4m3) (arg17 : Memref sig .tc .vmem S2x16x256 .f32)
  (x0 : Vec Ideal S1x768x640 .bf16) (x1 x2 : Vec Ideal S1x768x128 .bf16) (x3 : Vec Ideal S1x768x640 .bf16)
  (x4 : Vec Ideal S1x768x128 .bf16) (x5 : Vec Ideal S1x1x128 .f32)

/-- The outputs of unit 0, of 64 keys. -/
theorem unit_0 (h1 h2 h3 h4 hb) (d : Fin 128) (q : Fin 256) :
    OT (n := 64) (kernelRun0_A.sl.v7059 c arg4 harg4 arg7 harg7 arg14 x2 x5)
      (kernelRun0_A.sl.v7060 c arg2 harg2 arg3 harg3 arg5 harg5 arg6 harg6 arg12 arg13 arg15 arg16 x0 x1 x3 x4)
      (kernelRun0_A.sl.v3 c arg7 harg7 x5)
      (kernelRun0_A.sl.v7062 c arg2 harg2 arg3 harg3 arg5 harg5 arg6 harg6 arg12 arg13 arg15 arg17 x0 x1 x3 x4) h1 h2 h3 h4 hb (ix2 d q)
    = O (D x0 x3) (D x1 x4) x2 x5 (hd 0 q.val) (rw' 0 q.val) d := by
  have kv := keyLoad (D x1 x4) (n := 64) (by decide) (keys c arg3 harg3 arg6 harg6 x1 x4) arg13.view (by decide)
  have qv := queryLoad (D x0 x3) 0 (by decide) (queries c arg2 harg2 arg5 harg5 x0 x3) arg12.view (by decide)
  apply unit2 (n := 64) (m := 8) (D x0 x3) (D x1 x4) x2 x5 0 rfl (by decide) (by decide)
    (valueLoad x2 x5 (by decide) (values c arg4 harg4 arg7 harg7 x2 x5) arg14.view _) (scaleLoad x5 harg7 _)
  · rfl
  · rfl
  · rfl
  · rfl
  · exact tilePlain (D x0 x3) (D x1 x4) 0 (.inl rfl) (by decide) (by decide) _ (acc (D x0 x3) (D x1 x4) 0 _ _ _ kv qv) (by decide) (by decide) _ _ _ rfl (iota0_half (by decide) (by decide)) (iota1_half (by decide) (by decide))
  · exact tilePlain (D x0 x3) (D x1 x4) 0 (.inl rfl) (by decide) (by decide) _ (acc (D x0 x3) (D x1 x4) 0 _ _ _ kv qv) (by decide) (by decide) _ _ _ rfl (iota0_half (by decide) (by decide)) (iota1_half (by decide) (by decide))
  all_goals decide

/-- The outputs of unit 1, of 128 keys. -/
theorem unit_1 (h1 h2 h3 h4 hb) (d : Fin 128) (q : Fin 256) :
    OT (n := 128) (kernelRun0_A.sl.v7186 c arg4 harg4 arg7 harg7 arg14 x2 x5)
      (kernelRun0_A.sl.v7187 c arg2 harg2 arg3 harg3 arg5 harg5 arg6 harg6 arg12 arg13 arg15 arg16 x0 x1 x3 x4)
      (kernelRun0_A.sl.v3 c arg7 harg7 x5)
      (kernelRun0_A.sl.v7189 c arg2 harg2 arg3 harg3 arg5 harg5 arg6 harg6 arg12 arg13 arg15 arg17 x0 x1 x3 x4) h1 h2 h3 h4 hb (ix2 d q)
    = O (D x0 x3) (D x1 x4) x2 x5 (hd 1 q.val) (rw' 1 q.val) d := by
  have kv := keyLoad (D x1 x4) (n := 128) (by decide) (keys c arg3 harg3 arg6 harg6 x1 x4) arg13.view (by decide)
  have qv := queryLoad (D x0 x3) 1 (by decide) (queries c arg2 harg2 arg5 harg5 x0 x3) arg12.view (by decide)
  apply unit2 (n := 128) (m := 16) (D x0 x3) (D x1 x4) x2 x5 1 rfl (by decide) (by decide)
    (valueLoad x2 x5 (by decide) (values c arg4 harg4 arg7 harg7 x2 x5) arg14.view _) (scaleLoad x5 harg7 _)
  · rfl
  · rfl
  · rfl
  · rfl
  · exact tileCat (D x0 x3) (D x1 x4) 1 (.inl rfl) rfl (by decide) (by decide) _ (acc (D x0 x3) (D x1 x4) 1 _ _ _ kv qv) (by decide) (by decide) (by decide) (by decide) (by decide) _ _ _ rfl (iota0_half (by decide) (by decide)) (iota1_half (by decide) (by decide))
  · exact tileCat (D x0 x3) (D x1 x4) 1 (.inl rfl) rfl (by decide) (by decide) _ (acc (D x0 x3) (D x1 x4) 1 _ _ _ kv qv) (by decide) (by decide) (by decide) (by decide) (by decide) _ _ _ rfl (iota0_half (by decide) (by decide)) (iota1_half (by decide) (by decide))
  all_goals decide

/-- The outputs of unit 2, of 192 keys. -/
theorem unit_2 (h1 h2 h3 h4 hb) (d : Fin 128) (q : Fin 256) :
    OT (n := 192) (kernelRun0_A.sl.v7313 c arg4 harg4 arg7 harg7 arg14 x2 x5)
      (kernelRun0_A.sl.v7314 c arg2 harg2 arg3 harg3 arg5 harg5 arg6 harg6 arg12 arg13 arg15 arg16 x0 x1 x3 x4)
      (kernelRun0_A.sl.v3 c arg7 harg7 x5)
      (kernelRun0_A.sl.v7316 c arg2 harg2 arg3 harg3 arg5 harg5 arg6 harg6 arg12 arg13 arg15 arg17 x0 x1 x3 x4) h1 h2 h3 h4 hb (ix2 d q)
    = O (D x0 x3) (D x1 x4) x2 x5 (hd 2 q.val) (rw' 2 q.val) d := by
  have kv := keyLoad (D x1 x4) (n := 192) (by decide) (keys c arg3 harg3 arg6 harg6 x1 x4) arg13.view (by decide)
  have qv := queryLoad (D x0 x3) 2 (by decide) (queries c arg2 harg2 arg5 harg5 x0 x3) arg12.view (by decide)
  apply unit2 (n := 192) (m := 24) (D x0 x3) (D x1 x4) x2 x5 2 rfl (by decide) (by decide)
    (valueLoad x2 x5 (by decide) (values c arg4 harg4 arg7 harg7 x2 x5) arg14.view _) (scaleLoad x5 harg7 _)
  · rfl
  · rfl
  · rfl
  · rfl
  · exact tileCat (D x0 x3) (D x1 x4) 2 (.inl rfl) rfl (by decide) (by decide) _ (acc (D x0 x3) (D x1 x4) 2 _ _ _ kv qv) (by decide) (by decide) (by decide) (by decide) (by decide) _ _ _ rfl (iota0_half (by decide) (by decide)) (iota1_half (by decide) (by decide))
  · exact tileCat (D x0 x3) (D x1 x4) 2 (.inl rfl) rfl (by decide) (by decide) _ (acc (D x0 x3) (D x1 x4) 2 _ _ _ kv qv) (by decide) (by decide) (by decide) (by decide) (by decide) _ _ _ rfl (iota0_half (by decide) (by decide)) (iota1_half (by decide) (by decide))
  all_goals decide

/-- The outputs of unit 3, of 256 keys. -/
theorem unit_3 (h1 h2 h3 h4 hb) (d : Fin 128) (q : Fin 256) :
    OT (n := 256) (kernelRun0_A.sl.v7440 c arg4 harg4 arg7 harg7 arg14 x2 x5)
      (kernelRun0_A.sl.v7441 c arg2 harg2 arg3 harg3 arg5 harg5 arg6 harg6 arg12 arg13 arg15 arg16 x0 x1 x3 x4)
      (kernelRun0_A.sl.v3 c arg7 harg7 x5)
      (kernelRun0_A.sl.v7443 c arg2 harg2 arg3 harg3 arg5 harg5 arg6 harg6 arg12 arg13 arg15 arg17 x0 x1 x3 x4) h1 h2 h3 h4 hb (ix2 d q)
    = O (D x0 x3) (D x1 x4) x2 x5 (hd 3 q.val) (rw' 3 q.val) d := by
  have kv := keyLoad (D x1 x4) (n := 256) (by decide) (keys c arg3 harg3 arg6 harg6 x1 x4) arg13.view (by decide)
  have qv := queryLoad (D x0 x3) 3 (by decide) (queries c arg2 harg2 arg5 harg5 x0 x3) arg12.view (by decide)
  apply unit2 (n := 256) (m := 32) (D x0 x3) (D x1 x4) x2 x5 3 rfl (by decide) (by decide)
    (valueLoad x2 x5 (by decide) (values c arg4 harg4 arg7 harg7 x2 x5) arg14.view _) (scaleLoad x5 harg7 _)
  · rfl
  · rfl
  · rfl
  · rfl
  · exact tileCat (D x0 x3) (D x1 x4) 3 (.inl rfl) rfl (by decide) (by decide) _ (acc (D x0 x3) (D x1 x4) 3 _ _ _ kv qv) (by decide) (by decide) (by decide) (by decide) (by decide) _ _ _ rfl (iota0_half (by decide) (by decide)) (iota1_half (by decide) (by decide))
  · exact tileCat (D x0 x3) (D x1 x4) 3 (.inl rfl) rfl (by decide) (by decide) _ (acc (D x0 x3) (D x1 x4) 3 _ _ _ kv qv) (by decide) (by decide) (by decide) (by decide) (by decide) _ _ _ rfl (iota0_half (by decide) (by decide)) (iota1_half (by decide) (by decide))
  all_goals decide

/-- The outputs of unit 4, of 320 keys. -/
theorem unit_4 (h1 h2 h3 h4 hb) (d : Fin 128) (q : Fin 256) :
    OT (n := 320) (kernelRun0_A.sl.v7567 c arg4 harg4 arg7 harg7 arg14 x2 x5)
      (kernelRun0_A.sl.v7568 c arg2 harg2 arg3 harg3 arg5 harg5 arg6 harg6 arg12 arg13 arg15 arg16 x0 x1 x3 x4)
      (kernelRun0_A.sl.v3 c arg7 harg7 x5)
      (kernelRun0_A.sl.v7570 c arg2 harg2 arg3 harg3 arg5 harg5 arg6 harg6 arg12 arg13 arg15 arg17 x0 x1 x3 x4) h1 h2 h3 h4 hb (ix2 d q)
    = O (D x0 x3) (D x1 x4) x2 x5 (hd 4 q.val) (rw' 4 q.val) d := by
  have kv := keyLoad (D x1 x4) (n := 320) (by decide) (keys c arg3 harg3 arg6 harg6 x1 x4) arg13.view (by decide)
  have qv := queryLoad (D x0 x3) 4 (by decide) (queries c arg2 harg2 arg5 harg5 x0 x3) arg12.view (by decide)
  apply unit2 (n := 320) (m := 40) (D x0 x3) (D x1 x4) x2 x5 4 rfl (by decide) (by decide)
    (valueLoad x2 x5 (by decide) (values c arg4 harg4 arg7 harg7 x2 x5) arg14.view _) (scaleLoad x5 harg7 _)
  · rfl
  · rfl
  · rfl
  · rfl
  · exact tileCat (D x0 x3) (D x1 x4) 4 (.inl rfl) rfl (by decide) (by decide) _ (acc (D x0 x3) (D x1 x4) 4 _ _ _ kv qv) (by decide) (by decide) (by decide) (by decide) (by decide) _ _ _ rfl (iota0_half (by decide) (by decide)) (iota1_half (by decide) (by decide))
  · exact tileCat (D x0 x3) (D x1 x4) 4 (.inl rfl) rfl (by decide) (by decide) _ (acc (D x0 x3) (D x1 x4) 4 _ _ _ kv qv) (by decide) (by decide) (by decide) (by decide) (by decide) _ _ _ rfl (iota0_half (by decide) (by decide)) (iota1_half (by decide) (by decide))
  all_goals decide

/-- The outputs of unit 5, of 384 keys. -/
theorem unit_5 (h1 h2 h3 h4 hb) (d : Fin 128) (q : Fin 256) :
    OT (n := 384) (kernelRun0_A.sl.v7694 c arg4 harg4 arg7 harg7 arg14 x2 x5)
      (kernelRun0_A.sl.v7695 c arg2 harg2 arg3 harg3 arg5 harg5 arg6 harg6 arg12 arg13 arg15 arg16 x0 x1 x3 x4)
      (kernelRun0_A.sl.v3 c arg7 harg7 x5)
      (kernelRun0_A.sl.v7697 c arg2 harg2 arg3 harg3 arg5 harg5 arg6 harg6 arg12 arg13 arg15 arg17 x0 x1 x3 x4) h1 h2 h3 h4 hb (ix2 d q)
    = O (D x0 x3) (D x1 x4) x2 x5 (hd 5 q.val) (rw' 5 q.val) d := by
  have kv := keyLoad (D x1 x4) (n := 384) (by decide) (keys c arg3 harg3 arg6 harg6 x1 x4) arg13.view (by decide)
  have qv := queryLoad (D x0 x3) 5 (by decide) (queries c arg2 harg2 arg5 harg5 x0 x3) arg12.view (by decide)
  apply unit2 (n := 384) (m := 48) (D x0 x3) (D x1 x4) x2 x5 5 rfl (by decide) (by decide)
    (valueLoad x2 x5 (by decide) (values c arg4 harg4 arg7 harg7 x2 x5) arg14.view _) (scaleLoad x5 harg7 _)
  · rfl
  · rfl
  · rfl
  · rfl
  · exact tileCat (D x0 x3) (D x1 x4) 5 (.inl rfl) rfl (by decide) (by decide) _ (acc (D x0 x3) (D x1 x4) 5 _ _ _ kv qv) (by decide) (by decide) (by decide) (by decide) (by decide) _ _ _ rfl (iota0_half (by decide) (by decide)) (iota1_half (by decide) (by decide))
  · exact tileCat (D x0 x3) (D x1 x4) 5 (.inl rfl) rfl (by decide) (by decide) _ (acc (D x0 x3) (D x1 x4) 5 _ _ _ kv qv) (by decide) (by decide) (by decide) (by decide) (by decide) _ _ _ rfl (iota0_half (by decide) (by decide)) (iota1_half (by decide) (by decide))
  all_goals decide

/-- The outputs of unit 6, of 448 keys. -/
theorem unit_6 (h1 h2 h3 h4 hb) (d : Fin 128) (q : Fin 256) :
    OT (n := 448) (kernelRun0_A.sl.v7821 c arg4 harg4 arg7 harg7 arg14 x2 x5)
      (kernelRun0_A.sl.v7822 c arg2 harg2 arg3 harg3 arg5 harg5 arg6 harg6 arg12 arg13 arg15 arg16 x0 x1 x3 x4)
      (kernelRun0_A.sl.v3 c arg7 harg7 x5)
      (kernelRun0_A.sl.v7824 c arg2 harg2 arg3 harg3 arg5 harg5 arg6 harg6 arg12 arg13 arg15 arg17 x0 x1 x3 x4) h1 h2 h3 h4 hb (ix2 d q)
    = O (D x0 x3) (D x1 x4) x2 x5 (hd 6 q.val) (rw' 6 q.val) d := by
  have kv := keyLoad (D x1 x4) (n := 448) (by decide) (keys c arg3 harg3 arg6 harg6 x1 x4) arg13.view (by decide)
  have qv := queryLoad (D x0 x3) 6 (by decide) (queries c arg2 harg2 arg5 harg5 x0 x3) arg12.view (by decide)
  apply unit2 (n := 448) (m := 56) (D x0 x3) (D x1 x4) x2 x5 6 rfl (by decide) (by decide)
    (valueLoad x2 x5 (by decide) (values c arg4 harg4 arg7 harg7 x2 x5) arg14.view _) (scaleLoad x5 harg7 _)
  · rfl
  · rfl
  · rfl
  · rfl
  · exact tileCat (D x0 x3) (D x1 x4) 6 (.inl rfl) rfl (by decide) (by decide) _ (acc (D x0 x3) (D x1 x4) 6 _ _ _ kv qv) (by decide) (by decide) (by decide) (by decide) (by decide) _ _ _ rfl (iota0_half (by decide) (by decide)) (iota1_half (by decide) (by decide))
  · exact tileCat (D x0 x3) (D x1 x4) 6 (.inl rfl) rfl (by decide) (by decide) _ (acc (D x0 x3) (D x1 x4) 6 _ _ _ kv qv) (by decide) (by decide) (by decide) (by decide) (by decide) _ _ _ rfl (iota0_half (by decide) (by decide)) (iota1_half (by decide) (by decide))
  all_goals decide

/-- The outputs of unit 7, of 512 keys. -/
theorem unit_7 (h1 h2 h3 h4 hb) (d : Fin 128) (q : Fin 256) :
    OT (n := 512) (kernelRun0_A.sl.v7948 c arg4 harg4 arg7 harg7 arg14 x2 x5)
      (kernelRun0_A.sl.v7949 c arg2 harg2 arg3 harg3 arg5 harg5 arg6 harg6 arg12 arg13 arg15 arg16 x0 x1 x3 x4)
      (kernelRun0_A.sl.v3 c arg7 harg7 x5)
      (kernelRun0_A.sl.v7951 c arg2 harg2 arg3 harg3 arg5 harg5 arg6 harg6 arg12 arg13 arg15 arg17 x0 x1 x3 x4) h1 h2 h3 h4 hb (ix2 d q)
    = O (D x0 x3) (D x1 x4) x2 x5 (hd 7 q.val) (rw' 7 q.val) d := by
  have kv := keyLoad (D x1 x4) (n := 512) (by decide) (keys c arg3 harg3 arg6 harg6 x1 x4) arg13.view (by decide)
  have qv := queryLoad (D x0 x3) 7 (by decide) (queries c arg2 harg2 arg5 harg5 x0 x3) arg12.view (by decide)
  apply unit2 (n := 512) (m := 64) (D x0 x3) (D x1 x4) x2 x5 7 rfl (by decide) (by decide)
    (valueLoad x2 x5 (by decide) (values c arg4 harg4 arg7 harg7 x2 x5) arg14.view _) (scaleLoad x5 harg7 _)
  · rfl
  · rfl
  · rfl
  · rfl
  · exact tileCat (D x0 x3) (D x1 x4) 7 (.inl rfl) rfl (by decide) (by decide) _ (acc (D x0 x3) (D x1 x4) 7 _ _ _ kv qv) (by decide) (by decide) (by decide) (by decide) (by decide) _ _ _ rfl (iota0_half (by decide) (by decide)) (iota1_half (by decide) (by decide))
  · exact tileCat (D x0 x3) (D x1 x4) 7 (.inl rfl) rfl (by decide) (by decide) _ (acc (D x0 x3) (D x1 x4) 7 _ _ _ kv qv) (by decide) (by decide) (by decide) (by decide) (by decide) _ _ _ rfl (iota0_half (by decide) (by decide)) (iota1_half (by decide) (by decide))
  all_goals decide

/-- The outputs of unit 8, of 576 keys. -/
theorem unit_8 (h1 h2 h3 h4 hb) (d : Fin 128) (q : Fin 256) :
    OT (n := 576) (kernelRun0_A.sl.v8075 c arg4 harg4 arg7 harg7 arg14 x2 x5)
      (kernelRun0_A.sl.v8076 c arg2 harg2 arg3 harg3 arg5 harg5 arg6 harg6 arg12 arg13 arg15 arg16 x0 x1 x3 x4)
      (kernelRun0_A.sl.v3 c arg7 harg7 x5)
      (kernelRun0_A.sl.v8078 c arg2 harg2 arg3 harg3 arg5 harg5 arg6 harg6 arg12 arg13 arg15 arg17 x0 x1 x3 x4) h1 h2 h3 h4 hb (ix2 d q)
    = O (D x0 x3) (D x1 x4) x2 x5 (hd 8 q.val) (rw' 8 q.val) d := by
  have kv := keyLoad (D x1 x4) (n := 576) (by decide) (keys c arg3 harg3 arg6 harg6 x1 x4) arg13.view (by decide)
  have qv := queryLoad (D x0 x3) 8 (by decide) (queries c arg2 harg2 arg5 harg5 x0 x3) arg12.view (by decide)
  apply unit2 (n := 576) (m := 72) (D x0 x3) (D x1 x4) x2 x5 8 rfl (by decide) (by decide)
    (valueLoad x2 x5 (by decide) (values c arg4 harg4 arg7 harg7 x2 x5) arg14.view _) (scaleLoad x5 harg7 _)
  · rfl
  · rfl
  · rfl
  · rfl
  · exact tileCat (D x0 x3) (D x1 x4) 8 (.inl rfl) rfl (by decide) (by decide) _ (acc (D x0 x3) (D x1 x4) 8 _ _ _ kv qv) (by decide) (by decide) (by decide) (by decide) (by decide) _ _ _ rfl (iota0_half (by decide) (by decide)) (iota1_half (by decide) (by decide))
  · exact tileCat (D x0 x3) (D x1 x4) 8 (.inl rfl) rfl (by decide) (by decide) _ (acc (D x0 x3) (D x1 x4) 8 _ _ _ kv qv) (by decide) (by decide) (by decide) (by decide) (by decide) _ _ _ rfl (iota0_half (by decide) (by decide)) (iota1_half (by decide) (by decide))
  all_goals decide

/-- The outputs of unit 9, of 640 keys. -/
theorem unit_9 (h1 h2 h3 h4 hb) (d : Fin 128) (q : Fin 256) :
    OT (n := 640) (kernelRun0_A.sl.v8202 c arg4 harg4 arg7 harg7 arg14 x2 x5)
      (kernelRun0_A.sl.v8203 c arg2 harg2 arg3 harg3 arg5 harg5 arg6 harg6 arg12 arg13 arg15 arg16 x0 x1 x3 x4)
      (kernelRun0_A.sl.v3 c arg7 harg7 x5)
      (kernelRun0_A.sl.v8205 c arg2 harg2 arg3 harg3 arg5 harg5 arg6 harg6 arg12 arg13 arg15 arg17 x0 x1 x3 x4) h1 h2 h3 h4 hb (ix2 d q)
    = O (D x0 x3) (D x1 x4) x2 x5 (hd 9 q.val) (rw' 9 q.val) d := by
  have kv := keyLoad (D x1 x4) (n := 640) (by decide) (keys c arg3 harg3 arg6 harg6 x1 x4) arg13.view (by decide)
  have qv := queryLoad (D x0 x3) 9 (by decide) (queries c arg2 harg2 arg5 harg5 x0 x3) arg12.view (by decide)
  apply unit2 (n := 640) (m := 80) (D x0 x3) (D x1 x4) x2 x5 9 rfl (by decide) (by decide)
    (valueLoad x2 x5 (by decide) (values c arg4 harg4 arg7 harg7 x2 x5) arg14.view _) (scaleLoad x5 harg7 _)
  · rfl
  · rfl
  · rfl
  · rfl
  · exact tileCat (D x0 x3) (D x1 x4) 9 (.inl rfl) rfl (by decide) (by decide) _ (acc (D x0 x3) (D x1 x4) 9 _ _ _ kv qv) (by decide) (by decide) (by decide) (by decide) (by decide) _ _ _ rfl (iota0_half (by decide) (by decide)) (iota1_half (by decide) (by decide))
  · exact tileCat (D x0 x3) (D x1 x4) 9 (.inl rfl) rfl (by decide) (by decide) _ (acc (D x0 x3) (D x1 x4) 9 _ _ _ kv qv) (by decide) (by decide) (by decide) (by decide) (by decide) _ _ _ rfl (iota0_half (by decide) (by decide)) (iota1_half (by decide) (by decide))
  all_goals decide

/-- The outputs of unit 10, of 704 keys. -/
theorem unit_10 (h1 h2 h3 h4 hb) (d : Fin 128) (q : Fin 256) :
    OT (n := 704) (kernelRun0_A.sl.v8329 c arg4 harg4 arg7 harg7 arg14 x2 x5)
      (kernelRun0_A.sl.v8330 c arg2 harg2 arg3 harg3 arg5 harg5 arg6 harg6 arg12 arg13 arg15 arg16 x0 x1 x3 x4)
      (kernelRun0_A.sl.v3 c arg7 harg7 x5)
      (kernelRun0_A.sl.v8332 c arg2 harg2 arg3 harg3 arg5 harg5 arg6 harg6 arg12 arg13 arg15 arg17 x0 x1 x3 x4) h1 h2 h3 h4 hb (ix2 d q)
    = O (D x0 x3) (D x1 x4) x2 x5 (hd 10 q.val) (rw' 10 q.val) d := by
  have kv := keyLoad (D x1 x4) (n := 704) (by decide) (keys c arg3 harg3 arg6 harg6 x1 x4) arg13.view (by decide)
  have qv := queryLoad (D x0 x3) 10 (by decide) (queries c arg2 harg2 arg5 harg5 x0 x3) arg12.view (by decide)
  apply unit2 (n := 704) (m := 88) (D x0 x3) (D x1 x4) x2 x5 10 rfl (by decide) (by decide)
    (valueLoad x2 x5 (by decide) (values c arg4 harg4 arg7 harg7 x2 x5) arg14.view _) (scaleLoad x5 harg7 _)
  · rfl
  · rfl
  · rfl
  · rfl
  · exact tileCat (D x0 x3) (D x1 x4) 10 (.inl rfl) rfl (by decide) (by decide) _ (acc (D x0 x3) (D x1 x4) 10 _ _ _ kv qv) (by decide) (by decide) (by decide) (by decide) (by decide) _ _ _ rfl (iota0_half (by decide) (by decide)) (iota1_half (by decide) (by decide))
  · exact tileCat (D x0 x3) (D x1 x4) 10 (.inl rfl) rfl (by decide) (by decide) _ (acc (D x0 x3) (D x1 x4) 10 _ _ _ kv qv) (by decide) (by decide) (by decide) (by decide) (by decide) _ _ _ rfl (iota0_half (by decide) (by decide)) (iota1_half (by decide) (by decide))
  all_goals decide

/-- The outputs of unit 11, of 768 keys. -/
theorem unit_11 (h1 h2 h3 h4 hb) (d : Fin 128) (q : Fin 256) :
    OT (n := 768) (kernelRun0_A.sl.v8456 c arg4 harg4 arg7 harg7 arg14 x2 x5)
      (kernelRun0_A.sl.v8457 c arg2 harg2 arg3 harg3 arg5 harg5 arg6 harg6 arg12 arg13 arg15 arg16 x0 x1 x3 x4)
      (kernelRun0_A.sl.v3 c arg7 harg7 x5)
      (kernelRun0_A.sl.v8459 c arg2 harg2 arg3 harg3 arg5 harg5 arg6 harg6 arg12 arg13 arg15 arg17 x0 x1 x3 x4) h1 h2 h3 h4 hb (ix2 d q)
    = O (D x0 x3) (D x1 x4) x2 x5 (hd 11 q.val) (rw' 11 q.val) d := by
  have kv := keyLoad (D x1 x4) (n := 768) (by decide) (keys c arg3 harg3 arg6 harg6 x1 x4) arg13.view (by decide)
  have qv := queryLoad (D x0 x3) 11 (by decide) (queries c arg2 harg2 arg5 harg5 x0 x3) arg12.view (by decide)
  apply unit2 (n := 768) (m := 96) (D x0 x3) (D x1 x4) x2 x5 11 rfl (by decide) (by decide)
    (valueLoad x2 x5 (by decide) (values c arg4 harg4 arg7 harg7 x2 x5) arg14.view _) (scaleLoad x5 harg7 _)
  · rfl
  · rfl
  · rfl
  · rfl
  · exact tileCat (D x0 x3) (D x1 x4) 11 (.inl rfl) rfl (by decide) (by decide) _ (acc (D x0 x3) (D x1 x4) 11 _ _ _ kv qv) (by decide) (by decide) (by decide) (by decide) (by decide) _ _ _ rfl (iota0_half (by decide) (by decide)) (iota1_half (by decide) (by decide))
  · exact tileCat (D x0 x3) (D x1 x4) 11 (.inl rfl) rfl (by decide) (by decide) _ (acc (D x0 x3) (D x1 x4) 11 _ _ _ kv qv) (by decide) (by decide) (by decide) (by decide) (by decide) _ _ _ rfl (iota0_half (by decide) (by decide)) (iota1_half (by decide) (by decide))
  all_goals decide

/-- The outputs of unit 12, of 256 keys. -/
theorem unit_12 (h1 h2 h3 h4 hb) (d : Fin 128) (q : Fin 256) :
    OT (n := 256) (kernelRun0_A.sl.v7440 c arg4 harg4 arg7 harg7 arg14 x2 x5)
      (kernelRun0_A.sl.v8581 c arg2 harg2 arg3 harg3 arg5 harg5 arg6 harg6 arg12 arg13 arg15 arg16 x0 x1 x3 x4)
      (kernelRun0_A.sl.v3 c arg7 harg7 x5)
      (kernelRun0_A.sl.v8583 c arg2 harg2 arg3 harg3 arg5 harg5 arg6 harg6 arg12 arg13 arg15 arg17 x0 x1 x3 x4) h1 h2 h3 h4 hb (ix2 d q)
    = O (D x0 x3) (D x1 x4) x2 x5 (hd 12 q.val) (rw' 12 q.val) d := by
  have kv := keyLoad (D x1 x4) (n := 256) (by decide) (keys c arg3 harg3 arg6 harg6 x1 x4) arg13.view (by decide)
  have qv := queryLoad (D x0 x3) 12 (by decide) (queries c arg2 harg2 arg5 harg5 x0 x3) arg12.view (by decide)
  apply unit3 (n := 256) (m := 32) (w := 16) (e := 128) (z := 128) (D x0 x3) (D x1 x4) x2 x5 12 rfl rfl rfl (by decide) (by decide) (by decide)
    (valueLoad x2 x5 (by decide) (values c arg4 harg4 arg7 harg7 x2 x5) arg14.view _) (scaleLoad x5 harg7 _)
  rotate_left 2
  · rfl
  · rfl
  rotate_right 2
  · rfl
  · rfl
  · exact tilePlain (D x0 x3) (D x1 x4) 12 (.inr rfl) (by decide) (by decide) _ (acc (D x0 x3) (D x1 x4) 12 _ _ _ kv qv) (by decide) (by decide) _ _ _ rfl rows colsOf
  · exact tileCat (D x0 x3) (D x1 x4) 12 (.inr rfl) rfl (by decide) (by decide) _ (acc (D x0 x3) (D x1 x4) 12 _ _ _ kv qv) (by decide) (by decide) (by decide) (by decide) (by decide) _ _ _ rfl rows colsOf
  all_goals decide

/-- The outputs of unit 13, of 512 keys. -/
theorem unit_13 (h1 h2 h3 h4 hb) (d : Fin 128) (q : Fin 256) :
    OT (n := 512) (kernelRun0_A.sl.v7948 c arg4 harg4 arg7 harg7 arg14 x2 x5)
      (kernelRun0_A.sl.v8698 c arg2 harg2 arg3 harg3 arg5 harg5 arg6 harg6 arg12 arg13 arg15 arg16 x0 x1 x3 x4)
      (kernelRun0_A.sl.v3 c arg7 harg7 x5)
      (kernelRun0_A.sl.v8700 c arg2 harg2 arg3 harg3 arg5 harg5 arg6 harg6 arg12 arg13 arg15 arg17 x0 x1 x3 x4) h1 h2 h3 h4 hb (ix2 d q)
    = O (D x0 x3) (D x1 x4) x2 x5 (hd 13 q.val) (rw' 13 q.val) d := by
  have kv := keyLoad (D x1 x4) (n := 512) (by decide) (keys c arg3 harg3 arg6 harg6 x1 x4) arg13.view (by decide)
  have qv := queryLoad (D x0 x3) 13 (by decide) (queries c arg2 harg2 arg5 harg5 x0 x3) arg12.view (by decide)
  apply unit3 (n := 512) (m := 64) (w := 48) (e := 384) (z := 128) (D x0 x3) (D x1 x4) x2 x5 13 rfl rfl rfl (by decide) (by decide) (by decide)
    (valueLoad x2 x5 (by decide) (values c arg4 harg4 arg7 harg7 x2 x5) arg14.view _) (scaleLoad x5 harg7 _)
  rotate_left 2
  · rfl
  · rfl
  rotate_right 2
  · rfl
  · rfl
  · exact tileCat (D x0 x3) (D x1 x4) 13 (.inr rfl) rfl (by decide) (by decide) _ (acc (D x0 x3) (D x1 x4) 13 _ _ _ kv qv) (by decide) (by decide) (by decide) (by decide) (by decide) _ _ _ rfl rows colsOf
  · exact tileCat (D x0 x3) (D x1 x4) 13 (.inr rfl) rfl (by decide) (by decide) _ (acc (D x0 x3) (D x1 x4) 13 _ _ _ kv qv) (by decide) (by decide) (by decide) (by decide) (by decide) _ _ _ rfl rows colsOf
  all_goals decide

/-- The outputs of unit 14, of 768 keys. -/
theorem unit_14 (h1 h2 h3 h4 hb) (d : Fin 128) (q : Fin 256) :
    OT (n := 768) (kernelRun0_A.sl.v8456 c arg4 harg4 arg7 harg7 arg14 x2 x5)
      (kernelRun0_A.sl.v8815 c arg2 harg2 arg3 harg3 arg5 harg5 arg6 harg6 arg12 arg13 arg15 arg16 x0 x1 x3 x4)
      (kernelRun0_A.sl.v3 c arg7 harg7 x5)
      (kernelRun0_A.sl.v8817 c arg2 harg2 arg3 harg3 arg5 harg5 arg6 harg6 arg12 arg13 arg15 arg17 x0 x1 x3 x4) h1 h2 h3 h4 hb (ix2 d q)
    = O (D x0 x3) (D x1 x4) x2 x5 (hd 14 q.val) (rw' 14 q.val) d := by
  have kv := keyLoad (D x1 x4) (n := 768) (by decide) (keys c arg3 harg3 arg6 harg6 x1 x4) arg13.view (by decide)
  have qv := queryLoad (D x0 x3) 14 (by decide) (queries c arg2 harg2 arg5 harg5 x0 x3) arg12.view (by decide)
  apply unit3 (n := 768) (m := 96) (w := 80) (e := 640) (z := 128) (D x0 x3) (D x1 x4) x2 x5 14 rfl rfl rfl (by decide) (by decide) (by decide)
    (valueLoad x2 x5 (by decide) (values c arg4 harg4 arg7 harg7 x2 x5) arg14.view _) (scaleLoad x5 harg7 _)
  rotate_left 2
  · rfl
  · rfl
  rotate_right 2
  · rfl
  · rfl
  · exact tileCat (D x0 x3) (D x1 x4) 14 (.inr rfl) rfl (by decide) (by decide) _ (acc (D x0 x3) (D x1 x4) 14 _ _ _ kv qv) (by decide) (by decide) (by decide) (by decide) (by decide) _ _ _ rfl rows colsOf
  · exact tileCat (D x0 x3) (D x1 x4) 14 (.inr rfl) rfl (by decide) (by decide) _ (acc (D x0 x3) (D x1 x4) 14 _ _ _ kv qv) (by decide) (by decide) (by decide) (by decide) (by decide) _ _ _ rfl rows colsOf
  all_goals decide

end Cert.KernelIdeal.Gen

end
-- ==== Proof.Out.lean ====
module
public import proofs.«01_k».proof.Proof.Units
public import proofs.«01_k».proof.Proof.Gen.KernelIdeal.Frame

/-! The blocks a grid point leaves in the outputs' staging buffers: every stored piece is a piece of one array (the
    attention of the block's queries; the codes of the queries, keys and values), and the pieces cover the buffer. -/

@[expose] public section

open Idealize.ShloMosaic Idealize.ShloMosaic.TcCoe Idealize.SL.Sem Cert.Attn

namespace Cert.KernelIdeal.Gen

set_option maxRecDepth 16384

variable (c : Dev nD) (i : grid0.Coords)
  (arg2 : Memref sig .tc .vmem S1x768x640 .bf16) (harg2 : arg2.IsWhole)
  (arg3 : Memref sig .tc .vmem S1x768x128 .bf16) (harg3 : arg3.IsWhole)
  (arg4 : Memref sig .tc .vmem S1x768x128 .bf16) (harg4 : arg4.IsWhole)
  (arg5 : Memref sig .tc .vmem S1x768x640 .bf16) (harg5 : arg5.IsWhole)
  (arg6 : Memref sig .tc .vmem S1x768x128 .bf16) (harg6 : arg6.IsWhole)
  (arg7 : Memref sig .tc .vmem S1x1x128 .f32) (harg7 : arg7.IsWhole)
  (arg8 : Memref sig .tc .vmem S1x768x640 .bf16) (harg8 : arg8.IsWhole)
  (arg9 : Memref sig .tc .vmem S1x768x640 .fp8e4m3) (harg9 : arg9.IsWhole)
  (arg10 : Memref sig .tc .vmem S1x768x128 .fp8e4m3) (harg10 : arg10.IsWhole)
  (arg11 : Memref sig .tc .vmem S1x768x128 .fp8e4m3) (harg11 : arg11.IsWhole)
  (arg12 : Memref sig .tc .vmem S15x256x128 .bf16) (harg12 : arg12.IsWhole)
  (arg13 : Memref sig .tc .vmem S768x128 .bf16) (harg13 : arg13.IsWhole)
  (arg14 : Memref sig .tc .vmem S128x768 .fp8e4m3) (harg14 : arg14.IsWhole)
  (arg15 : Memref sig .tc .vmem S768x256 .f32) (harg15 : arg15.IsWhole)
  (arg16 : Memref sig .tc .vmem S768x256 .fp8e4m3) (harg16 : arg16.IsWhole)
  (arg17 : Memref sig .tc .vmem S2x16x256 .f32) (harg17 : arg17.IsWhole)
  (x0 : Vec Ideal S1x768x640 .bf16) (x1 x2 : Vec Ideal S1x768x128 .bf16) (x3 : Vec Ideal S1x768x640 .bf16)
  (x4 : Vec Ideal S1x768x128 .bf16) (x5 : Vec Ideal S1x1x128 .f32)

/-- Every piece the body stores into the first output is a piece of the attention of the block's queries. -/
theorem pieces : View.PiecesOf (G (D x0 x3) (D x1 x4) x2 x5) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).1 := by
  unfold kernelRun0_A
  dsimp only
  have U := unit_14 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 2 refine And.intro (fun x => wholePiece _ _ _ _ U (by decide) (i1 := by decide) (h1 := by decide) x) ?_
  clear U
  have U := unit_13 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 2 refine And.intro (fun x => wholePiece _ _ _ _ U (by decide) (i1 := by decide) (h1 := by decide) x) ?_
  clear U
  have U := unit_12 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 2 refine And.intro (fun x => wholePiece _ _ _ _ U (by decide) (i1 := by decide) (h1 := by decide) x) ?_
  clear U
  have U := unit_11 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 4 refine And.intro (fun x => halfPiece _ _ _ _ U (by decide) (i1 := by decide) (h1 := by decide) (h3 := by decide) x) ?_
  clear U
  have U := unit_10 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 4 refine And.intro (fun x => halfPiece _ _ _ _ U (by decide) (i1 := by decide) (h1 := by decide) (h3 := by decide) x) ?_
  clear U
  have U := unit_9 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 4 refine And.intro (fun x => halfPiece _ _ _ _ U (by decide) (i1 := by decide) (h1 := by decide) (h3 := by decide) x) ?_
  clear U
  have U := unit_8 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 4 refine And.intro (fun x => halfPiece _ _ _ _ U (by decide) (i1 := by decide) (h1 := by decide) (h3 := by decide) x) ?_
  clear U
  have U := unit_7 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 4 refine And.intro (fun x => halfPiece _ _ _ _ U (by decide) (i1 := by decide) (h1 := by decide) (h3 := by decide) x) ?_
  clear U
  have U := unit_6 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 4 refine And.intro (fun x => halfPiece _ _ _ _ U (by decide) (i1 := by decide) (h1 := by decide) (h3 := by decide) x) ?_
  clear U
  have U := unit_5 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 4 refine And.intro (fun x => halfPiece _ _ _ _ U (by decide) (i1 := by decide) (h1 := by decide) (h3 := by decide) x) ?_
  clear U
  have U := unit_4 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 4 refine And.intro (fun x => halfPiece _ _ _ _ U (by decide) (i1 := by decide) (h1 := by decide) (h3 := by decide) x) ?_
  clear U
  have U := unit_3 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 4 refine And.intro (fun x => halfPiece _ _ _ _ U (by decide) (i1 := by decide) (h1 := by decide) (h3 := by decide) x) ?_
  clear U
  have U := unit_2 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 4 refine And.intro (fun x => halfPiece _ _ _ _ U (by decide) (i1 := by decide) (h1 := by decide) (h3 := by decide) x) ?_
  clear U
  have U := unit_1 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 4 refine And.intro (fun x => halfPiece _ _ _ _ U (by decide) (i1 := by decide) (h1 := by decide) (h3 := by decide) x) ?_
  clear U
  have U := unit_0 c arg2 harg2 arg3 harg3 arg4 harg4 arg5 harg5 arg6 harg6 arg7 harg7 arg12 arg13 arg14 arg15 arg16 arg17 x0 x1 x2 x3 x4 x5
    shapeCasts_S1x1x256_S1x256 slices_S1x128_o0_0_S1x1 broadcasts_S1x1_S1x256 broadcasts_S1x256_S128x256 bitsLt_bf16_f32
  iterate 4 refine And.intro (fun x => halfPiece _ _ _ _ U (by decide) (i1 := by decide) (h1 := by decide) (h3 := by decide) x) ?_
  clear U
  exact trivial

set_option maxHeartbeats 40000000 in
/-- Every piece the body stores into the second output is a piece of the query codes. -/
theorem piecesQ : View.PiecesOf (C x0 x3) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).2.1 := by
  unfold kernelRun0_A
  dsimp only
  iterate 240 refine And.intro (fun y => codePiece (by decide) x0 x3 harg2 harg5 (i := by decide) y) ?_
  exact trivial

set_option maxHeartbeats 40000000 in
/-- Every piece the body stores into the third output is a piece of the key codes. -/
theorem piecesK : View.PiecesOf (C x1 x4) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).2.2.1 := by
  unfold kernelRun0_A
  dsimp only
  iterate 48 refine And.intro (fun y => codePiece (by decide) x1 x4 harg3 harg6 (i := by decide) y) ?_
  exact trivial

/-- The piece the body stores into the fourth output is the value codes. -/
theorem piecesV : View.PiecesOf (VC x2 x5) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5).2.2.2.1 := by
  unfold kernelRun0_A
  dsimp only
  exact And.intro (fun y => valueCodes x2 x5 harg4 harg7 (i6 := by decide) _ _ _ _ _ _ _ _ y) trivial

/-- This output's staging buffer holds the attention of the block's queries. -/
theorem out_eq (y : S1x768x640.Idx) :
    out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 y = G (D x0 x3) (D x1 x4) x2 x5 y := by
  have cov := cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5
  unfold out0_A_6
  rw [View.read_writes_eq_canon _ _ _ cov]
  exact View.canon_apply_of_pieces (G (D x0 x3) (D x1 x4) x2 x5) _ (View.PiecesOf.mem (pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5)) y (cov y)

/-- This output's staging buffer holds the query codes. -/
theorem codesQ_eq (y : S1x768x640.Idx) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 y = C x0 x3 y := by
  have cov := cover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5
  unfold out0_A_7
  rw [View.read_writes_eq_canon _ _ _ cov]
  exact View.canon_apply_of_pieces (C x0 x3) _ (View.PiecesOf.mem (piecesQ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5)) y (cov y)

/-- This output's staging buffer holds the key codes. -/
theorem codesK_eq (y : S1x768x128.Idx) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 y = C x1 x4 y := by
  have cov := cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5
  unfold out0_A_8
  rw [View.read_writes_eq_canon _ _ _ cov]
  exact View.canon_apply_of_pieces (C x1 x4) _ (View.PiecesOf.mem (piecesK c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5)) y (cov y)

/-- This output's staging buffer holds the value codes. -/
theorem codesV_eq (y : S1x768x128.Idx) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 y = VC x2 x5 y := by
  have cov := cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5
  unfold out0_A_9
  rw [View.read_writes_eq_canon _ _ _ cov]
  exact View.canon_apply_of_pieces (VC x2 x5) _ (View.PiecesOf.mem (piecesV c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5)) y (cov y)

end Cert.KernelIdeal.Gen

end
-- ==== Proof.Array.lean ====
module
public import proofs.«01_k».proof.Proof.Arrays
public import proofs.«01_k».proof.Proof.Out
public import proofs.«01_k».proof.Proof.Gen.KernelIdeal.Value

/-! The kernel's result arrays as functions of its arguments: a grid point is a batch entry and a group, its blocks are
    the group's columns of the arguments, and its output blocks are the group's columns of the results. -/

@[expose] public section

noncomputable section

namespace Cert.Array

open Cert.KernelIdeal Cert.KernelIdeal.Gen Cert.KernelIdeal.Value Cert.Attn
open Idealize.ShloMosaic Idealize.ShloMosaic.TcCoe Idealize.SL.Sem Idealize.ShloMosaic.ValueIdx

variable (m : (ℓ : Loc nD τ sig) → Buf (Elt Ideal) ℓ) (ρ : Dev nD → PrngReg)

/-- The block indices of the windows at a grid point. -/
theorem index0 : ∀ t : Fin cfg0.N, win0_0.index t (0 : Fin 3) = t.val / 8 ∧ win0_0.index t (1 : Fin 3) = 0
    ∧ win0_0.index t (2 : Fin 3) = t.val % 8 := (by decide +kernel : ∀ t : Fin grid0.N, _)
theorem index1 : ∀ t : Fin cfg0.N, win0_1.index t (0 : Fin 3) = t.val / 8 ∧ win0_1.index t (1 : Fin 3) = 0
    ∧ win0_1.index t (2 : Fin 3) = t.val % 8 := (by decide +kernel : ∀ t : Fin grid0.N, _)
theorem index2 : ∀ t : Fin cfg0.N, win0_2.index t (0 : Fin 3) = t.val / 8 ∧ win0_2.index t (1 : Fin 3) = 0
    ∧ win0_2.index t (2 : Fin 3) = t.val % 8 := (by decide +kernel : ∀ t : Fin grid0.N, _)
theorem index3 : ∀ t : Fin cfg0.N, win0_3.index t (0 : Fin 3) = t.val / 8 ∧ win0_3.index t (1 : Fin 3) = 0
    ∧ win0_3.index t (2 : Fin 3) = t.val % 8 := (by decide +kernel : ∀ t : Fin grid0.N, _)
theorem index4 : ∀ t : Fin cfg0.N, win0_4.index t (0 : Fin 3) = t.val / 8 ∧ win0_4.index t (1 : Fin 3) = 0
    ∧ win0_4.index t (2 : Fin 3) = t.val % 8 := (by decide +kernel : ∀ t : Fin grid0.N, _)
theorem index5 : ∀ t : Fin cfg0.N, win0_5.index t (0 : Fin 3) = t.val / 8 ∧ win0_5.index t (1 : Fin 3) = 0
    ∧ win0_5.index t (2 : Fin 3) = t.val % 8 := (by decide +kernel : ∀ t : Fin grid0.N, _)
theorem index6 : ∀ t : Fin cfg0.N, win0_6.index t (0 : Fin 3) = t.val / 8 ∧ win0_6.index t (1 : Fin 3) = 0
    ∧ win0_6.index t (2 : Fin 3) = t.val % 8 := (by decide +kernel : ∀ t : Fin grid0.N, _)
theorem index7 : ∀ t : Fin cfg0.N, win0_7.index t (0 : Fin 3) = t.val / 8 ∧ win0_7.index t (1 : Fin 3) = 0
    ∧ win0_7.index t (2 : Fin 3) = t.val % 8 := (by decide +kernel : ∀ t : Fin grid0.N, _)
theorem index8 : ∀ t : Fin cfg0.N, win0_8.index t (0 : Fin 3) = t.val / 8 ∧ win0_8.index t (1 : Fin 3) = 0
    ∧ win0_8.index t (2 : Fin 3) = t.val % 8 := (by decide +kernel : ∀ t : Fin grid0.N, _)
theorem index9 : ∀ t : Fin cfg0.N, win0_9.index t (0 : Fin 3) = t.val / 8 ∧ win0_9.index t (1 : Fin 3) = 0
    ∧ win0_9.index t (2 : Fin 3) = t.val % 8 := (by decide +kernel : ∀ t : Fin grid0.N, _)

/-- There are sixteen grid points. -/
theorem lt16 (t : Fin cfg0.N) : t.val < 16 := t.isLt.trans_eq N_0

/-- Where a block of 640 columns puts its index. -/
def at640 (t : ℕ) (j : S1x768x640.Idx) : S2x768x5120.Idx := ix3 (Fin.ofNat 2 (t / 8)) (j 1) (Fin.ofNat 5120 (640 * (t % 8) + (j 2).val))

/-- Where a block of 128 columns puts its index. -/
def at128 (t : ℕ) (j : S1x768x128.Idx) : S2x768x1024.Idx := ix3 (Fin.ofNat 2 (t / 8)) (j 1) (Fin.ofNat 1024 (128 * (t % 8) + (j 2).val))

/-- An index with a block's coordinates is where the block puts it. -/
theorem at640_of {t : ℕ} (ht : t < 16) (j : S1x768x640.Idx) (i : S2x768x5120.Idx) (k : Fin 3 → ℕ) (e : k 0 = t / 8 ∧ k 1 = 0 ∧ k 2 = t % 8)
    (h0 : (i 0).val = k 0 * 1 + 1 * (j 0).val) (h1 : (i 1).val = k 1 * 768 + 1 * (j 1).val) (h2 : (i 2).val = k 2 * 640 + 1 * (j 2).val) :
    i = at640 t j := by
  obtain ⟨e0, e1, e2⟩ := e
  have a0 : (j 0).val < 1 := (j 0).isLt
  have a2 : (j 2).val < 640 := (j 2).isLt
  funext a
  apply Fin.ext
  match a with
  | ⟨0, _⟩ => show (i 0).val = t / 8 % 2; omega
  | ⟨1, _⟩ => show (i 1).val = (j 1).val; omega
  | ⟨2, _⟩ => show (i 2).val = (640 * (t % 8) + (j 2).val) % 5120; omega

theorem at128_of {t : ℕ} (ht : t < 16) (j : S1x768x128.Idx) (i : S2x768x1024.Idx) (k : Fin 3 → ℕ) (e : k 0 = t / 8 ∧ k 1 = 0 ∧ k 2 = t % 8)
    (h0 : (i 0).val = k 0 * 1 + 1 * (j 0).val) (h1 : (i 1).val = k 1 * 768 + 1 * (j 1).val) (h2 : (i 2).val = k 2 * 128 + 1 * (j 2).val) :
    i = at128 t j := by
  obtain ⟨e0, e1, e2⟩ := e
  have a0 : (j 0).val < 1 := (j 0).isLt
  have a2 : (j 2).val < 128 := (j 2).isLt
  funext a
  apply Fin.ext
  match a with
  | ⟨0, _⟩ => show (i 0).val = t / 8 % 2; omega
  | ⟨1, _⟩ => show (i 1).val = (j 1).val; omega
  | ⟨2, _⟩ => show (i 2).val = (128 * (t % 8) + (j 2).val) % 1024; omega

/-- Where each window puts an index of its block at a grid point. -/
theorem emb0 (t : Fin cfg0.N) (j : S1x768x640.Idx) : ((cfg0.win 0).blk t).view.emb j = at640 t.val j :=
  at640_of (lt16 t) j _ (win0_0.index t) (index0 t) rfl rfl rfl
theorem emb1 (t : Fin cfg0.N) (j : S1x768x128.Idx) : ((cfg0.win 1).blk t).view.emb j = at128 t.val j :=
  at128_of (lt16 t) j _ (win0_1.index t) (index1 t) rfl rfl rfl
theorem emb2 (t : Fin cfg0.N) (j : S1x768x128.Idx) : ((cfg0.win 2).blk t).view.emb j = at128 t.val j :=
  at128_of (lt16 t) j _ (win0_2.index t) (index2 t) rfl rfl rfl
theorem emb3 (t : Fin cfg0.N) (j : S1x768x640.Idx) : ((cfg0.win 3).blk t).view.emb j = at640 t.val j :=
  at640_of (lt16 t) j _ (win0_3.index t) (index3 t) rfl rfl rfl
theorem emb4 (t : Fin cfg0.N) (j : S1x768x128.Idx) : ((cfg0.win 4).blk t).view.emb j = at128 t.val j :=
  at128_of (lt16 t) j _ (win0_4.index t) (index4 t) rfl rfl rfl
theorem emb6 (t : Fin cfg0.N) (j : S1x768x640.Idx) : ((cfg0.win 6).blk t).view.emb j = at640 t.val j :=
  at640_of (lt16 t) j _ (win0_6.index t) (index6 t) rfl rfl rfl
theorem emb7 (t : Fin cfg0.N) (j : S1x768x640.Idx) : ((cfg0.win 7).blk t).view.emb j = at640 t.val j :=
  at640_of (lt16 t) j _ (win0_7.index t) (index7 t) rfl rfl rfl
theorem emb8 (t : Fin cfg0.N) (j : S1x768x128.Idx) : ((cfg0.win 8).blk t).view.emb j = at128 t.val j :=
  at128_of (lt16 t) j _ (win0_8.index t) (index8 t) rfl rfl rfl
theorem emb9 (t : Fin cfg0.N) (j : S1x768x128.Idx) : ((cfg0.win 9).blk t).view.emb j = at128 t.val j :=
  at128_of (lt16 t) j _ (win0_9.index t) (index9 t) rfl rfl rfl

/-- The query block at a grid point. -/
theorem iblk0 (c : Dev nD) (t : Fin cfg0.N) :
    iblk m c 0 t = xb (m ((c : Thread nD τ).loc main_arg0)) (t.val / 8) (t.val % 8) := by
  funext j
  show V m c main_arg0 (((cfg0.win 0).blk t).view.emb j) = _
  rw [V_main_arg0, emb0]
  rfl

/-- The key block. -/
theorem iblk1 (c : Dev nD) (t : Fin cfg0.N) :
    iblk m c 1 t = kb (m ((c : Thread nD τ).loc main_arg1)) (t.val / 8) (t.val % 8) := by
  funext j
  show V m c main_arg1 (((cfg0.win 1).blk t).view.emb j) = _
  rw [V_main_arg1, emb1]
  rfl

/-- The value block. -/
theorem iblk2 (c : Dev nD) (t : Fin cfg0.N) :
    iblk m c 2 t = kb (m ((c : Thread nD τ).loc main_arg2)) (t.val / 8) (t.val % 8) := by
  funext j
  show V m c main_arg2 (((cfg0.win 2).blk t).view.emb j) = _
  rw [V_main_arg2, emb2]
  rfl

/-- The query scales as the kernel finds them: each block's scale on the block's columns. -/
theorem V_main_v3 (c : Dev nD) : V m c main_v3
    = shapeCast S2x768x5120 (broadcastInDim S2x768x160x32 ![0, 1, 2, 3] bcast_S2x768x160x1_S2x768x160x32_0_1_2_3
        (broadcastInDim S2x768x160x1 ![0, 1, 2] bcast_S2x768x160_S2x768x160x1_0_1_2
          (truncf (F := Ideal) .bf16 (m ((c : Thread nD τ).loc main_arg3)) bitsLt_bf16_f32))) shapeCasts_S2x768x160x32_S2x768x5120 := by
  show StableHlo.after hostOps0 _ (Proc.devRef .tc main_v3) = _
  after_results
  rfl

/-- The key scales as the kernel finds them. -/
theorem V_main_v7 (c : Dev nD) : V m c main_v7
    = shapeCast S2x768x1024 (broadcastInDim S2x768x32x32 ![0, 1, 2, 3] bcast_S2x768x32x1_S2x768x32x32_0_1_2_3
        (broadcastInDim S2x768x32x1 ![0, 1, 2] bcast_S2x768x32_S2x768x32x1_0_1_2
          (truncf (F := Ideal) .bf16 (m ((c : Thread nD τ).loc main_arg4)) bitsLt_bf16_f32))) shapeCasts_S2x768x32x32_S2x768x1024 := by
  show StableHlo.after hostOps0 _ (Proc.devRef .tc main_v7) = _
  after_results
  rfl

/-- Scales laid along their blocks of 32 columns, read at an index. -/
theorem blockLanes {N M : ℕ} (hM : M = 32 * N) (Q : (⟨3, ![2, 768, N]⟩ : Shape).Idx → EReal)
    (h1 : (⟨4, ![2, 768, N, 32]⟩ : Shape).ShapeCasts ⟨3, ![2, 768, M]⟩)
    (h2 : (⟨4, ![2, 768, N, 1]⟩ : Shape).BroadcastsInDim ⟨4, ![2, 768, N, 32]⟩ ![0, 1, 2, 3])
    (h3 : (⟨3, ![2, 768, N]⟩ : Shape).BroadcastsInDim ⟨4, ![2, 768, N, 1]⟩ ![0, 1, 2]) (b : Fin 2) (r : Fin 768) (l : Fin M) :
    shapeCast ⟨3, ![2, 768, M]⟩ (broadcastInDim ⟨4, ![2, 768, N, 32]⟩ ![0, 1, 2, 3] h2
      (broadcastInDim ⟨4, ![2, 768, N, 1]⟩ ![0, 1, 2] h3 Q)) h1 (ix3 b r l)
    = Q (ix3 b r (⟨l.val / 32, by omega⟩ : Fin N)) := by
  refine (shapeCast_apply _ _ _ (ix4 b r (⟨l.val / 32, by omega⟩ : Fin N) (⟨l.val % 32, by omega⟩ : Fin 32)) ?_).trans ?_
  · rw [Shape.rowMajor_val_four, Shape.rowMajor_val_three]
    show ((b.val * 768 + r.val) * N + l.val / 32) * 32 + l.val % 32 = (b.val * 768 + r.val) * M + l.val
    have e : (b.val * 768 + r.val) * M = (b.val * 768 + r.val) * N * 32 := by rw [hM]; ring
    rw [e]
    generalize (b.val * 768 + r.val) * N = z
    omega
  refine (broadcastInDim_apply _ _ _ _ (ix4 b r (⟨l.val / 32, by omega⟩ : Fin N) 0) fun x => ?_).trans ?_
  · match x with
    | ⟨0, _⟩ => rfl
    | ⟨1, _⟩ => rfl
    | ⟨2, _⟩ => show l.val / 32 = if N = 1 then 0 else l.val / 32; split <;> omega
    | ⟨3, _⟩ => rfl
  · refine broadcastInDim_apply _ _ _ _ _ fun x => ?_
    match x with
    | ⟨0, _⟩ => rfl
    | ⟨1, _⟩ => rfl
    | ⟨2, _⟩ => show l.val / 32 = if N = 1 then 0 else l.val / 32; split <;> omega

/-- The query scales' block. -/
theorem iblk3 (c : Dev nD) (t : Fin cfg0.N) :
    iblk m c 3 t = xb (LQ (m ((c : Thread nD τ).loc main_arg3))) (t.val / 8) (t.val % 8) := by
  funext j
  show V m c main_v3 (((cfg0.win 3).blk t).view.emb j) = _
  rw [V_main_v3, emb3]
  refine (blockLanes (N := 160) rfl _ _ _ _ _ _ _).trans (congrArg (m ((c : Thread nD τ).loc main_arg3)) (funext fun a => Fin.ext ?_))
  match a with
  | ⟨0, _⟩ => rfl
  | ⟨1, _⟩ => rfl
  | ⟨2, _⟩ =>
    show (640 * (t.val % 8) + (j 2).val) % 5120 / 32 = (640 * (t.val % 8) + (j 2).val) % 5120 / 32 % 160
    omega

/-- The key scales' block. -/
theorem iblk4 (c : Dev nD) (t : Fin cfg0.N) :
    iblk m c 4 t = kb (LK (m ((c : Thread nD τ).loc main_arg4))) (t.val / 8) (t.val % 8) := by
  funext j
  show V m c main_v7 (((cfg0.win 4).blk t).view.emb j) = _
  rw [V_main_v7, emb4]
  refine (blockLanes (N := 32) rfl _ _ _ _ _ _ _).trans (congrArg (m ((c : Thread nD τ).loc main_arg4)) (funext fun a => Fin.ext ?_))
  match a with
  | ⟨0, _⟩ => rfl
  | ⟨1, _⟩ => rfl
  | ⟨2, _⟩ =>
    show (128 * (t.val % 8) + (j 2).val) % 1024 / 32 = (128 * (t.val % 8) + (j 2).val) % 1024 / 32 % 32
    omega

/-- The value scales as the kernel finds them: each group's scale on the group's lanes. -/
theorem V_main_v10 (c : Dev nD) : V m c main_v10
    = shapeCast S2x1x1024 (broadcastInDim S2x1x8x128 ![0, 1, 2, 3] bcast_S2x1x8x1_S2x1x8x128_0_1_2_3
        (broadcastInDim S2x1x8x1 ![0, 2] bcast_S2x8_S2x1x8x1_0_2 (m ((c : Thread nD τ).loc main_arg5))))
        shapeCasts_S2x1x8x128_S2x1x1024 := by
  show StableHlo.after hostOps0 _ (Proc.devRef .tc main_v10) = _
  after_results
  rfl

/-- … read at an index. -/
theorem lanes (S : S2x8.Idx → EReal) (a : Fin 2) (b : Fin 1) (l : Fin 1024) :
    shapeCast S2x1x1024 (broadcastInDim S2x1x8x128 ![0, 1, 2, 3] bcast_S2x1x8x1_S2x1x8x128_0_1_2_3
        (broadcastInDim S2x1x8x1 ![0, 2] bcast_S2x8_S2x1x8x1_0_2 S)) shapeCasts_S2x1x8x128_S2x1x1024 (ix3 a b l)
      = S (ix2 a ⟨l.val / 128, by omega⟩) := by
  refine (shapeCast_apply _ _ _ (ix4 a b ⟨l.val / 128, by omega⟩ ⟨l.val % 128, by omega⟩) ?_).trans ?_
  · rw [Shape.rowMajor_val_four, Shape.rowMajor_val_three]
    show ((a.val * 1 + b.val) * 8 + l.val / 128) * 128 + l.val % 128 = (a.val * 1 + b.val) * 1024 + l.val
    omega
  refine (broadcastInDim_apply _ _ _ _ (ix4 a b ⟨l.val / 128, by omega⟩ 0) fun x => ?_).trans ?_
  · match x with
    | ⟨0, _⟩ => rfl
    | ⟨1, _⟩ => show b.val = 0; omega
    | ⟨2, _⟩ => rfl
    | ⟨3, _⟩ => rfl
  · exact broadcastInDim_apply _ _ _ _ _ fun x => by
      match x with
      | ⟨0, _⟩ => rfl
      | ⟨1, _⟩ => rfl

/-- The scale block at a grid point. -/
theorem iblk5 (c : Dev nD) (t : Fin cfg0.N) :
    iblk m c 5 t = sb (m ((c : Thread nD τ).loc main_arg5)) (t.val / 8) (t.val % 8) := by
  obtain ⟨e0, e1, e2⟩ := index5 t
  have ht := lt16 t
  funext j
  have h0 : (j 0).val < 1 := (j 0).isLt
  have h1 : (j 1).val < 1 := (j 1).isLt
  have h2 : (j 2).val < 128 := (j 2).isLt
  have e : ((cfg0.win 5).blk t).view.emb j
      = ix3 (⟨t.val / 8, by omega⟩ : Fin 2) (0 : Fin 1) (⟨128 * (t.val % 8) + (j 2).val, by omega⟩ : Fin 1024) := by
    funext a
    apply Fin.ext
    match a with
    | ⟨0, _⟩ => show win0_5.index t (0 : Fin 3) * 1 + 1 * (j 0).val = t.val / 8; omega
    | ⟨1, _⟩ => show win0_5.index t (1 : Fin 3) * 1 + 1 * (j 1).val = 0; omega
    | ⟨2, _⟩ => show win0_5.index t (2 : Fin 3) * 128 + 1 * (j 2).val = 128 * (t.val % 8) + (j 2).val; omega
  show V m c main_v10 (((cfg0.win 5).blk t).view.emb j) = _
  rw [e, V_main_v10]
  refine (lanes _ _ _ _).trans ?_
  refine congrArg (m ((c : Thread nD τ).loc main_arg5)) (funext fun a => Fin.ext ?_)
  match a with
  | ⟨0, _⟩ => show t.val / 8 = t.val / 8 % 2; omega
  | ⟨1, _⟩ => show (128 * (t.val % 8) + (j 2).val) / 128 = t.val % 8 % 8; omega

/-- What a grid point writes back is its block of the attention. -/
theorem flushed6_eq (c : Dev nD) (t : Fin cfg0.N) :
    (dats m 0 c).flushed 6 t = ((cfg0.win 6).blk t).view.read (Elt Ideal) (F (D (m ((c : Thread nD τ).loc main_arg0)) (LQ (m ((c : Thread nD τ).loc main_arg3)))) (D (m ((c : Thread nD τ).loc main_arg1)) (LK (m ((c : Thread nD τ).loc main_arg4)))) (m ((c : Thread nD τ).loc main_arg2)) (m ((c : Thread nD τ).loc main_arg5))) := by
  rw [flushed6_A]
  funext j
  show _ = (F (D (m ((c : Thread nD τ).loc main_arg0)) (LQ (m ((c : Thread nD τ).loc main_arg3)))) (D (m ((c : Thread nD τ).loc main_arg1)) (LK (m ((c : Thread nD τ).loc main_arg4)))) (m ((c : Thread nD τ).loc main_arg2)) (m ((c : Thread nD τ).loc main_arg5))) (((cfg0.win 6).blk t).view.emb j)
  rw [emb6]
  refine (out_eq _ _ _ _ _ _ _ _ _ _ _ _ _ _ _ _ _ _ _ _ _ _ _ _ _ _ _ _ _ _ _ _ _ _ _ _ _ _ _ _ j).trans ?_
  rw [iblk0, iblk1, iblk2, iblk3, iblk4, iblk5]
  have ht := lt16 t
  have h2 : (j 2).val < 640 := (j 2).isLt
  have a0 : t.val / 8 % 2 = t.val / 8 := by omega
  have a1 : (640 * (t.val % 8) + (j 2).val) % 5120 / 640 = t.val % 8 := by omega
  have a2 : (640 * (t.val % 8) + (j 2).val) % 5120 % 640 = (j 2).val := by omega
  have a3 : (Fin.ofNat 128 ((640 * (t.val % 8) + (j 2).val) % 5120)) = Fin.ofNat 128 (j 2).val :=
    Fin.ext (by show (640 * (t.val % 8) + (j 2).val) % 5120 % 128 = (j 2).val % 128; omega)
  unfold F at640
  show O _ _ _ _ ((j 2).val / 128) (j 1).val (Fin.ofNat 128 (j 2).val)
    = O (xb _ (t.val / 8 % 2) ((640 * (t.val % 8) + (j 2).val) % 5120 / 640))
      (kb _ (t.val / 8 % 2) ((640 * (t.val % 8) + (j 2).val) % 5120 / 640))
      (kb _ (t.val / 8 % 2) ((640 * (t.val % 8) + (j 2).val) % 5120 / 640))
      (sb _ (t.val / 8 % 2) ((640 * (t.val % 8) + (j 2).val) % 5120 / 640))
      ((640 * (t.val % 8) + (j 2).val) % 5120 % 640 / 128) (j 1).val (Fin.ofNat 128 ((640 * (t.val % 8) + (j 2).val) % 5120))
  rw [a0, a1, a2, a3]
  rfl

/-- What a grid point writes back of the query codes. -/
theorem flushed7_eq (c : Dev nD) (t : Fin cfg0.N) :
    (dats m 0 c).flushed 7 t = ((cfg0.win 7).blk t).view.read (Elt Ideal) (C (m ((c : Thread nD τ).loc main_arg0)) (LQ (m ((c : Thread nD τ).loc main_arg3)))) := by
  rw [flushed7_A]
  funext j
  show _ = (C (m ((c : Thread nD τ).loc main_arg0)) (LQ (m ((c : Thread nD τ).loc main_arg3)))) (((cfg0.win 7).blk t).view.emb j)
  rw [emb7]
  refine (codesQ_eq _ _ _ _ _ _ _ _ _ _ _ _ _ _ _ _ _ _ _ _ _ _ _ _ _ _ _ _ _ _ _ _ _ _ _ _ _ _ _ _ j).trans ?_
  rw [iblk0, iblk3]
  rfl

/-- What a grid point writes back of the key codes. -/
theorem flushed8_eq (c : Dev nD) (t : Fin cfg0.N) :
    (dats m 0 c).flushed 8 t = ((cfg0.win 8).blk t).view.read (Elt Ideal) (C (m ((c : Thread nD τ).loc main_arg1)) (LK (m ((c : Thread nD τ).loc main_arg4)))) := by
  rw [flushed8_A]
  funext j
  show _ = (C (m ((c : Thread nD τ).loc main_arg1)) (LK (m ((c : Thread nD τ).loc main_arg4)))) (((cfg0.win 8).blk t).view.emb j)
  rw [emb8]
  refine (codesK_eq _ _ _ _ _ _ _ _ _ _ _ _ _ _ _ _ _ _ _ _ _ _ _ _ _ _ _ _ _ _ _ _ _ _ _ _ _ _ _ _ j).trans ?_
  rw [iblk1, iblk4]
  rfl

/-- What a grid point writes back of the value codes. -/
theorem flushed9_eq (c : Dev nD) (t : Fin cfg0.N) :
    (dats m 0 c).flushed 9 t = ((cfg0.win 9).blk t).view.read (Elt Ideal) (C (m ((c : Thread nD τ).loc main_arg2)) (LV (m ((c : Thread nD τ).loc main_arg5)))) := by
  rw [flushed9_A]
  funext j
  show _ = (C (m ((c : Thread nD τ).loc main_arg2)) (LV (m ((c : Thread nD τ).loc main_arg5)))) (((cfg0.win 9).blk t).view.emb j)
  rw [emb9]
  refine (codesV_eq _ _ _ _ _ _ _ _ _ _ _ _ _ _ _ _ _ _ _ _ _ _ _ _ _ _ _ _ _ _ _ _ _ _ _ _ _ _ _ _ j).trans ?_
  rw [iblk2, iblk5]
  have h2 : (j 2).val < 128 := (j 2).isLt
  unfold VC C at128
  refine congrArg (fun z => Tile.clip (_ * Ideal.div 1 (m ((c : Thread nD τ).loc main_arg5) z))) (funext fun a => Fin.ext ?_)
  match a with
  | ⟨0, _⟩ => rfl
  | ⟨1, _⟩ => show t.val % 8 % 8 = (128 * (t.val % 8) + (j 2).val) % 1024 / 128 % 8; omega

/-- The grid point whose block holds a row of batch entry `b`, group `g`. -/
def pt (b g : ℕ) (hb : b < 2) (hg : g < 8) : Fin cfg0.N := ⟨8 * b + g, by have := N_0; show _ < grid0.N; omega⟩

/-- An index among 5120 columns is where some point's block puts one. -/
theorem hit640 (i : S2x768x5120.Idx) : ∃ (t : Fin cfg0.N) (j : S1x768x640.Idx), at640 t.val j = i := by
  have h0 : (i 0).val < 2 := (i 0).isLt
  have h2 : (i 2).val < 5120 := (i 2).isLt
  refine ⟨pt (i 0).val ((i 2).val / 640) h0 (by omega), ix3 (0 : Fin 1) (i 1) (⟨(i 2).val % 640, by omega⟩ : Fin 640), ?_⟩
  funext a
  apply Fin.ext
  match a with
  | ⟨0, _⟩ => show (8 * (i 0).val + (i 2).val / 640) / 8 % 2 = (i 0).val; omega
  | ⟨1, _⟩ => rfl
  | ⟨2, _⟩ => show (640 * ((8 * (i 0).val + (i 2).val / 640) % 8) + (i 2).val % 640) % 5120 = (i 2).val; omega

/-- An index among 1024 columns is where some point's block puts one. -/
theorem hit128 (i : S2x768x1024.Idx) : ∃ (t : Fin cfg0.N) (j : S1x768x128.Idx), at128 t.val j = i := by
  have h0 : (i 0).val < 2 := (i 0).isLt
  have h2 : (i 2).val < 1024 := (i 2).isLt
  refine ⟨pt (i 0).val ((i 2).val / 128) h0 (by omega), ix3 (0 : Fin 1) (i 1) (⟨(i 2).val % 128, by omega⟩ : Fin 128), ?_⟩
  funext a
  apply Fin.ext
  match a with
  | ⟨0, _⟩ => show (8 * (i 0).val + (i 2).val / 128) / 8 % 2 = (i 0).val; omega
  | ⟨1, _⟩ => rfl
  | ⟨2, _⟩ => show (128 * ((8 * (i 0).val + (i 2).val / 128) % 8) + (i 2).val % 128) % 1024 = (i 2).val; omega

/-- The array of the attention after the run. -/
theorem final6 (c : Dev nD) : (dats m 0 c).arrAt 6 cfg0.N = F (D (m ((c : Thread nD τ).loc main_arg0)) (LQ (m ((c : Thread nD τ).loc main_arg3)))) (D (m ((c : Thread nD τ).loc main_arg1)) (LK (m ((c : Thread nD τ).loc main_arg4)))) (m ((c : Thread nD τ).loc main_arg2)) (m ((c : Thread nD τ).loc main_arg5)) := by
  refine (dats m 0 c).arrAt_eq_of_cover 6 _ (fun t _ => flushed6_eq m c t) fun i => ?_
  obtain ⟨t, j, e⟩ := hit640 i
  have h := ((cfg0.win 6).blk t).view.emb_mem_set (j : S1x768x640.Idx)
  rw [emb6, e] at h
  exact ⟨t, flush0_6 t, h⟩

/-- The array of the query codes after the run. -/
theorem final7 (c : Dev nD) : (dats m 0 c).arrAt 7 cfg0.N = C (m ((c : Thread nD τ).loc main_arg0)) (LQ (m ((c : Thread nD τ).loc main_arg3))) := by
  refine (dats m 0 c).arrAt_eq_of_cover 7 _ (fun t _ => flushed7_eq m c t) fun i => ?_
  obtain ⟨t, j, e⟩ := hit640 i
  have h := ((cfg0.win 7).blk t).view.emb_mem_set (j : S1x768x640.Idx)
  rw [emb7, e] at h
  exact ⟨t, flush0_7 t, h⟩

/-- The array of the key codes after the run. -/
theorem final8 (c : Dev nD) : (dats m 0 c).arrAt 8 cfg0.N = C (m ((c : Thread nD τ).loc main_arg1)) (LK (m ((c : Thread nD τ).loc main_arg4))) := by
  refine (dats m 0 c).arrAt_eq_of_cover 8 _ (fun t _ => flushed8_eq m c t) fun i => ?_
  obtain ⟨t, j, e⟩ := hit128 i
  have h := ((cfg0.win 8).blk t).view.emb_mem_set (j : S1x768x128.Idx)
  rw [emb8, e] at h
  exact ⟨t, flush0_8 t, h⟩

/-- The array of the value codes after the run. -/
theorem final9 (c : Dev nD) : (dats m 0 c).arrAt 9 cfg0.N = C (m ((c : Thread nD τ).loc main_arg2)) (LV (m ((c : Thread nD τ).loc main_arg5))) := by
  refine (dats m 0 c).arrAt_eq_of_cover 9 _ (fun t _ => flushed9_eq m c t) fun i => ?_
  obtain ⟨t, j, e⟩ := hit128 i
  have h := ((cfg0.win 9).blk t).view.emb_mem_set (j : S1x768x128.Idx)
  rw [emb9, e] at h
  exact ⟨t, flush0_9 t, h⟩

end Cert.Array

end
-- ==== Proof.RefRun.lean ====
/-
  The reference program's run: every weakly fair execution terminates with the attention at the composed term of the
  arguments, the codes at what the one call leaves of them, and the arguments unchanged. The statements are those of
  the generated module on the run, whose line on the attention's result needs one more step by definition.
-/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v27_0` (window 3's): not opened here. -/
def reg_main_v27_0 (c : Dev nD) : Buf (Elt F) ((c.tc : Thread nD τ).loc main_v27_0) := (Gen.dats m 0 c).arrAt 3 cfg0.N
/-- What the kernel region leaves in its result array `main_v27_1` (window 4's): not opened here. -/
def reg_main_v27_1 (c : Dev nD) : Buf (Elt F) ((c.tc : Thread nD τ).loc main_v27_1) := (Gen.dats m 0 c).arrAt 4 cfg0.N
/-- What the kernel region leaves in its result array `main_v27_2` (window 5's): not opened here. -/
def reg_main_v27_2 (c : Dev nD) : Buf (Elt F) ((c.tc : Thread nD τ).loc main_v27_2) := (Gen.dats m 0 c).arrAt 5 cfg0.N

/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg4`: as launched. -/
theorem exit_main_arg4 (c : Dev nD) : exitV m c (Proc.devRef .tc main_arg4) = m ((c.tc : Thread nD τ).loc main_arg4) :=
  (Pipeline.withArrays_of_ne _ c (Gen.V0 m c) _ main_arg4 (by exact (by decide : ∀ w, Pipeline.arrRef spec0 w ≠ main_arg4))).trans (Gen.V_main_arg4 m c)
/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
set_option maxRecDepth 8192 in
set_option maxHeartbeats 2000000 in
/-- The exit contents at `main_v7`, computed before the region: its composed term of the arguments' launch contents. -/
theorem exit_main_v7 (c : Dev nD) : exitV m c (Proc.devRef .tc main_v7) = minimumf (broadcastInDim S2x768x160x32 ![] bcast_S_S2x768x160x32 (id (constant S_ .f32 0x43E00000#32))) (maximumf (broadcastInDim S2x768x160x32 ![] bcast_S_S2x768x160x32 (id (constant S_ .f32 0xC3E00000#32))) (mulf (shapeCast _ (extf .f32 (m ((c.tc : Thread nD τ).loc main_arg0)) bitsLt_bf16_f32) shapeCasts_S2x768x5120_S2x768x160x32) (broadcastInDim S2x768x160x32 ![0, 1, 2, 3] bcast_S2x768x160x1_S2x768x160x32_0_1_2_3 (broadcastInDim S2x768x160x1 ![0, 1, 2] bcast_S2x768x160_S2x768x160x1_0_1_2 (Host.divf (broadcastInDim S2x768x160 ![] bcast_S_S2x768x160 (constant S_ .f32 0x3F800000#32)) (m ((c.tc : Thread nD τ).loc main_arg3))))))) :=
  (Pipeline.withArrays_of_ne _ c (Gen.V0 m c) _ main_v7 (by exact (by decide : ∀ w, Pipeline.arrRef spec0 w ≠ main_v7))).trans (by
    show Gen.V0 m c (Proc.devRef .tc main_v7) = _
    simp only [Gen.V0, Gen.hostOps0, Gen.hostOps0_1, Gen.hostOps0_2, Gen.hostOps0_3, Gen.hostOps0_4, Gen.hostOps0_5, Gen.hostOps0_6, TRef.binary, TRef.unary, TRef.toBuf, TRef.ofBuf, cast_eq, List.flatten_cons, List.flatten_nil, List.append_nil, List.cons_append, List.nil_append]
    after_results_simp <;> rfl)
set_option maxRecDepth 8192 in
set_option maxHeartbeats 2000000 in
/-- The exit contents at `main_v15`, computed before the region: its composed term of the arguments' launch contents. -/
theorem exit_main_v15 (c : Dev nD) : exitV m c (Proc.devRef .tc main_v15) = minimumf (broadcastInDim S2x768x32x32 ![] bcast_S_S2x768x32x32 (id (constant S_ .f32 0x43E00000#32))) (maximumf (broadcastInDim S2x768x32x32 ![] bcast_S_S2x768x32x32 (id (constant S_ .f32 0xC3E00000#32))) (mulf (shapeCast _ (extf .f32 (m ((c.tc : Thread nD τ).loc main_arg1)) bitsLt_bf16_f32) shapeCasts_S2x768x1024_S2x768x32x32) (broadcastInDim S2x768x32x32 ![0, 1, 2, 3] bcast_S2x768x32x1_S2x768x32x32_0_1_2_3 (broadcastInDim S2x768x32x1 ![0, 1, 2] bcast_S2x768x32_S2x768x32x1_0_1_2 (Host.divf (broadcastInDim S2x768x32 ![] bcast_S_S2x768x32 (constant S_ .f32 0x3F800000#32)) (m ((c.tc : Thread nD τ).loc main_arg4))))))) :=
  (Pipeline.withArrays_of_ne _ c (Gen.V0 m c) _ main_v15 (by exact (by decide : ∀ w, Pipeline.arrRef spec0 w ≠ main_v15))).trans (by
    show Gen.V0 m c (Proc.devRef .tc main_v15) = _
    simp only [Gen.V0, Gen.hostOps0, Gen.hostOps0_1, Gen.hostOps0_2, Gen.hostOps0_3, Gen.hostOps0_4, Gen.hostOps0_5, Gen.hostOps0_6, TRef.binary, TRef.unary, TRef.toBuf, TRef.ofBuf, cast_eq, List.flatten_cons, List.flatten_nil, List.append_nil, List.cons_append, List.nil_append]
    after_results_simp <;> rfl)
set_option maxRecDepth 8192 in
set_option maxHeartbeats 2000000 in
/-- The exit contents at `main_v23`, computed before the region: its composed term of the arguments' launch contents. -/
theorem exit_main_v23 (c : Dev nD) : exitV m c (Proc.devRef .tc main_v23) = minimumf (broadcastInDim S2x768x8x128 ![] bcast_S_S2x768x8x128 (id (constant S_ .f32 0x43E00000#32))) (maximumf (broadcastInDim S2x768x8x128 ![] bcast_S_S2x768x8x128 (id (constant S_ .f32 0xC3E00000#32))) (mulf (shapeCast _ (extf .f32 (m ((c.tc : Thread nD τ).loc main_arg2)) bitsLt_bf16_f32) shapeCasts_S2x768x1024_S2x768x8x128) (broadcastInDim S2x768x8x128 ![0, 1, 2, 3] bcast_S2x1x8x1_S2x768x8x128_0_1_2_3 (broadcastInDim S2x1x8x1 ![0, 2] bcast_S2x8_S2x1x8x1_0_2 (Host.divf (broadcastInDim S2x8 ![] bcast_S_S2x8 (constant S_ .f32 0x3F800000#32)) (m ((c.tc : Thread nD τ).loc main_arg5))))))) :=
  (Pipeline.withArrays_of_ne _ c (Gen.V0 m c) _ main_v23 (by exact (by decide : ∀ w, Pipeline.arrRef spec0 w ≠ main_v23))).trans (by
    show Gen.V0 m c (Proc.devRef .tc main_v23) = _
    simp only [Gen.V0, Gen.hostOps0, Gen.hostOps0_1, Gen.hostOps0_2, Gen.hostOps0_3, Gen.hostOps0_4, Gen.hostOps0_5, Gen.hostOps0_6, TRef.binary, TRef.unary, TRef.toBuf, TRef.ofBuf, cast_eq, List.flatten_cons, List.flatten_nil, List.append_nil, List.cons_append, List.nil_append]
    after_results_simp <;> rfl)
/-- The exit contents at the region's result array `main_v27_0`. -/
theorem exit_main_v27_0 (c : Dev nD) : exitV m c (Proc.devRef .tc main_v27_0) = reg_main_v27_0 m c :=
  Pipeline.withArrays_arr spec0 Gen.launch0.win.arr_inj c (Gen.V0 m c) _ 3
/-- The exit contents at the region's result array `main_v27_1`. -/
theorem exit_main_v27_1 (c : Dev nD) : exitV m c (Proc.devRef .tc main_v27_1) = reg_main_v27_1 m c :=
  Pipeline.withArrays_arr spec0 Gen.launch0.win.arr_inj c (Gen.V0 m c) _ 4
/-- The exit contents at the region's result array `main_v27_2`. -/
theorem exit_main_v27_2 (c : Dev nD) : exitV m c (Proc.devRef .tc main_v27_2) = reg_main_v27_2 m c :=
  Pipeline.withArrays_arr spec0 Gen.launch0.win.arr_inj c (Gen.V0 m c) _ 5

set_option maxRecDepth 8192 in
/-- `main_v68`'s composed term of the arguments and the region's results (named: it is long). -/
def res_main_v68 (c : Dev nD) : Buf (Elt F) ((c.tc : Thread nD τ).loc main_v68) :=
  shapeCast _ (transpose S2x768x8x5x128 [0, 3, 1, 2, 4] (truncf .bf16 (mulf (Host.dotGeneral dot_S2x8x5x768x768_S2x768x8x128_S2x8x5x768x128_4_1_23_3_01_02 none (minimumf (broadcastInDim S2x8x5x768x768 ![] bcast_S_S2x8x5x768x768 (id (constant S_ .f32 0x43E00000#32))) (maximumf (broadcastInDim S2x8x5x768x768 ![] bcast_S_S2x8x5x768x768 (id (constant S_ .f32 0xC3E00000#32))) (mulf (Host.exp (subf (select (broadcastInDim S2x8x5x768x768 ![3, 4] bcast_S768x768_S2x8x5x768x768_3_4 (cmpi .sle (broadcastInDim S768x768 ![0, 1] bcast_S1x768_S768x768_0_1 (broadcastInDim S1x768 ![1] bcast_S768_S1x768_1 (iotaInDim S768 32 0))) (broadcastInDim S768x768 ![0, 1] bcast_S768x1_S768x768_0_1 (broadcastInDim S768x1 ![0] bcast_S768_S768x1_0 (iotaInDim S768 32 0))))) (Host.divf (transpose S2x8x5x768x768 [0, 1, 4, 3, 2] (Host.dotGeneral dot_S2x768x8x128_S2x768x8x5x128_S2x8x768x768x5_3_4_1_13_02_02 none (shapeCast _ (mulf (minimumf (broadcastInDim S2x768x32x32 ![] bcast_S_S2x768x32x32 (id (constant S_ .f32 0x43E00000#32))) (maximumf (broadcastInDim S2x768x32x32 ![] bcast_S_S2x768x32x32 (id (constant S_ .f32 0xC3E00000#32))) (mulf (shapeCast _ (extf .f32 (m ((c.tc : Thread nD τ).loc main_arg1)) bitsLt_bf16_f32) shapeCasts_S2x768x1024_S2x768x32x32) (broadcastInDim S2x768x32x32 ![0, 1, 2, 3] bcast_S2x768x32x1_S2x768x32x32_0_1_2_3 (broadcastInDim S2x768x32x1 ![0, 1, 2] bcast_S2x768x32_S2x768x32x1_0_1_2 (Host.divf (broadcastInDim S2x768x32 ![] bcast_S_S2x768x32 (constant S_ .f32 0x3F800000#32)) (m ((c.tc : Thread nD τ).loc main_arg4)))))))) (broadcastInDim S2x768x32x32 ![0, 1, 2, 3] bcast_S2x768x32x1_S2x768x32x32_0_1_2_3 (broadcastInDim S2x768x32x1 ![0, 1, 2] bcast_S2x768x32_S2x768x32x1_0_1_2 (m ((c.tc : Thread nD τ).loc main_arg4))))) shapeCasts_S2x768x32x32_S2x768x8x128) (shapeCast _ (mulf (minimumf (broadcastInDim S2x768x160x32 ![] bcast_S_S2x768x160x32 (id (constant S_ .f32 0x43E00000#32))) (maximumf (broadcastInDim S2x768x160x32 ![] bcast_S_S2x768x160x32 (id (constant S_ .f32 0xC3E00000#32))) (mulf (shapeCast _ (extf .f32 (m ((c.tc : Thread nD τ).loc main_arg0)) bitsLt_bf16_f32) shapeCasts_S2x768x5120_S2x768x160x32) (broadcastInDim S2x768x160x32 ![0, 1, 2, 3] bcast_S2x768x160x1_S2x768x160x32_0_1_2_3 (broadcastInDim S2x768x160x1 ![0, 1, 2] bcast_S2x768x160_S2x768x160x1_0_1_2 (Host.divf (broadcastInDim S2x768x160 ![] bcast_S_S2x768x160 (constant S_ .f32 0x3F800000#32)) (m ((c.tc : Thread nD τ).loc main_arg3)))))))) (broadcastInDim S2x768x160x32 ![0, 1, 2, 3] bcast_S2x768x160x1_S2x768x160x32_0_1_2_3 (broadcastInDim S2x768x160x1 ![0, 1, 2] bcast_S2x768x160_S2x768x160x1_0_1_2 (m ((c.tc : Thread nD τ).loc main_arg3))))) shapeCasts_S2x768x160x32_S2x768x8x5x128)) transposes_S2x8x768x768x5_S2x8x5x768x768_0_1_4_3_2) (broadcastInDim S2x8x5x768x768 ![] bcast_S_S2x8x5x768x768 (Host.sqrt (constant S_ .f32 0x43000000#32)))) (broadcastInDim S2x8x5x768x768 ![] bcast_S_S2x8x5x768x768 (id (constant S_ .f32 0xFF800000#32)))) (broadcastInDim S2x8x5x768x768 ![0, 1, 2, 3, 4] bcast_S2x8x5x768x1_S2x8x5x768x768_0_1_2_3_4 (broadcastInDim S2x8x5x768x1 ![0, 1, 2, 3] bcast_S2x8x5x768_S2x8x5x768x1_0_1_2_3 (Host.reduce FloatOps.maximumf (select (broadcastInDim S2x8x5x768x768 ![3, 4] bcast_S768x768_S2x8x5x768x768_3_4 (cmpi .sle (broadcastInDim S768x768 ![0, 1] bcast_S1x768_S768x768_0_1 (broadcastInDim S1x768 ![1] bcast_S768_S1x768_1 (iotaInDim S768 32 0))) (broadcastInDim S768x768 ![0, 1] bcast_S768x1_S768x768_0_1 (broadcastInDim S768x1 ![0] bcast_S768_S768x1_0 (iotaInDim S768 32 0))))) (Host.divf (transpose S2x8x5x768x768 [0, 1, 4, 3, 2] (Host.dotGeneral dot_S2x768x8x128_S2x768x8x5x128_S2x8x768x768x5_3_4_1_13_02_02 none (shapeCast _ (mulf (minimumf (broadcastInDim S2x768x32x32 ![] bcast_S_S2x768x32x32 (id (constant S_ .f32 0x43E00000#32))) (maximumf (broadcastInDim S2x768x32x32 ![] bcast_S_S2x768x32x32 (id (constant S_ .f32 0xC3E00000#32))) (mulf (shapeCast _ (extf .f32 (m ((c.tc : Thread nD τ).loc main_arg1)) bitsLt_bf16_f32) shapeCasts_S2x768x1024_S2x768x32x32) (broadcastInDim S2x768x32x32 ![0, 1, 2, 3] bcast_S2x768x32x1_S2x768x32x32_0_1_2_3 (broadcastInDim S2x768x32x1 ![0, 1, 2] bcast_S2x768x32_S2x768x32x1_0_1_2 (Host.divf (broadcastInDim S2x768x32 ![] bcast_S_S2x768x32 (constant S_ .f32 0x3F800000#32)) (m ((c.tc : Thread nD τ).loc main_arg4)))))))) (broadcastInDim S2x768x32x32 ![0, 1, 2, 3] bcast_S2x768x32x1_S2x768x32x32_0_1_2_3 (broadcastInDim S2x768x32x1 ![0, 1, 2] bcast_S2x768x32_S2x768x32x1_0_1_2 (m ((c.tc : Thread nD τ).loc main_arg4))))) shapeCasts_S2x768x32x32_S2x768x8x128) (shapeCast _ (mulf (minimumf (broadcastInDim S2x768x160x32 ![] bcast_S_S2x768x160x32 (id (constant S_ .f32 0x43E00000#32))) (maximumf (broadcastInDim S2x768x160x32 ![] bcast_S_S2x768x160x32 (id (constant S_ .f32 0xC3E00000#32))) (mulf (shapeCast _ (extf .f32 (m ((c.tc : Thread nD τ).loc main_arg0)) bitsLt_bf16_f32) shapeCasts_S2x768x5120_S2x768x160x32) (broadcastInDim S2x768x160x32 ![0, 1, 2, 3] bcast_S2x768x160x1_S2x768x160x32_0_1_2_3 (broadcastInDim S2x768x160x1 ![0, 1, 2] bcast_S2x768x160_S2x768x160x1_0_1_2 (Host.divf (broadcastInDim S2x768x160 ![] bcast_S_S2x768x160 (constant S_ .f32 0x3F800000#32)) (m ((c.tc : Thread nD τ).loc main_arg3)))))))) (broadcastInDim S2x768x160x32 ![0, 1, 2, 3] bcast_S2x768x160x1_S2x768x160x32_0_1_2_3 (broadcastInDim S2x768x160x1 ![0, 1, 2] bcast_S2x768x160_S2x768x160x1_0_1_2 (m ((c.tc : Thread nD τ).loc main_arg3))))) shapeCasts_S2x768x160x32_S2x768x8x5x128)) transposes_S2x8x768x768x5_S2x8x5x768x768_0_1_4_3_2) (broadcastInDim S2x8x5x768x768 ![] bcast_S_S2x8x5x768x768 (Host.sqrt (constant S_ .f32 0x43000000#32)))) (broadcastInDim S2x8x5x768x768 ![] bcast_S_S2x8x5x768x768 (id (constant S_ .f32 0xFF800000#32)))) (constant S_ .f32 0xFF800000#32) reducesTo_S2x8x5x768x768_S2x8x5x768_d4 h_S_))))) (broadcastInDim S2x8x5x768x768 ![] bcast_S_S2x8x5x768x768 (constant S_ .f32 0x43800000#32))))) (minimumf (broadcastInDim S2x768x8x128 ![] bcast_S_S2x768x8x128 (id (constant S_ .f32 0x43E00000#32))) (maximumf (broadcastInDim S2x768x8x128 ![] bcast_S_S2x768x8x128 (id (constant S_ .f32 0xC3E00000#32))) (mulf (shapeCast _ (extf .f32 (m ((c.tc : Thread nD τ).loc main_arg2)) bitsLt_bf16_f32) shapeCasts_S2x768x1024_S2x768x8x128) (broadcastInDim S2x768x8x128 ![0, 1, 2, 3] bcast_S2x1x8x1_S2x768x8x128_0_1_2_3 (broadcastInDim S2x1x8x1 ![0, 2] bcast_S2x8_S2x1x8x1_0_2 (Host.divf (broadcastInDim S2x8 ![] bcast_S_S2x8 (constant S_ .f32 0x3F800000#32)) (m ((c.tc : Thread nD τ).loc main_arg5))))))))) (broadcastInDim S2x8x5x768x128 ![0, 1, 2, 3, 4] bcast_S2x8x5x768x1_S2x8x5x768x128_0_1_2_3_4 (Host.divf (broadcastInDim S2x8x5x768x1 ![0, 1, 2, 3, 4] bcast_S2x8x1x1x1_S2x8x5x768x1_0_1_2_3_4 (mulf (broadcastInDim S2x8x1x1x1 ![0, 1] bcast_S2x8_S2x8x1x1x1_0_1 (m ((c.tc : Thread nD τ).loc main_arg5))) (broadcastInDim S2x8x1x1x1 ![] bcast_S_S2x8x1x1x1 (constant S_ .f32 0x3B800000#32)))) (broadcastInDim S2x8x5x768x1 ![0, 1, 2, 3] bcast_S2x8x5x768_S2x8x5x768x1_0_1_2_3 (Host.reduceAdd (Host.exp (subf (select (broadcastInDim S2x8x5x768x768 ![3, 4] bcast_S768x768_S2x8x5x768x768_3_4 (cmpi .sle (broadcastInDim S768x768 ![0, 1] bcast_S1x768_S768x768_0_1 (broadcastInDim S1x768 ![1] bcast_S768_S1x768_1 (iotaInDim S768 32 0))) (broadcastInDim S768x768 ![0, 1] bcast_S768x1_S768x768_0_1 (broadcastInDim S768x1 ![0] bcast_S768_S768x1_0 (iotaInDim S768 32 0))))) (Host.divf (transpose S2x8x5x768x768 [0, 1, 4, 3, 2] (Host.dotGeneral dot_S2x768x8x128_S2x768x8x5x128_S2x8x768x768x5_3_4_1_13_02_02 none (shapeCast _ (mulf (minimumf (broadcastInDim S2x768x32x32 ![] bcast_S_S2x768x32x32 (id (constant S_ .f32 0x43E00000#32))) (maximumf (broadcastInDim S2x768x32x32 ![] bcast_S_S2x768x32x32 (id (constant S_ .f32 0xC3E00000#32))) (mulf (shapeCast _ (extf .f32 (m ((c.tc : Thread nD τ).loc main_arg1)) bitsLt_bf16_f32) shapeCasts_S2x768x1024_S2x768x32x32) (broadcastInDim S2x768x32x32 ![0, 1, 2, 3] bcast_S2x768x32x1_S2x768x32x32_0_1_2_3 (broadcastInDim S2x768x32x1 ![0, 1, 2] bcast_S2x768x32_S2x768x32x1_0_1_2 (Host.divf (broadcastInDim S2x768x32 ![] bcast_S_S2x768x32 (constant S_ .f32 0x3F800000#32)) (m ((c.tc : Thread nD τ).loc main_arg4)))))))) (broadcastInDim S2x768x32x32 ![0, 1, 2, 3] bcast_S2x768x32x1_S2x768x32x32_0_1_2_3 (broadcastInDim S2x768x32x1 ![0, 1, 2] bcast_S2x768x32_S2x768x32x1_0_1_2 (m ((c.tc : Thread nD τ).loc main_arg4))))) shapeCasts_S2x768x32x32_S2x768x8x128) (shapeCast _ (mulf (minimumf (broadcastInDim S2x768x160x32 ![] bcast_S_S2x768x160x32 (id (constant S_ .f32 0x43E00000#32))) (maximumf (broadcastInDim S2x768x160x32 ![] bcast_S_S2x768x160x32 (id (constant S_ .f32 0xC3E00000#32))) (mulf (shapeCast _ (extf .f32 (m ((c.tc : Thread nD τ).loc main_arg0)) bitsLt_bf16_f32) shapeCasts_S2x768x5120_S2x768x160x32) (broadcastInDim S2x768x160x32 ![0, 1, 2, 3] bcast_S2x768x160x1_S2x768x160x32_0_1_2_3 (broadcastInDim S2x768x160x1 ![0, 1, 2] bcast_S2x768x160_S2x768x160x1_0_1_2 (Host.divf (broadcastInDim S2x768x160 ![] bcast_S_S2x768x160 (constant S_ .f32 0x3F800000#32)) (m ((c.tc : Thread nD τ).loc main_arg3)))))))) (broadcastInDim S2x768x160x32 ![0, 1, 2, 3] bcast_S2x768x160x1_S2x768x160x32_0_1_2_3 (broadcastInDim S2x768x160x1 ![0, 1, 2] bcast_S2x768x160_S2x768x160x1_0_1_2 (m ((c.tc : Thread nD τ).loc main_arg3))))) shapeCasts_S2x768x160x32_S2x768x8x5x128)) transposes_S2x8x768x768x5_S2x8x5x768x768_0_1_4_3_2) (broadcastInDim S2x8x5x768x768 ![] bcast_S_S2x8x5x768x768 (Host.sqrt (constant S_ .f32 0x43000000#32)))) (broadcastInDim S2x8x5x768x768 ![] bcast_S_S2x8x5x768x768 (id (constant S_ .f32 0xFF800000#32)))) (broadcastInDim S2x8x5x768x768 ![0, 1, 2, 3, 4] bcast_S2x8x5x768x1_S2x8x5x768x768_0_1_2_3_4 (broadcastInDim S2x8x5x768x1 ![0, 1, 2, 3] bcast_S2x8x5x768_S2x8x5x768x1_0_1_2_3 (Host.reduce FloatOps.maximumf (select (broadcastInDim S2x8x5x768x768 ![3, 4] bcast_S768x768_S2x8x5x768x768_3_4 (cmpi .sle (broadcastInDim S768x768 ![0, 1] bcast_S1x768_S768x768_0_1 (broadcastInDim S1x768 ![1] bcast_S768_S1x768_1 (iotaInDim S768 32 0))) (broadcastInDim S768x768 ![0, 1] bcast_S768x1_S768x768_0_1 (broadcastInDim S768x1 ![0] bcast_S768_S768x1_0 (iotaInDim S768 32 0))))) (Host.divf (transpose S2x8x5x768x768 [0, 1, 4, 3, 2] (Host.dotGeneral dot_S2x768x8x128_S2x768x8x5x128_S2x8x768x768x5_3_4_1_13_02_02 none (shapeCast _ (mulf (minimumf (broadcastInDim S2x768x32x32 ![] bcast_S_S2x768x32x32 (id (constant S_ .f32 0x43E00000#32))) (maximumf (broadcastInDim S2x768x32x32 ![] bcast_S_S2x768x32x32 (id (constant S_ .f32 0xC3E00000#32))) (mulf (shapeCast _ (extf .f32 (m ((c.tc : Thread nD τ).loc main_arg1)) bitsLt_bf16_f32) shapeCasts_S2x768x1024_S2x768x32x32) (broadcastInDim S2x768x32x32 ![0, 1, 2, 3] bcast_S2x768x32x1_S2x768x32x32_0_1_2_3 (broadcastInDim S2x768x32x1 ![0, 1, 2] bcast_S2x768x32_S2x768x32x1_0_1_2 (Host.divf (broadcastInDim S2x768x32 ![] bcast_S_S2x768x32 (constant S_ .f32 0x3F800000#32)) (m ((c.tc : Thread nD τ).loc main_arg4)))))))) (broadcastInDim S2x768x32x32 ![0, 1, 2, 3] bcast_S2x768x32x1_S2x768x32x32_0_1_2_3 (broadcastInDim S2x768x32x1 ![0, 1, 2] bcast_S2x768x32_S2x768x32x1_0_1_2 (m ((c.tc : Thread nD τ).loc main_arg4))))) shapeCasts_S2x768x32x32_S2x768x8x128) (shapeCast _ (mulf (minimumf (broadcastInDim S2x768x160x32 ![] bcast_S_S2x768x160x32 (id (constant S_ .f32 0x43E00000#32))) (maximumf (broadcastInDim S2x768x160x32 ![] bcast_S_S2x768x160x32 (id (constant S_ .f32 0xC3E00000#32))) (mulf (shapeCast _ (extf .f32 (m ((c.tc : Thread nD τ).loc main_arg0)) bitsLt_bf16_f32) shapeCasts_S2x768x5120_S2x768x160x32) (broadcastInDim S2x768x160x32 ![0, 1, 2, 3] bcast_S2x768x160x1_S2x768x160x32_0_1_2_3 (broadcastInDim S2x768x160x1 ![0, 1, 2] bcast_S2x768x160_S2x768x160x1_0_1_2 (Host.divf (broadcastInDim S2x768x160 ![] bcast_S_S2x768x160 (constant S_ .f32 0x3F800000#32)) (m ((c.tc : Thread nD τ).loc main_arg3)))))))) (broadcastInDim S2x768x160x32 ![0, 1, 2, 3] bcast_S2x768x160x1_S2x768x160x32_0_1_2_3 (broadcastInDim S2x768x160x1 ![0, 1, 2] bcast_S2x768x160_S2x768x160x1_0_1_2 (m ((c.tc : Thread nD τ).loc main_arg3))))) shapeCasts_S2x768x160x32_S2x768x8x5x128)) transposes_S2x8x768x768x5_S2x8x5x768x768_0_1_4_3_2) (broadcastInDim S2x8x5x768x768 ![] bcast_S_S2x8x5x768x768 (Host.sqrt (constant S_ .f32 0x43000000#32)))) (broadcastInDim S2x8x5x768x768 ![] bcast_S_S2x8x5x768x768 (id (constant S_ .f32 0xFF800000#32)))) (constant S_ .f32 0xFF800000#32) reducesTo_S2x8x5x768x768_S2x8x5x768_d4 h_S_))))) (constant S_ .f32 0x00000000#32) reducesTo_S2x8x5x768x768_S2x8x5x768_d4 h_S_))))) bitsLt_bf16_f32) transposes_S2x8x5x768x128_S2x768x8x5x128_0_3_1_2_4) shapeCasts_S2x768x8x5x128_S2x768x5120

/-- `res_main_v68` by its position among the values @main returns, 0 counting from 0: the name for hand proofs to cite, since
    a re-print renumbers `main_v68`. An abbreviation: it unfolds to the `res_main_v68` that `run` states. -/
abbrev res_out0 (c : Dev nD) : Buf (Elt F) ((c.tc : Thread nD τ).loc main_v68) := res_main_v68 m c

set_option maxRecDepth 8192 in
set_option maxHeartbeats 2000000 in
/-- The later operations from any contents `V0`, read at result `main_v68`. -/
theorem tail_main_v68 (V0 : Valuation τ sig (Elt F)) :
    after (List.flatten [Gen.hostOps1, Gen.hostOps1_1, Gen.hostOps1_2, Gen.hostOps1_3, Gen.hostOps1_4]) V0 (Proc.devRef .tc main_v68) = shapeCast _ (transpose S2x768x8x5x128 [0, 3, 1, 2, 4] (truncf .bf16 (mulf (Host.dotGeneral dot_S2x8x5x768x768_S2x768x8x128_S2x8x5x768x128_4_1_23_3_01_02 none (minimumf (broadcastInDim S2x8x5x768x768 ![] bcast_S_S2x8x5x768x768 (id (constant S_ .f32 0x43E00000#32))) (maximumf (broadcastInDim S2x8x5x768x768 ![] bcast_S_S2x8x5x768x768 (id (constant S_ .f32 0xC3E00000#32))) (mulf (Host.exp (subf (select (broadcastInDim S2x8x5x768x768 ![3, 4] bcast_S768x768_S2x8x5x768x768_3_4 (cmpi .sle (broadcastInDim S768x768 ![0, 1] bcast_S1x768_S768x768_0_1 (broadcastInDim S1x768 ![1] bcast_S768_S1x768_1 (iotaInDim S768 32 0))) (broadcastInDim S768x768 ![0, 1] bcast_S768x1_S768x768_0_1 (broadcastInDim S768x1 ![0] bcast_S768_S768x1_0 (iotaInDim S768 32 0))))) (Host.divf (transpose S2x8x5x768x768 [0, 1, 4, 3, 2] (Host.dotGeneral dot_S2x768x8x128_S2x768x8x5x128_S2x8x768x768x5_3_4_1_13_02_02 none (shapeCast _ (mulf (V0 (Proc.devRef .tc main_v15)) (broadcastInDim S2x768x32x32 ![0, 1, 2, 3] bcast_S2x768x32x1_S2x768x32x32_0_1_2_3 (broadcastInDim S2x768x32x1 ![0, 1, 2] bcast_S2x768x32_S2x768x32x1_0_1_2 (V0 (Proc.devRef .tc main_arg4))))) shapeCasts_S2x768x32x32_S2x768x8x128) (shapeCast _ (mulf (V0 (Proc.devRef .tc main_v7)) (broadcastInDim S2x768x160x32 ![0, 1, 2, 3] bcast_S2x768x160x1_S2x768x160x32_0_1_2_3 (broadcastInDim S2x768x160x1 ![0, 1, 2] bcast_S2x768x160_S2x768x160x1_0_1_2 (V0 (Proc.devRef .tc main_arg3))))) shapeCasts_S2x768x160x32_S2x768x8x5x128)) transposes_S2x8x768x768x5_S2x8x5x768x768_0_1_4_3_2) (broadcastInDim S2x8x5x768x768 ![] bcast_S_S2x8x5x768x768 (Host.sqrt (constant S_ .f32 0x43000000#32)))) (broadcastInDim S2x8x5x768x768 ![] bcast_S_S2x8x5x768x768 (id (constant S_ .f32 0xFF800000#32)))) (broadcastInDim S2x8x5x768x768 ![0, 1, 2, 3, 4] bcast_S2x8x5x768x1_S2x8x5x768x768_0_1_2_3_4 (broadcastInDim S2x8x5x768x1 ![0, 1, 2, 3] bcast_S2x8x5x768_S2x8x5x768x1_0_1_2_3 (Host.reduce FloatOps.maximumf (select (broadcastInDim S2x8x5x768x768 ![3, 4] bcast_S768x768_S2x8x5x768x768_3_4 (cmpi .sle (broadcastInDim S768x768 ![0, 1] bcast_S1x768_S768x768_0_1 (broadcastInDim S1x768 ![1] bcast_S768_S1x768_1 (iotaInDim S768 32 0))) (broadcastInDim S768x768 ![0, 1] bcast_S768x1_S768x768_0_1 (broadcastInDim S768x1 ![0] bcast_S768_S768x1_0 (iotaInDim S768 32 0))))) (Host.divf (transpose S2x8x5x768x768 [0, 1, 4, 3, 2] (Host.dotGeneral dot_S2x768x8x128_S2x768x8x5x128_S2x8x768x768x5_3_4_1_13_02_02 none (shapeCast _ (mulf (V0 (Proc.devRef .tc main_v15)) (broadcastInDim S2x768x32x32 ![0, 1, 2, 3] bcast_S2x768x32x1_S2x768x32x32_0_1_2_3 (broadcastInDim S2x768x32x1 ![0, 1, 2] bcast_S2x768x32_S2x768x32x1_0_1_2 (V0 (Proc.devRef .tc main_arg4))))) shapeCasts_S2x768x32x32_S2x768x8x128) (shapeCast _ (mulf (V0 (Proc.devRef .tc main_v7)) (broadcastInDim S2x768x160x32 ![0, 1, 2, 3] bcast_S2x768x160x1_S2x768x160x32_0_1_2_3 (broadcastInDim S2x768x160x1 ![0, 1, 2] bcast_S2x768x160_S2x768x160x1_0_1_2 (V0 (Proc.devRef .tc main_arg3))))) shapeCasts_S2x768x160x32_S2x768x8x5x128)) transposes_S2x8x768x768x5_S2x8x5x768x768_0_1_4_3_2) (broadcastInDim S2x8x5x768x768 ![] bcast_S_S2x8x5x768x768 (Host.sqrt (constant S_ .f32 0x43000000#32)))) (broadcastInDim S2x8x5x768x768 ![] bcast_S_S2x8x5x768x768 (id (constant S_ .f32 0xFF800000#32)))) (constant S_ .f32 0xFF800000#32) reducesTo_S2x8x5x768x768_S2x8x5x768_d4 h_S_))))) (broadcastInDim S2x8x5x768x768 ![] bcast_S_S2x8x5x768x768 (constant S_ .f32 0x43800000#32))))) (V0 (Proc.devRef .tc main_v23))) (broadcastInDim S2x8x5x768x128 ![0, 1, 2, 3, 4] bcast_S2x8x5x768x1_S2x8x5x768x128_0_1_2_3_4 (Host.divf (broadcastInDim S2x8x5x768x1 ![0, 1, 2, 3, 4] bcast_S2x8x1x1x1_S2x8x5x768x1_0_1_2_3_4 (mulf (broadcastInDim S2x8x1x1x1 ![0, 1] bcast_S2x8_S2x8x1x1x1_0_1 (V0 (Proc.devRef .tc main_arg5))) (broadcastInDim S2x8x1x1x1 ![] bcast_S_S2x8x1x1x1 (constant S_ .f32 0x3B800000#32)))) (broadcastInDim S2x8x5x768x1 ![0, 1, 2, 3] bcast_S2x8x5x768_S2x8x5x768x1_0_1_2_3 (Host.reduceAdd (Host.exp (subf (select (broadcastInDim S2x8x5x768x768 ![3, 4] bcast_S768x768_S2x8x5x768x768_3_4 (cmpi .sle (broadcastInDim S768x768 ![0, 1] bcast_S1x768_S768x768_0_1 (broadcastInDim S1x768 ![1] bcast_S768_S1x768_1 (iotaInDim S768 32 0))) (broadcastInDim S768x768 ![0, 1] bcast_S768x1_S768x768_0_1 (broadcastInDim S768x1 ![0] bcast_S768_S768x1_0 (iotaInDim S768 32 0))))) (Host.divf (transpose S2x8x5x768x768 [0, 1, 4, 3, 2] (Host.dotGeneral dot_S2x768x8x128_S2x768x8x5x128_S2x8x768x768x5_3_4_1_13_02_02 none (shapeCast _ (mulf (V0 (Proc.devRef .tc main_v15)) (broadcastInDim S2x768x32x32 ![0, 1, 2, 3] bcast_S2x768x32x1_S2x768x32x32_0_1_2_3 (broadcastInDim S2x768x32x1 ![0, 1, 2] bcast_S2x768x32_S2x768x32x1_0_1_2 (V0 (Proc.devRef .tc main_arg4))))) shapeCasts_S2x768x32x32_S2x768x8x128) (shapeCast _ (mulf (V0 (Proc.devRef .tc main_v7)) (broadcastInDim S2x768x160x32 ![0, 1, 2, 3] bcast_S2x768x160x1_S2x768x160x32_0_1_2_3 (broadcastInDim S2x768x160x1 ![0, 1, 2] bcast_S2x768x160_S2x768x160x1_0_1_2 (V0 (Proc.devRef .tc main_arg3))))) shapeCasts_S2x768x160x32_S2x768x8x5x128)) transposes_S2x8x768x768x5_S2x8x5x768x768_0_1_4_3_2) (broadcastInDim S2x8x5x768x768 ![] bcast_S_S2x8x5x768x768 (Host.sqrt (constant S_ .f32 0x43000000#32)))) (broadcastInDim S2x8x5x768x768 ![] bcast_S_S2x8x5x768x768 (id (constant S_ .f32 0xFF800000#32)))) (broadcastInDim S2x8x5x768x768 ![0, 1, 2, 3, 4] bcast_S2x8x5x768x1_S2x8x5x768x768_0_1_2_3_4 (broadcastInDim S2x8x5x768x1 ![0, 1, 2, 3] bcast_S2x8x5x768_S2x8x5x768x1_0_1_2_3 (Host.reduce FloatOps.maximumf (select (broadcastInDim S2x8x5x768x768 ![3, 4] bcast_S768x768_S2x8x5x768x768_3_4 (cmpi .sle (broadcastInDim S768x768 ![0, 1] bcast_S1x768_S768x768_0_1 (broadcastInDim S1x768 ![1] bcast_S768_S1x768_1 (iotaInDim S768 32 0))) (broadcastInDim S768x768 ![0, 1] bcast_S768x1_S768x768_0_1 (broadcastInDim S768x1 ![0] bcast_S768_S768x1_0 (iotaInDim S768 32 0))))) (Host.divf (transpose S2x8x5x768x768 [0, 1, 4, 3, 2] (Host.dotGeneral dot_S2x768x8x128_S2x768x8x5x128_S2x8x768x768x5_3_4_1_13_02_02 none (shapeCast _ (mulf (V0 (Proc.devRef .tc main_v15)) (broadcastInDim S2x768x32x32 ![0, 1, 2, 3] bcast_S2x768x32x1_S2x768x32x32_0_1_2_3 (broadcastInDim S2x768x32x1 ![0, 1, 2] bcast_S2x768x32_S2x768x32x1_0_1_2 (V0 (Proc.devRef .tc main_arg4))))) shapeCasts_S2x768x32x32_S2x768x8x128) (shapeCast _ (mulf (V0 (Proc.devRef .tc main_v7)) (broadcastInDim S2x768x160x32 ![0, 1, 2, 3] bcast_S2x768x160x1_S2x768x160x32_0_1_2_3 (broadcastInDim S2x768x160x1 ![0, 1, 2] bcast_S2x768x160_S2x768x160x1_0_1_2 (V0 (Proc.devRef .tc main_arg3))))) shapeCasts_S2x768x160x32_S2x768x8x5x128)) transposes_S2x8x768x768x5_S2x8x5x768x768_0_1_4_3_2) (broadcastInDim S2x8x5x768x768 ![] bcast_S_S2x8x5x768x768 (Host.sqrt (constant S_ .f32 0x43000000#32)))) (broadcastInDim S2x8x5x768x768 ![] bcast_S_S2x8x5x768x768 (id (constant S_ .f32 0xFF800000#32)))) (constant S_ .f32 0xFF800000#32) reducesTo_S2x8x5x768x768_S2x8x5x768_d4 h_S_))))) (constant S_ .f32 0x00000000#32) reducesTo_S2x8x5x768x768_S2x8x5x768_d4 h_S_))))) bitsLt_bf16_f32) transposes_S2x8x5x768x128_S2x768x8x5x128_0_3_1_2_4) shapeCasts_S2x768x8x5x128_S2x768x5120 := by
  simp only [Gen.hostOps1, Gen.hostOps1_1, Gen.hostOps1_2, Gen.hostOps1_3, Gen.hostOps1_4, TRef.binary, TRef.ternary, TRef.unary, TRef.toBuf, TRef.ofBuf, cast_eq, List.flatten_cons, List.flatten_nil, List.append_nil, List.cons_append, List.nil_append]
  after_results_simp <;> rfl
/-- Result `main_v68` after the later operations from the region's exit contents. -/
theorem fin_main_v68 (c : Dev nD) :
    Pipeline.afterTail₀ cfgs (Gen.dats m) 0 (Gen.V0 m) [Gen.hostOps1, Gen.hostOps1_1, Gen.hostOps1_2, Gen.hostOps1_3, Gen.hostOps1_4] c main_v68 = res_main_v68 m c :=
  by unfold res_main_v68; exact (tail_main_v68 (exitV m c)).trans (by rw [exit_main_arg3, exit_main_arg4, exit_main_arg5, exit_main_v7, exit_main_v15, exit_main_v23]; rfl)

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v68) = res_main_v68 m c
      ∧ r.2.mem ((c.tc : Thread nD τ).loc main_v27_0) = reg_main_v27_0 m c
      ∧ r.2.mem ((c.tc : Thread nD τ).loc main_v27_1) = reg_main_v27_1 m c
      ∧ r.2.mem ((c.tc : Thread nD τ).loc main_v27_2) = reg_main_v27_2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v68 (Pipeline.mem_restRefs_of main_v68 (by decide) (by decide))).trans (fin_main_v68 m c),
      ((h c).1 3).trans (show _ = reg_main_v27_0 m c from rfl),
      ((h c).1 4).trans (show _ = reg_main_v27_1 m c from rfl),
      ((h c).1 5).trans (show _ = reg_main_v27_2 m c from rfl),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c)⟩) (Gen.run_main m ρ)

end Cert.ReferenceIdeal.Value

end
-- ==== Proof.RefRead.lean ====
/-
  The reference program, one operation at a time: `val_b` is the value an operation writes into buffer `b`, and
  `val_b_apply` reads it at an index from its operands at an index. Taken from the generated module on the same.
-/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %28 = stablehlo.broadcast_in_dim %arg3, dims = [0, 1, 2] : (tensor<2x768x160xf32>) -> tensor<2x768x160x1xf32>
def val_main_v28 (x3 : (⟨S2x768x160, .f32⟩ : BufTy).Contents (Elt F)) : (⟨S2x768x160x1, .f32⟩ : BufTy).Contents (Elt F) :=
  broadcastInDim S2x768x160x1 ![0, 1, 2] bcast_S2x768x160_S2x768x160x1_0_1_2 (x3)
abbrev idx_main_v28 (i : S2x768x160x1.Idx) : S2x768x160.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v28_apply (x3 : (⟨S2x768x160, .f32⟩ : BufTy).Contents (Elt F)) (i : S2x768x160x1.Idx) :
    val_main_v28 (F := F) x3 i = x3 (idx_main_v28 i) := by
  unfold val_main_v28
  exact broadcastInDim_apply _ bcast_S2x768x160_S2x768x160x1_0_1_2 x3 i (idx_main_v28 i) (fun a => match a with
    | ⟨0, _⟩ => by show (i 0).val = if (2 : Nat) = 1 then 0 else (i 0).val; rw [if_neg (by decide)]
    | ⟨1, _⟩ => by show (i 1).val = if (768 : Nat) = 1 then 0 else (i 1).val; rw [if_neg (by decide)]
    | ⟨2, _⟩ => by show (i 2).val = if (160 : Nat) = 1 then 0 else (i 2).val; rw [if_neg (by decide)])

-- %29 = stablehlo.broadcast_in_dim %28, dims = [0, 1, 2, 3] : (tensor<2x768x160x1xf32>) -> tensor<2x768x160x32xf32>
def val_main_v29 (x3 : (⟨S2x768x160, .f32⟩ : BufTy).Contents (Elt F)) : (⟨S2x768x160x32, .f32⟩ : BufTy).Contents (Elt F) :=
  broadcastInDim S2x768x160x32 ![0, 1, 2, 3] bcast_S2x768x160x1_S2x768x160x32_0_1_2_3 (val_main_v28 (F := F) x3)
abbrev idx_main_v29 (i : S2x768x160x32.Idx) : S2x768x160x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v29_apply (x3 : (⟨S2x768x160, .f32⟩ : BufTy).Contents (Elt F)) (i : S2x768x160x32.Idx) :
    val_main_v29 (F := F) x3 i = val_main_v28 (F := F) x3 (idx_main_v29 i) := by
  unfold val_main_v29
  generalize val_main_v28 (F := F) x3 = y
  exact broadcastInDim_apply _ bcast_S2x768x160x1_S2x768x160x32_0_1_2_3 y i (idx_main_v29 i) (fun a => match a with
    | ⟨0, _⟩ => by show (i 0).val = if (2 : Nat) = 1 then 0 else (i 0).val; rw [if_neg (by decide)]
    | ⟨1, _⟩ => by show (i 1).val = if (768 : Nat) = 1 then 0 else (i 1).val; rw [if_neg (by decide)]
    | ⟨2, _⟩ => by show (i 2).val = if (160 : Nat) = 1 then 0 else (i 2).val; rw [if_neg (by decide)]
    | ⟨3, _⟩ => by show 0 = if (1 : Nat) = 1 then 0 else (i 3).val; rw [if_pos rfl])

-- %30 = stablehlo.multiply %7, %29 : tensor<2x768x160x32xf32>
def val_main_v30 (x3 : (⟨S2x768x160, .f32⟩ : BufTy).Contents (Elt F)) (e0 : (⟨S2x768x160x32, .f32⟩ : BufTy).Contents (Elt F)) : (⟨S2x768x160x32, .f32⟩ : BufTy).Contents (Elt F) :=
  mulf (e0) (val_main_v29 (F := F) x3)
theorem val_main_v30_apply (x3 : (⟨S2x768x160, .f32⟩ : BufTy).Contents (Elt F)) (e0 : (⟨S2x768x160x32, .f32⟩ : BufTy).Contents (Elt F)) (i : S2x768x160x32.Idx) :
    val_main_v30 (F := F) x3 e0 i = FloatOps.mulf (e0 i) (val_main_v29 (F := F) x3 i) := rfl

-- %31 = stablehlo.reshape %30 : (tensor<2x768x160x32xf32>) -> tensor<2x768x8x5x128xf32>
def val_main_v31 (x3 : (⟨S2x768x160, .f32⟩ : BufTy).Contents (Elt F)) (e0 : (⟨S2x768x160x32, .f32⟩ : BufTy).Contents (Elt F)) : (⟨S2x768x8x5x128, .f32⟩ : BufTy).Contents (Elt F) :=
  shapeCast _ (val_main_v30 (F := F) x3 e0) shapeCasts_S2x768x160x32_S2x768x8x5x128
set_option backward.proofsInPublic true in
abbrev idx_main_v31 (i : S2x768x8x5x128.Idx) : S2x768x160x32.Idx := fun a => match a with
  | ⟨0, _⟩ => ⟨(((((i 0).val * 768 + (i 1).val) * 8 + (i 2).val) * 5 + (i 3).val) * 128 + (i 4).val) / 3932160, by have h0 : (i 0).val < 2 := (i 0).isLt; have h1 : (i 1).val < 768 := (i 1).isLt; have h2 : (i 2).val < 8 := (i 2).isLt; have h3 : (i 3).val < 5 := (i 3).isLt; have h4 : (i 4).val < 128 := (i 4).isLt; show (((((i 0).val * 768 + (i 1).val) * 8 + (i 2).val) * 5 + (i 3).val) * 128 + (i 4).val) / 3932160 < 2; omega⟩
  | ⟨1, _⟩ => ⟨(((((i 0).val * 768 + (i 1).val) * 8 + (i 2).val) * 5 + (i 3).val) * 128 + (i 4).val) / 5120 % 768, by have h0 : (i 0).val < 2 := (i 0).isLt; have h1 : (i 1).val < 768 := (i 1).isLt; have h2 : (i 2).val < 8 := (i 2).isLt; have h3 : (i 3).val < 5 := (i 3).isLt; have h4 : (i 4).val < 128 := (i 4).isLt; show (((((i 0).val * 768 + (i 1).val) * 8 + (i 2).val) * 5 + (i 3).val) * 128 + (i 4).val) / 5120 % 768 < 768; omega⟩
  | ⟨2, _⟩ => ⟨(((((i 0).val * 768 + (i 1).val) * 8 + (i 2).val) * 5 + (i 3).val) * 128 + (i 4).val) / 32 % 160, by have h0 : (i 0).val < 2 := (i 0).isLt; have h1 : (i 1).val < 768 := (i 1).isLt; have h2 : (i 2).val < 8 := (i 2).isLt; have h3 : (i 3).val < 5 := (i 3).isLt; have h4 : (i 4).val < 128 := (i 4).isLt; show (((((i 0).val * 768 + (i 1).val) * 8 + (i 2).val) * 5 + (i 3).val) * 128 + (i 4).val) / 32 % 160 < 160; omega⟩
  | ⟨3, _⟩ => ⟨(((((i 0).val * 768 + (i 1).val) * 8 + (i 2).val) * 5 + (i 3).val) * 128 + (i 4).val) % 32, by have h0 : (i 0).val < 2 := (i 0).isLt; have h1 : (i 1).val < 768 := (i 1).isLt; have h2 : (i 2).val < 8 := (i 2).isLt; have h3 : (i 3).val < 5 := (i 3).isLt; have h4 : (i 4).val < 128 := (i 4).isLt; show (((((i 0).val * 768 + (i 1).val) * 8 + (i 2).val) * 5 + (i 3).val) * 128 + (i 4).val) % 32 < 32; omega⟩
theorem val_main_v31_apply (x3 : (⟨S2x768x160, .f32⟩ : BufTy).Contents (Elt F)) (e0 : (⟨S2x768x160x32, .f32⟩ : BufTy).Contents (Elt F)) (i : S2x768x8x5x128.Idx) :
    val_main_v31 (F := F) x3 e0 i = val_main_v30 (F := F) x3 e0 (idx_main_v31 i) := by
  unfold val_main_v31
  generalize val_main_v30 (F := F) x3 e0 = y
  exact shapeCast_apply y shapeCasts_S2x768x160x32_S2x768x8x5x128 i (idx_main_v31 i)
    (by rewrite [Shape.rowMajor_val_four, Shape.rowMajor_val_five]; have h0 : (i 0).val < 2 := (i 0).isLt; have h1 : (i 1).val < 768 := (i 1).isLt; have h2 : (i 2).val < 8 := (i 2).isLt; have h3 : (i 3).val < 5 := (i 3).isLt; have h4 : (i 4).val < 128 := (i 4).isLt; show (((((((i 0).val * 768 + (i 1).val) * 8 + (i 2).val) * 5 + (i 3).val) * 128 + (i 4).val) / 3932160 * 768 + (((((i 0).val * 768 + (i 1).val) * 8 + (i 2).val) * 5 + (i 3).val) * 128 + (i 4).val) / 5120 % 768) * 160 + (((((i 0).val * 768 + (i 1).val) * 8 + (i 2).val) * 5 + (i 3).val) * 128 + (i 4).val) / 32 % 160) * 32 + (((((i 0).val * 768 + (i 1).val) * 8 + (i 2).val) * 5 + (i 3).val) * 128 + (i 4).val) % 32 = ((((i 0).val * 768 + (i 1).val) * 8 + (i 2).val) * 5 + (i 3).val) * 128 + (i 4).val; omega)

-- %32 = stablehlo.broadcast_in_dim %arg4, dims = [0, 1, 2] : (tensor<2x768x32xf32>) -> tensor<2x768x32x1xf32>
def val_main_v32 (x4 : (⟨S2x768x32, .f32⟩ : BufTy).Contents (Elt F)) : (⟨S2x768x32x1, .f32⟩ : BufTy).Contents (Elt F) :=
  broadcastInDim S2x768x32x1 ![0, 1, 2] bcast_S2x768x32_S2x768x32x1_0_1_2 (x4)
abbrev idx_main_v32 (i : S2x768x32x1.Idx) : S2x768x32.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v32_apply (x4 : (⟨S2x768x32, .f32⟩ : BufTy).Contents (Elt F)) (i : S2x768x32x1.Idx) :
    val_main_v32 (F := F) x4 i = x4 (idx_main_v32 i) := by
  unfold val_main_v32
  exact broadcastInDim_apply _ bcast_S2x768x32_S2x768x32x1_0_1_2 x4 i (idx_main_v32 i) (fun a => match a with
    | ⟨0, _⟩ => by show (i 0).val = if (2 : Nat) = 1 then 0 else (i 0).val; rw [if_neg (by decide)]
    | ⟨1, _⟩ => by show (i 1).val = if (768 : Nat) = 1 then 0 else (i 1).val; rw [if_neg (by decide)]
    | ⟨2, _⟩ => by show (i 2).val = if (32 : Nat) = 1 then 0 else (i 2).val; rw [if_neg (by decide)])

-- %33 = stablehlo.broadcast_in_dim %32, dims = [0, 1, 2, 3] : (tensor<2x768x32x1xf32>) -> tensor<2x768x32x32xf32>
def val_main_v33 (x4 : (⟨S2x768x32, .f32⟩ : BufTy).Contents (Elt F)) : (⟨S2x768x32x32, .f32⟩ : BufTy).Contents (Elt F) :=
  broadcastInDim S2x768x32x32 ![0, 1, 2, 3] bcast_S2x768x32x1_S2x768x32x32_0_1_2_3 (val_main_v32 (F := F) x4)
abbrev idx_main_v33 (i : S2x768x32x32.Idx) : S2x768x32x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v33_apply (x4 : (⟨S2x768x32, .f32⟩ : BufTy).Contents (Elt F)) (i : S2x768x32x32.Idx) :
    val_main_v33 (F := F) x4 i = val_main_v32 (F := F) x4 (idx_main_v33 i) := by
  unfold val_main_v33
  generalize val_main_v32 (F := F) x4 = y
  exact broadcastInDim_apply _ bcast_S2x768x32x1_S2x768x32x32_0_1_2_3 y i (idx_main_v33 i) (fun a => match a with
    | ⟨0, _⟩ => by show (i 0).val = if (2 : Nat) = 1 then 0 else (i 0).val; rw [if_neg (by decide)]
    | ⟨1, _⟩ => by show (i 1).val = if (768 : Nat) = 1 then 0 else (i 1).val; rw [if_neg (by decide)]
    | ⟨2, _⟩ => by show (i 2).val = if (32 : Nat) = 1 then 0 else (i 2).val; rw [if_neg (by decide)]
    | ⟨3, _⟩ => by show 0 = if (1 : Nat) = 1 then 0 else (i 3).val; rw [if_pos rfl])

-- %34 = stablehlo.multiply %15, %33 : tensor<2x768x32x32xf32>
def val_main_v34 (x4 : (⟨S2x768x32, .f32⟩ : BufTy).Contents (Elt F)) (e1 : (⟨S2x768x32x32, .f32⟩ : BufTy).Contents (Elt F)) : (⟨S2x768x32x32, .f32⟩ : BufTy).Contents (Elt F) :=
  mulf (e1) (val_main_v33 (F := F) x4)
theorem val_main_v34_apply (x4 : (⟨S2x768x32, .f32⟩ : BufTy).Contents (Elt F)) (e1 : (⟨S2x768x32x32, .f32⟩ : BufTy).Contents (Elt F)) (i : S2x768x32x32.Idx) :
    val_main_v34 (F := F) x4 e1 i = FloatOps.mulf (e1 i) (val_main_v33 (F := F) x4 i) := rfl

-- %35 = stablehlo.reshape %34 : (tensor<2x768x32x32xf32>) -> tensor<2x768x8x128xf32>
def val_main_v35 (x4 : (⟨S2x768x32, .f32⟩ : BufTy).Contents (Elt F)) (e1 : (⟨S2x768x32x32, .f32⟩ : BufTy).Contents (Elt F)) : (⟨S2x768x8x128, .f32⟩ : BufTy).Contents (Elt F) :=
  shapeCast _ (val_main_v34 (F := F) x4 e1) shapeCasts_S2x768x32x32_S2x768x8x128
set_option backward.proofsInPublic true in
abbrev idx_main_v35 (i : S2x768x8x128.Idx) : S2x768x32x32.Idx := fun a => match a with
  | ⟨0, _⟩ => ⟨((((i 0).val * 768 + (i 1).val) * 8 + (i 2).val) * 128 + (i 3).val) / 786432, by have h0 : (i 0).val < 2 := (i 0).isLt; have h1 : (i 1).val < 768 := (i 1).isLt; have h2 : (i 2).val < 8 := (i 2).isLt; have h3 : (i 3).val < 128 := (i 3).isLt; show ((((i 0).val * 768 + (i 1).val) * 8 + (i 2).val) * 128 + (i 3).val) / 786432 < 2; omega⟩
  | ⟨1, _⟩ => ⟨((((i 0).val * 768 + (i 1).val) * 8 + (i 2).val) * 128 + (i 3).val) / 1024 % 768, by have h0 : (i 0).val < 2 := (i 0).isLt; have h1 : (i 1).val < 768 := (i 1).isLt; have h2 : (i 2).val < 8 := (i 2).isLt; have h3 : (i 3).val < 128 := (i 3).isLt; show ((((i 0).val * 768 + (i 1).val) * 8 + (i 2).val) * 128 + (i 3).val) / 1024 % 768 < 768; omega⟩
  | ⟨2, _⟩ => ⟨((((i 0).val * 768 + (i 1).val) * 8 + (i 2).val) * 128 + (i 3).val) / 32 % 32, by have h0 : (i 0).val < 2 := (i 0).isLt; have h1 : (i 1).val < 768 := (i 1).isLt; have h2 : (i 2).val < 8 := (i 2).isLt; have h3 : (i 3).val < 128 := (i 3).isLt; show ((((i 0).val * 768 + (i 1).val) * 8 + (i 2).val) * 128 + (i 3).val) / 32 % 32 < 32; omega⟩
  | ⟨3, _⟩ => ⟨((((i 0).val * 768 + (i 1).val) * 8 + (i 2).val) * 128 + (i 3).val) % 32, by have h0 : (i 0).val < 2 := (i 0).isLt; have h1 : (i 1).val < 768 := (i 1).isLt; have h2 : (i 2).val < 8 := (i 2).isLt; have h3 : (i 3).val < 128 := (i 3).isLt; show ((((i 0).val * 768 + (i 1).val) * 8 + (i 2).val) * 128 + (i 3).val) % 32 < 32; omega⟩
theorem val_main_v35_apply (x4 : (⟨S2x768x32, .f32⟩ : BufTy).Contents (Elt F)) (e1 : (⟨S2x768x32x32, .f32⟩ : BufTy).Contents (Elt F)) (i : S2x768x8x128.Idx) :
    val_main_v35 (F := F) x4 e1 i = val_main_v34 (F := F) x4 e1 (idx_main_v35 i) := by
  unfold val_main_v35
  generalize val_main_v34 (F := F) x4 e1 = y
  exact shapeCast_apply y shapeCasts_S2x768x32x32_S2x768x8x128 i (idx_main_v35 i)
    (by rewrite [Shape.rowMajor_val_four, Shape.rowMajor_val_four]; have h0 : (i 0).val < 2 := (i 0).isLt; have h1 : (i 1).val < 768 := (i 1).isLt; have h2 : (i 2).val < 8 := (i 2).isLt; have h3 : (i 3).val < 128 := (i 3).isLt; show ((((((i 0).val * 768 + (i 1).val) * 8 + (i 2).val) * 128 + (i 3).val) / 786432 * 768 + ((((i 0).val * 768 + (i 1).val) * 8 + (i 2).val) * 128 + (i 3).val) / 1024 % 768) * 32 + ((((i 0).val * 768 + (i 1).val) * 8 + (i 2).val) * 128 + (i 3).val) / 32 % 32) * 32 + ((((i 0).val * 768 + (i 1).val) * 8 + (i 2).val) * 128 + (i 3).val) % 32 = (((i 0).val * 768 + (i 1).val) * 8 + (i 2).val) * 128 + (i 3).val; omega)

-- %36 = stablehlo.dot_general %35, %31, batching_dims = [0, 2] x [0, 2], contracting_dims = [3] x [4], precision = [DEFAULT, DEFAULT] : (tensor<2x768x8x128xf32>, tensor<2x768x8x5x128xf32>) -> tensor<2x8x768x768x5xf32>
def val_main_v36 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) : (⟨S2x8x768x768x5, .f32⟩ : BufTy).Contents (Elt F) :=
  Host.dotGeneral dot_S2x768x8x128_S2x768x8x5x128_S2x8x768x768x5_3_4_1_13_02_02 none (val_main_v35 (F := F) x4 e1) (val_main_v31 (F := F) x3 e0)
theorem lhs_main_v36_0 (i : S2x8x768x768x5.Idx) (q : dot_S2x768x8x128_S2x768x8x5x128_S2x8x768x768x5_3_4_1_13_02_02.contr.Idx) :
    (dot_S2x768x8x128_S2x768x8x5x128_S2x8x768x768x5_3_4_1_13_02_02.lhsIdx i q 0).val = (i 0).val := by
  unfold DotDims.lhsIdx
  rw [dif_pos (show (0 : Fin S2x768x8x128.rank) ∈ dot_S2x768x8x128_S2x768x8x5x128_S2x8x768x768x5_3_4_1_13_02_02.lhsBatch by decide)]
  rfl
theorem lhs_main_v36_1 (i : S2x8x768x768x5.Idx) (q : dot_S2x768x8x128_S2x768x8x5x128_S2x8x768x768x5_3_4_1_13_02_02.contr.Idx) :
    (dot_S2x768x8x128_S2x768x8x5x128_S2x8x768x768x5_3_4_1_13_02_02.lhsIdx i q 1).val = (i 2).val := by
  unfold DotDims.lhsIdx
  rw [dif_neg (show ¬(1 : Fin S2x768x8x128.rank) ∈ dot_S2x768x8x128_S2x768x8x5x128_S2x8x768x768x5_3_4_1_13_02_02.lhsBatch by decide), dif_pos (show (1 : Fin S2x768x8x128.rank) ∈ dot_S2x768x8x128_S2x768x8x5x128_S2x8x768x768x5_3_4_1_13_02_02.lhsNonContracting by decide)]
  rfl
theorem lhs_main_v36_2 (i : S2x8x768x768x5.Idx) (q : dot_S2x768x8x128_S2x768x8x5x128_S2x8x768x768x5_3_4_1_13_02_02.contr.Idx) :
    (dot_S2x768x8x128_S2x768x8x5x128_S2x8x768x768x5_3_4_1_13_02_02.lhsIdx i q 2).val = (i 1).val := by
  unfold DotDims.lhsIdx
  rw [dif_pos (show (2 : Fin S2x768x8x128.rank) ∈ dot_S2x768x8x128_S2x768x8x5x128_S2x8x768x768x5_3_4_1_13_02_02.lhsBatch by decide)]
  rfl
theorem lhs_main_v36_3 (i : S2x8x768x768x5.Idx) (q : dot_S2x768x8x128_S2x768x8x5x128_S2x8x768x768x5_3_4_1_13_02_02.contr.Idx) :
    (dot_S2x768x8x128_S2x768x8x5x128_S2x8x768x768x5_3_4_1_13_02_02.lhsIdx i q 3).val = (q ⟨0, by decide⟩).val :=
  dot_S2x768x8x128_S2x768x8x5x128_S2x8x768x768x5_3_4_1_13_02_02.lhsIdx_val_of_single rfl i q
theorem rhs_main_v36_0 (i : S2x8x768x768x5.Idx) (q : dot_S2x768x8x128_S2x768x8x5x128_S2x8x768x768x5_3_4_1_13_02_02.contr.Idx) :
    (dot_S2x768x8x128_S2x768x8x5x128_S2x8x768x768x5_3_4_1_13_02_02.rhsIdx i q 0).val = (i 0).val := by
  unfold DotDims.rhsIdx
  rw [dif_pos (show (0 : Fin S2x768x8x5x128.rank) ∈ dot_S2x768x8x128_S2x768x8x5x128_S2x8x768x768x5_3_4_1_13_02_02.rhsBatch by decide)]
  rfl
theorem rhs_main_v36_1 (i : S2x8x768x768x5.Idx) (q : dot_S2x768x8x128_S2x768x8x5x128_S2x8x768x768x5_3_4_1_13_02_02.contr.Idx) :
    (dot_S2x768x8x128_S2x768x8x5x128_S2x8x768x768x5_3_4_1_13_02_02.rhsIdx i q 1).val = (i 3).val := by
  unfold DotDims.rhsIdx
  rw [dif_neg (show ¬(1 : Fin S2x768x8x5x128.rank) ∈ dot_S2x768x8x128_S2x768x8x5x128_S2x8x768x768x5_3_4_1_13_02_02.rhsBatch by decide), dif_pos (show (1 : Fin S2x768x8x5x128.rank) ∈ dot_S2x768x8x128_S2x768x8x5x128_S2x8x768x768x5_3_4_1_13_02_02.rhsNonContracting by decide)]
  rfl
theorem rhs_main_v36_2 (i : S2x8x768x768x5.Idx) (q : dot_S2x768x8x128_S2x768x8x5x128_S2x8x768x768x5_3_4_1_13_02_02.contr.Idx) :
    (dot_S2x768x8x128_S2x768x8x5x128_S2x8x768x768x5_3_4_1_13_02_02.rhsIdx i q 2).val = (i 1).val := by
  unfold DotDims.rhsIdx
  rw [dif_pos (show (2 : Fin S2x768x8x5x128.rank) ∈ dot_S2x768x8x128_S2x768x8x5x128_S2x8x768x768x5_3_4_1_13_02_02.rhsBatch by decide)]
  rfl
theorem rhs_main_v36_3 (i : S2x8x768x768x5.Idx) (q : dot_S2x768x8x128_S2x768x8x5x128_S2x8x768x768x5_3_4_1_13_02_02.contr.Idx) :
    (dot_S2x768x8x128_S2x768x8x5x128_S2x8x768x768x5_3_4_1_13_02_02.rhsIdx i q 3).val = (i 4).val := by
  unfold DotDims.rhsIdx
  rw [dif_neg (show ¬(3 : Fin S2x768x8x5x128.rank) ∈ dot_S2x768x8x128_S2x768x8x5x128_S2x8x768x768x5_3_4_1_13_02_02.rhsBatch by decide), dif_pos (show (3 : Fin S2x768x8x5x128.rank) ∈ dot_S2x768x8x128_S2x768x8x5x128_S2x8x768x768x5_3_4_1_13_02_02.rhsNonContracting by decide)]
  rfl
theorem rhs_main_v36_4 (i : S2x8x768x768x5.Idx) (q : dot_S2x768x8x128_S2x768x8x5x128_S2x8x768x768x5_3_4_1_13_02_02.contr.Idx) :
    (dot_S2x768x8x128_S2x768x8x5x128_S2x8x768x768x5_3_4_1_13_02_02.rhsIdx i q 4).val = (q ⟨0, by decide⟩).val :=
  dot_S2x768x8x128_S2x768x8x5x128_S2x8x768x768x5_3_4_1_13_02_02.rhsIdx_val_of_single rfl i q
abbrev lidx_main_v36 (i : S2x8x768x768x5.Idx) (k : Fin 128) : S2x768x8x128.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨k.val, k.isLt⟩
abbrev ridx_main_v36 (i : S2x8x768x768x5.Idx) (k : Fin 128) : S2x768x8x5x128.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 4).val, (i 4).isLt⟩
  | ⟨4, _⟩ => ⟨k.val, k.isLt⟩
/-- Stated at `F := Ideal`, where the host's `dot_general` is this sum; at a bit-exact instance it is an opaque function of its operands. -/
theorem val_main_v36_apply (x3 : (⟨S2x768x160, .f32⟩ : BufTy).Contents (Elt Ideal)) (x4 : (⟨S2x768x32, .f32⟩ : BufTy).Contents (Elt Ideal)) (e0 : (⟨S2x768x160x32, .f32⟩ : BufTy).Contents (Elt Ideal)) (e1 : (⟨S2x768x32x32, .f32⟩ : BufTy).Contents (Elt Ideal)) (i : S2x8x768x768x5.Idx) :
    val_main_v36 (F := Ideal) x3 x4 e0 e1 i = ∑ k : Fin 128, (val_main_v35 (F := Ideal) x4 e1) (lidx_main_v36 i k) * (val_main_v31 (F := Ideal) x3 e0) (ridx_main_v36 i k) := by
  unfold val_main_v36
  generalize val_main_v35 (F := Ideal) x4 e1 = y0
  generalize val_main_v31 (F := Ideal) x3 e0 = y1
  simp only [Host.dotGeneral]
  rw [Ideal.dotGeneral_apply, ← Equiv.sum_comp (ValueIdx.contrEquiv1 dot_S2x768x8x128_S2x768x8x5x128_S2x8x768x768x5_3_4_1_13_02_02 128 rfl rfl).symm]
  refine Finset.sum_congr rfl fun k _ => ?_
  have hk := ValueIdx.contrEquiv1_symm_val dot_S2x768x8x128_S2x768x8x5x128_S2x8x768x768x5_3_4_1_13_02_02 128 rfl rfl k
  have el : dot_S2x768x8x128_S2x768x8x5x128_S2x8x768x768x5_3_4_1_13_02_02.lhsIdx i ((ValueIdx.contrEquiv1 dot_S2x768x8x128_S2x768x8x5x128_S2x8x768x768x5_3_4_1_13_02_02 128 rfl rfl).symm k) = lidx_main_v36 i k := funext fun a => Fin.ext (by
    match a with
    | ⟨0, _⟩ => exact lhs_main_v36_0 _ _
    | ⟨1, _⟩ => exact lhs_main_v36_1 _ _
    | ⟨2, _⟩ => exact lhs_main_v36_2 _ _
    | ⟨3, _⟩ => exact (lhs_main_v36_3 _ _).trans hk)
  have er : dot_S2x768x8x128_S2x768x8x5x128_S2x8x768x768x5_3_4_1_13_02_02.rhsIdx i ((ValueIdx.contrEquiv1 dot_S2x768x8x128_S2x768x8x5x128_S2x8x768x768x5_3_4_1_13_02_02 128 rfl rfl).symm k) = ridx_main_v36 i k := funext fun a => Fin.ext (by
    match a with
    | ⟨0, _⟩ => exact rhs_main_v36_0 _ _
    | ⟨1, _⟩ => exact rhs_main_v36_1 _ _
    | ⟨2, _⟩ => exact rhs_main_v36_2 _ _
    | ⟨3, _⟩ => exact rhs_main_v36_3 _ _
    | ⟨4, _⟩ => exact (rhs_main_v36_4 _ _).trans hk)
  rw [el, er]

-- %37 = stablehlo.transpose %36, dims = [0, 1, 4, 3, 2] : (tensor<2x8x768x768x5xf32>) -> tensor<2x8x5x768x768xf32>
def val_main_v37 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) : (⟨S2x8x5x768x768, .f32⟩ : BufTy).Contents (Elt F) :=
  transpose S2x8x5x768x768 [0, 1, 4, 3, 2] (val_main_v36 (F := F) x3 x4 e0 e1) transposes_S2x8x768x768x5_S2x8x5x768x768_0_1_4_3_2
abbrev idx_main_v37 (i : S2x8x5x768x768.Idx) : S2x8x768x768x5.Idx := fun a => match a with
  | ⟨0, _⟩ => ⟨(i 0).val, (i 0).isLt⟩
  | ⟨1, _⟩ => ⟨(i 1).val, (i 1).isLt⟩
  | ⟨2, _⟩ => ⟨(i 4).val, (i 4).isLt⟩
  | ⟨3, _⟩ => ⟨(i 3).val, (i 3).isLt⟩
  | ⟨4, _⟩ => ⟨(i 2).val, (i 2).isLt⟩
theorem val_main_v37_apply (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) (i : S2x8x5x768x768.Idx) :
    val_main_v37 (F := F) x3 x4 e0 e1 i = val_main_v36 (F := F) x3 x4 e0 e1 (idx_main_v37 i) := by
  unfold val_main_v37
  generalize val_main_v36 (F := F) x3 x4 e0 e1 = y
  exact transpose_apply [0, 1, 4, 3, 2] y transposes_S2x8x768x768x5_S2x8x5x768x768_0_1_4_3_2 i (idx_main_v37 i) (fun b => match b with
    | ⟨0, _⟩ => rfl
    | ⟨1, _⟩ => rfl
    | ⟨2, _⟩ => rfl
    | ⟨3, _⟩ => rfl
    | ⟨4, _⟩ => rfl)

-- %38 = stablehlo.iota dim = 0 : tensor<768xi32>
def val_main_v38 : (⟨S768, .i32⟩ : BufTy).Contents (Elt F) :=
  iotaInDim S768 32 0
theorem val_main_v38_apply (i : S768.Idx) :
    val_main_v38 (F := F) i = BitVec.ofNat 32 (i 0).val := rfl

-- %39 = stablehlo.broadcast_in_dim %38, dims = [1] : (tensor<768xi32>) -> tensor<1x768xi32>
def val_main_v39 : (⟨S1x768, .i32⟩ : BufTy).Contents (Elt F) :=
  broadcastInDim S1x768 ![1] bcast_S768_S1x768_1 (val_main_v38 (F := F))
abbrev idx_main_v39 (i : S1x768.Idx) : S768.Idx := fun a => match a with
  | ⟨0, _⟩ => ⟨(i 1).val, (i 1).isLt⟩
theorem val_main_v39_apply (i : S1x768.Idx) :
    val_main_v39 (F := F) i = val_main_v38 (F := F) (idx_main_v39 i) := by
  unfold val_main_v39
  generalize val_main_v38 (F := F) = y
  exact broadcastInDim_apply _ bcast_S768_S1x768_1 y i (idx_main_v39 i) (fun a => match a with
    | ⟨0, _⟩ => by show (i 1).val = if (768 : Nat) = 1 then 0 else (i 1).val; rw [if_neg (by decide)])

-- %40 = stablehlo.broadcast_in_dim %38, dims = [0] : (tensor<768xi32>) -> tensor<768x1xi32>
def val_main_v40 : (⟨S768x1, .i32⟩ : BufTy).Contents (Elt F) :=
  broadcastInDim S768x1 ![0] bcast_S768_S768x1_0 (val_main_v38 (F := F))
abbrev idx_main_v40 (i : S768x1.Idx) : S768.Idx := fun a => match a with
  | ⟨0, _⟩ => ⟨(i 0).val, (i 0).isLt⟩
theorem val_main_v40_apply (i : S768x1.Idx) :
    val_main_v40 (F := F) i = val_main_v38 (F := F) (idx_main_v40 i) := by
  unfold val_main_v40
  generalize val_main_v38 (F := F) = y
  exact broadcastInDim_apply _ bcast_S768_S768x1_0 y i (idx_main_v40 i) (fun a => match a with
    | ⟨0, _⟩ => by show (i 0).val = if (768 : Nat) = 1 then 0 else (i 0).val; rw [if_neg (by decide)])

-- %41 = stablehlo.broadcast_in_dim %39, dims = [0, 1] : (tensor<1x768xi32>) -> tensor<768x768xi32>
def val_main_v41 : (⟨S768x768, .i32⟩ : BufTy).Contents (Elt F) :=
  broadcastInDim S768x768 ![0, 1] bcast_S1x768_S768x768_0_1 (val_main_v39 (F := F))
abbrev idx_main_v41 (i : S768x768.Idx) : S1x768.Idx := fun a => match a with
  | ⟨0, _⟩ => ⟨0, Nat.one_pos⟩
  | ⟨1, _⟩ => ⟨(i 1).val, (i 1).isLt⟩
theorem val_main_v41_apply (i : S768x768.Idx) :
    val_main_v41 (F := F) i = val_main_v39 (F := F) (idx_main_v41 i) := by
  unfold val_main_v41
  generalize val_main_v39 (F := F) = y
  exact broadcastInDim_apply _ bcast_S1x768_S768x768_0_1 y i (idx_main_v41 i) (fun a => match a with
    | ⟨0, _⟩ => by show 0 = if (1 : Nat) = 1 then 0 else (i 0).val; rw [if_pos rfl]
    | ⟨1, _⟩ => by show (i 1).val = if (768 : Nat) = 1 then 0 else (i 1).val; rw [if_neg (by decide)])

-- %42 = stablehlo.broadcast_in_dim %40, dims = [0, 1] : (tensor<768x1xi32>) -> tensor<768x768xi32>
def val_main_v42 : (⟨S768x768, .i32⟩ : BufTy).Contents (Elt F) :=
  broadcastInDim S768x768 ![0, 1] bcast_S768x1_S768x768_0_1 (val_main_v40 (F := F))
abbrev idx_main_v42 (i : S768x768.Idx) : S768x1.Idx := fun a => match a with
  | ⟨0, _⟩ => ⟨(i 0).val, (i 0).isLt⟩
  | ⟨1, _⟩ => ⟨0, Nat.one_pos⟩
theorem val_main_v42_apply (i : S768x768.Idx) :
    val_main_v42 (F := F) i = val_main_v40 (F := F) (idx_main_v42 i) := by
  unfold val_main_v42
  generalize val_main_v40 (F := F) = y
  exact broadcastInDim_apply _ bcast_S768x1_S768x768_0_1 y i (idx_main_v42 i) (fun a => match a with
    | ⟨0, _⟩ => by show (i 0).val = if (768 : Nat) = 1 then 0 else (i 0).val; rw [if_neg (by decide)]
    | ⟨1, _⟩ => by show 0 = if (1 : Nat) = 1 then 0 else (i 1).val; rw [if_pos rfl])

-- %43 = stablehlo.compare LE, %41, %42, SIGNED : (tensor<768x768xi32>, tensor<768x768xi32>) -> tensor<768x768xi1>
def val_main_v43 : (⟨S768x768, .i1⟩ : BufTy).Contents (Elt F) :=
  cmpi .sle (val_main_v41 (F := F)) (val_main_v42 (F := F))
theorem val_main_v43_apply (i : S768x768.Idx) :
    val_main_v43 (F := F) i = IntOp.cmpi .sle (val_main_v41 (F := F) i) (val_main_v42 (F := F) i) := rfl

-- %cst_8 = stablehlo.constant dense<1.280000e+02> : tensor<f32>
def val_main_cst_8 : (⟨S_, .f32⟩ : BufTy).Contents (Elt F) :=
  constant S_ .f32 0x43000000#32
theorem val_main_cst_8_apply (i : S_.Idx) :
    val_main_cst_8 (F := F) i = FloatOps.ofBits .f32 0x43000000#32 := rfl

-- %44 = stablehlo.sqrt %cst_8 : tensor<f32>
def val_main_v44 : (⟨S_, .f32⟩ : BufTy).Contents (Elt F) :=
  Host.sqrt (val_main_cst_8 (F := F))
theorem val_main_v44_apply (i : S_.Idx) :
    val_main_v44 (F := F) i = FloatOps.hostUnary .sqrt (val_main_cst_8 (F := F) i) := rfl

-- %45 = stablehlo.broadcast_in_dim %44, dims = [] : (tensor<f32>) -> tensor<2x8x5x768x768xf32>
def val_main_v45 : (⟨S2x8x5x768x768, .f32⟩ : BufTy).Contents (Elt F) :=
  broadcastInDim S2x8x5x768x768 ![] bcast_S_S2x8x5x768x768 (val_main_v44 (F := F))
abbrev idx_main_v45 (i : S2x8x5x768x768.Idx) : S_.Idx := fun a => a.elim0
theorem val_main_v45_apply (i : S2x8x5x768x768.Idx) :
    val_main_v45 (F := F) i = val_main_v44 (F := F) (idx_main_v45 i) := by
  unfold val_main_v45
  generalize val_main_v44 (F := F) = y
  exact broadcastInDim_apply _ bcast_S_S2x8x5x768x768 y i (idx_main_v45 i) (fun a => a.elim0)

-- %46 = stablehlo.divide %37, %45 : tensor<2x8x5x768x768xf32>
def val_main_v46 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) : (⟨S2x8x5x768x768, .f32⟩ : BufTy).Contents (Elt F) :=
  Host.divf (val_main_v37 (F := F) x3 x4 e0 e1) (val_main_v45 (F := F))
theorem val_main_v46_apply (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) (i : S2x8x5x768x768.Idx) :
    val_main_v46 (F := F) x3 x4 e0 e1 i = FloatOps.hostDivf (val_main_v37 (F := F) x3 x4 e0 e1 i) (val_main_v45 (F := F) i) := rfl

-- %cst_9 = stablehlo.constant dense<0xFF800000> : tensor<f32>
def val_main_cst_9 : (⟨S_, .f32⟩ : BufTy).Contents (Elt F) :=
  constant S_ .f32 0xFF800000#32
theorem val_main_cst_9_apply (i : S_.Idx) :
    val_main_cst_9 (F := F) i = FloatOps.ofBits .f32 0xFF800000#32 := rfl

-- @_where's %0 = stablehlo.convert %arg2 : tensor<f32>, in %47 = func.call @_where(…) (record main_call3)
def val_main_call3_v0 : (⟨S_, .f32⟩ : BufTy).Contents (Elt F) :=
  id (val_main_cst_9 (F := F))
theorem val_main_call3_v0_apply (i : S_.Idx) :
    val_main_call3_v0 (F := F) i = (val_main_cst_9 (F := F) i) := rfl

-- @_where's %1 = stablehlo.broadcast_in_dim %arg0, dims = [3, 4] : (tensor<768x768xi1>) -> tensor<2x8x5x768x768xi1>, in %47 = func.call @_where(…) (record main_call3)
def val_main_call3_v1 : (⟨S2x8x5x768x768, .i1⟩ : BufTy).Contents (Elt F) :=
  broadcastInDim S2x8x5x768x768 ![3, 4] bcast_S768x768_S2x8x5x768x768_3_4 (val_main_v43 (F := F))
abbrev idx_main_call3_v1 (i : S2x8x5x768x768.Idx) : S768x768.Idx := fun a => match a with
  | ⟨0, _⟩ => ⟨(i 3).val, (i 3).isLt⟩
  | ⟨1, _⟩ => ⟨(i 4).val, (i 4).isLt⟩
theorem val_main_call3_v1_apply (i : S2x8x5x768x768.Idx) :
    val_main_call3_v1 (F := F) i = val_main_v43 (F := F) (idx_main_call3_v1 i) := by
  unfold val_main_call3_v1
  generalize val_main_v43 (F := F) = y
  exact broadcastInDim_apply _ bcast_S768x768_S2x8x5x768x768_3_4 y i (idx_main_call3_v1 i) (fun a => match a with
    | ⟨0, _⟩ => by show (i 3).val = if (768 : Nat) = 1 then 0 else (i 3).val; rw [if_neg (by decide)]
    | ⟨1, _⟩ => by show (i 4).val = if (768 : Nat) = 1 then 0 else (i 4).val; rw [if_neg (by decide)])

-- @_where's %2 = stablehlo.broadcast_in_dim %0, dims = [] : (tensor<f32>) -> tensor<2x8x5x768x768xf32>, in %47 = func.call @_where(…) (record main_call3)
def val_main_call3_v2 : (⟨S2x8x5x768x768, .f32⟩ : BufTy).Contents (Elt F) :=
  broadcastInDim S2x8x5x768x768 ![] bcast_S_S2x8x5x768x768 (val_main_call3_v0 (F := F))
abbrev idx_main_call3_v2 (i : S2x8x5x768x768.Idx) : S_.Idx := fun a => a.elim0
theorem val_main_call3_v2_apply (i : S2x8x5x768x768.Idx) :
    val_main_call3_v2 (F := F) i = val_main_call3_v0 (F := F) (idx_main_call3_v2 i) := by
  unfold val_main_call3_v2
  generalize val_main_call3_v0 (F := F) = y
  exact broadcastInDim_apply _ bcast_S_S2x8x5x768x768 y i (idx_main_call3_v2 i) (fun a => a.elim0)

-- %47 = func.call @_where(…) (record main_call3) result 0: @_where's %3 = stablehlo.select %1, %arg1, %2 : tensor<2x8x5x768x768xi1>, tensor<2x8x5x768x768xf32>
def val_main_v47 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) : (⟨S2x8x5x768x768, .f32⟩ : BufTy).Contents (Elt F) :=
  select (val_main_call3_v1 (F := F)) (val_main_v46 (F := F) x3 x4 e0 e1) (val_main_call3_v2 (F := F))
theorem val_main_v47_apply (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) (i : S2x8x5x768x768.Idx) :
    val_main_v47 (F := F) x3 x4 e0 e1 i = Scalar.select (val_main_call3_v1 (F := F) i) (val_main_v46 (F := F) x3 x4 e0 e1 i) (val_main_call3_v2 (F := F) i) := rfl

-- %cst_10 = stablehlo.constant dense<0xFF800000> : tensor<f32>
def val_main_cst_10 : (⟨S_, .f32⟩ : BufTy).Contents (Elt F) :=
  constant S_ .f32 0xFF800000#32
theorem val_main_cst_10_apply (i : S_.Idx) :
    val_main_cst_10 (F := F) i = FloatOps.ofBits .f32 0xFF800000#32 := rfl

-- %48 = stablehlo.reduce(%47 init: %cst_10) applies stablehlo.maximum across dimensions = [4] : (tensor<2x8x5x768x768xf32>, tensor<f32>) -> tensor<2x8x5x768xf32> {
def val_main_v48 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) : (⟨S2x8x5x768, .f32⟩ : BufTy).Contents (Elt F) :=
  Host.reduce FloatOps.maximumf (val_main_v47 (F := F) x3 x4 e0 e1) (val_main_cst_10 (F := F)) reducesTo_S2x8x5x768x768_S2x8x5x768_d4 h_S_

-- %49 = stablehlo.broadcast_in_dim %48, dims = [0, 1, 2, 3] : (tensor<2x8x5x768xf32>) -> tensor<2x8x5x768x1xf32>
def val_main_v49 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) : (⟨S2x8x5x768x1, .f32⟩ : BufTy).Contents (Elt F) :=
  broadcastInDim S2x8x5x768x1 ![0, 1, 2, 3] bcast_S2x8x5x768_S2x8x5x768x1_0_1_2_3 (val_main_v48 (F := F) x3 x4 e0 e1)
abbrev idx_main_v49 (i : S2x8x5x768x1.Idx) : S2x8x5x768.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v49_apply (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) (i : S2x8x5x768x1.Idx) :
    val_main_v49 (F := F) x3 x4 e0 e1 i = val_main_v48 (F := F) x3 x4 e0 e1 (idx_main_v49 i) := by
  unfold val_main_v49
  generalize val_main_v48 (F := F) x3 x4 e0 e1 = y
  exact broadcastInDim_apply _ bcast_S2x8x5x768_S2x8x5x768x1_0_1_2_3 y i (idx_main_v49 i) (fun a => match a with
    | ⟨0, _⟩ => by show (i 0).val = if (2 : Nat) = 1 then 0 else (i 0).val; rw [if_neg (by decide)]
    | ⟨1, _⟩ => by show (i 1).val = if (8 : Nat) = 1 then 0 else (i 1).val; rw [if_neg (by decide)]
    | ⟨2, _⟩ => by show (i 2).val = if (5 : Nat) = 1 then 0 else (i 2).val; rw [if_neg (by decide)]
    | ⟨3, _⟩ => by show (i 3).val = if (768 : Nat) = 1 then 0 else (i 3).val; rw [if_neg (by decide)])

-- %50 = stablehlo.broadcast_in_dim %49, dims = [0, 1, 2, 3, 4] : (tensor<2x8x5x768x1xf32>) -> tensor<2x8x5x768x768xf32>
def val_main_v50 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) : (⟨S2x8x5x768x768, .f32⟩ : BufTy).Contents (Elt F) :=
  broadcastInDim S2x8x5x768x768 ![0, 1, 2, 3, 4] bcast_S2x8x5x768x1_S2x8x5x768x768_0_1_2_3_4 (val_main_v49 (F := F) x3 x4 e0 e1)
abbrev idx_main_v50 (i : S2x8x5x768x768.Idx) : S2x8x5x768x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v50_apply (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) (i : S2x8x5x768x768.Idx) :
    val_main_v50 (F := F) x3 x4 e0 e1 i = val_main_v49 (F := F) x3 x4 e0 e1 (idx_main_v50 i) := by
  unfold val_main_v50
  generalize val_main_v49 (F := F) x3 x4 e0 e1 = y
  exact broadcastInDim_apply _ bcast_S2x8x5x768x1_S2x8x5x768x768_0_1_2_3_4 y i (idx_main_v50 i) (fun a => match a with
    | ⟨0, _⟩ => by show (i 0).val = if (2 : Nat) = 1 then 0 else (i 0).val; rw [if_neg (by decide)]
    | ⟨1, _⟩ => by show (i 1).val = if (8 : Nat) = 1 then 0 else (i 1).val; rw [if_neg (by decide)]
    | ⟨2, _⟩ => by show (i 2).val = if (5 : Nat) = 1 then 0 else (i 2).val; rw [if_neg (by decide)]
    | ⟨3, _⟩ => by show (i 3).val = if (768 : Nat) = 1 then 0 else (i 3).val; rw [if_neg (by decide)]
    | ⟨4, _⟩ => by show 0 = if (1 : Nat) = 1 then 0 else (i 4).val; rw [if_pos rfl])

-- %51 = stablehlo.subtract %47, %50 : tensor<2x8x5x768x768xf32>
def val_main_v51 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) : (⟨S2x8x5x768x768, .f32⟩ : BufTy).Contents (Elt F) :=
  subf (val_main_v47 (F := F) x3 x4 e0 e1) (val_main_v50 (F := F) x3 x4 e0 e1)
theorem val_main_v51_apply (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) (i : S2x8x5x768x768.Idx) :
    val_main_v51 (F := F) x3 x4 e0 e1 i = FloatOps.subf (val_main_v47 (F := F) x3 x4 e0 e1 i) (val_main_v50 (F := F) x3 x4 e0 e1 i) := rfl

-- %52 = stablehlo.exponential %51 : tensor<2x8x5x768x768xf32>
def val_main_v52 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) : (⟨S2x8x5x768x768, .f32⟩ : BufTy).Contents (Elt F) :=
  Host.exp (val_main_v51 (F := F) x3 x4 e0 e1)
theorem val_main_v52_apply (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) (i : S2x8x5x768x768.Idx) :
    val_main_v52 (F := F) x3 x4 e0 e1 i = FloatOps.hostUnary .exp (val_main_v51 (F := F) x3 x4 e0 e1 i) := rfl

-- %cst_11 = stablehlo.constant dense<0.000000e+00> : tensor<f32>
def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

-- %53 = stablehlo.reduce(%52 init: %cst_11) applies stablehlo.add across dimensions = [4] : (tensor<2x8x5x768x768xf32>, tensor<f32>) -> tensor<2x8x5x768xf32> {
def val_main_v53 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) : (⟨S2x8x5x768, .f32⟩ : BufTy).Contents (Elt F) :=
  Host.reduceAdd (val_main_v52 (F := F) x3 x4 e0 e1) (val_main_cst_11 (F := F)) reducesTo_S2x8x5x768x768_S2x8x5x768_d4 h_S_
abbrev idx_main_v53 (i : S2x8x5x768.Idx) (k : Fin 768) : S2x8x5x768x768.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
/-- Stated at `F := Ideal`, where the host's float sum is this sum; at a bit-exact instance it is an opaque function of its operand. -/
theorem val_main_v53_apply (x3 : (⟨S2x768x160, .f32⟩ : BufTy).Contents (Elt Ideal)) (x4 : (⟨S2x768x32, .f32⟩ : BufTy).Contents (Elt Ideal)) (e0 : (⟨S2x768x160x32, .f32⟩ : BufTy).Contents (Elt Ideal)) (e1 : (⟨S2x768x32x32, .f32⟩ : BufTy).Contents (Elt Ideal)) (i : S2x8x5x768.Idx) :
    val_main_v53 (F := Ideal) x3 x4 e0 e1 i = (val_main_cst_11 (F := Ideal)) (Shape.Idx.first h_S_) + ∑ k : Fin 768, (val_main_v52 (F := Ideal) x3 x4 e0 e1) (idx_main_v53 i k) := by
  unfold val_main_v53
  generalize val_main_v52 (F := Ideal) x3 x4 e0 e1 = y0
  simp only [Host.reduceAdd, Ideal.hostReduceAdd_def]
  rw [Ideal.hostReduceAdd_single reducesTo_S2x8x5x768x768_S2x8x5x768_d4 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl | ⟨4, _⟩ => rfl))

-- %cst_12 = stablehlo.constant dense<2.560000e+02> : tensor<f32>
def val_main_cst_12 : (⟨S_, .f32⟩ : BufTy).Contents (Elt F) :=
  constant S_ .f32 0x43800000#32
theorem val_main_cst_12_apply (i : S_.Idx) :
    val_main_cst_12 (F := F) i = FloatOps.ofBits .f32 0x43800000#32 := rfl

-- %54 = stablehlo.broadcast_in_dim %cst_12, dims = [] : (tensor<f32>) -> tensor<2x8x5x768x768xf32>
def val_main_v54 : (⟨S2x8x5x768x768, .f32⟩ : BufTy).Contents (Elt F) :=
  broadcastInDim S2x8x5x768x768 ![] bcast_S_S2x8x5x768x768 (val_main_cst_12 (F := F))
abbrev idx_main_v54 (i : S2x8x5x768x768.Idx) : S_.Idx := fun a => a.elim0
theorem val_main_v54_apply (i : S2x8x5x768x768.Idx) :
    val_main_v54 (F := F) i = val_main_cst_12 (F := F) (idx_main_v54 i) := by
  unfold val_main_v54
  generalize val_main_cst_12 (F := F) = y
  exact broadcastInDim_apply _ bcast_S_S2x8x5x768x768 y i (idx_main_v54 i) (fun a => a.elim0)

-- %55 = stablehlo.multiply %52, %54 : tensor<2x8x5x768x768xf32>
def val_main_v55 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) : (⟨S2x8x5x768x768, .f32⟩ : BufTy).Contents (Elt F) :=
  mulf (val_main_v52 (F := F) x3 x4 e0 e1) (val_main_v54 (F := F))
theorem val_main_v55_apply (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) (i : S2x8x5x768x768.Idx) :
    val_main_v55 (F := F) x3 x4 e0 e1 i = FloatOps.mulf (val_main_v52 (F := F) x3 x4 e0 e1 i) (val_main_v54 (F := F) i) := rfl

-- %cst_13 = stablehlo.constant dense<-4.480000e+02> : tensor<f32>
def val_main_cst_13 : (⟨S_, .f32⟩ : BufTy).Contents (Elt F) :=
  constant S_ .f32 0xC3E00000#32
theorem val_main_cst_13_apply (i : S_.Idx) :
    val_main_cst_13 (F := F) i = FloatOps.ofBits .f32 0xC3E00000#32 := rfl

-- %cst_14 = stablehlo.constant dense<4.480000e+02> : tensor<f32>
def val_main_cst_14 : (⟨S_, .f32⟩ : BufTy).Contents (Elt F) :=
  constant S_ .f32 0x43E00000#32
theorem val_main_cst_14_apply (i : S_.Idx) :
    val_main_cst_14 (F := F) i = FloatOps.ofBits .f32 0x43E00000#32 := rfl

-- @clip_2's %0 = stablehlo.convert %arg1 : tensor<f32>, in %56 = func.call @clip_2(…) (record main_call4)
def val_main_call4_v0 : (⟨S_, .f32⟩ : BufTy).Contents (Elt F) :=
  id (val_main_cst_13 (F := F))
theorem val_main_call4_v0_apply (i : S_.Idx) :
    val_main_call4_v0 (F := F) i = (val_main_cst_13 (F := F) i) := rfl

-- @clip_2's %1 = stablehlo.broadcast_in_dim %0, dims = [] : (tensor<f32>) -> tensor<2x8x5x768x768xf32>, in %56 = func.call @clip_2(…) (record main_call4)
def val_main_call4_v1 : (⟨S2x8x5x768x768, .f32⟩ : BufTy).Contents (Elt F) :=
  broadcastInDim S2x8x5x768x768 ![] bcast_S_S2x8x5x768x768 (val_main_call4_v0 (F := F))
abbrev idx_main_call4_v1 (i : S2x8x5x768x768.Idx) : S_.Idx := fun a => a.elim0
theorem val_main_call4_v1_apply (i : S2x8x5x768x768.Idx) :
    val_main_call4_v1 (F := F) i = val_main_call4_v0 (F := F) (idx_main_call4_v1 i) := by
  unfold val_main_call4_v1
  generalize val_main_call4_v0 (F := F) = y
  exact broadcastInDim_apply _ bcast_S_S2x8x5x768x768 y i (idx_main_call4_v1 i) (fun a => a.elim0)

-- @clip_2's %2 = stablehlo.maximum %1, %arg0 : tensor<2x8x5x768x768xf32>, in %56 = func.call @clip_2(…) (record main_call4)
def val_main_call4_v2 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) : (⟨S2x8x5x768x768, .f32⟩ : BufTy).Contents (Elt F) :=
  maximumf (val_main_call4_v1 (F := F)) (val_main_v55 (F := F) x3 x4 e0 e1)
theorem val_main_call4_v2_apply (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) (i : S2x8x5x768x768.Idx) :
    val_main_call4_v2 (F := F) x3 x4 e0 e1 i = FloatOps.maximumf (val_main_call4_v1 (F := F) i) (val_main_v55 (F := F) x3 x4 e0 e1 i) := rfl

-- @clip_2's %3 = stablehlo.convert %arg2 : tensor<f32>, in %56 = func.call @clip_2(…) (record main_call4)
def val_main_call4_v3 : (⟨S_, .f32⟩ : BufTy).Contents (Elt F) :=
  id (val_main_cst_14 (F := F))
theorem val_main_call4_v3_apply (i : S_.Idx) :
    val_main_call4_v3 (F := F) i = (val_main_cst_14 (F := F) i) := rfl

-- @clip_2's %4 = stablehlo.broadcast_in_dim %3, dims = [] : (tensor<f32>) -> tensor<2x8x5x768x768xf32>, in %56 = func.call @clip_2(…) (record main_call4)
def val_main_call4_v4 : (⟨S2x8x5x768x768, .f32⟩ : BufTy).Contents (Elt F) :=
  broadcastInDim S2x8x5x768x768 ![] bcast_S_S2x8x5x768x768 (val_main_call4_v3 (F := F))
abbrev idx_main_call4_v4 (i : S2x8x5x768x768.Idx) : S_.Idx := fun a => a.elim0
theorem val_main_call4_v4_apply (i : S2x8x5x768x768.Idx) :
    val_main_call4_v4 (F := F) i = val_main_call4_v3 (F := F) (idx_main_call4_v4 i) := by
  unfold val_main_call4_v4
  generalize val_main_call4_v3 (F := F) = y
  exact broadcastInDim_apply _ bcast_S_S2x8x5x768x768 y i (idx_main_call4_v4 i) (fun a => a.elim0)

-- %56 = func.call @clip_2(…) (record main_call4) result 0: @clip_2's %5 = stablehlo.minimum %4, %2 : tensor<2x8x5x768x768xf32>
def val_main_v56 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) : (⟨S2x8x5x768x768, .f32⟩ : BufTy).Contents (Elt F) :=
  minimumf (val_main_call4_v4 (F := F)) (val_main_call4_v2 (F := F) x3 x4 e0 e1)
theorem val_main_v56_apply (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) (i : S2x8x5x768x768.Idx) :
    val_main_v56 (F := F) x3 x4 e0 e1 i = FloatOps.minimumf (val_main_call4_v4 (F := F) i) (val_main_call4_v2 (F := F) x3 x4 e0 e1 i) := rfl

-- %57 = stablehlo.dot_general %56, %23, batching_dims = [0, 1] x [0, 2], contracting_dims = [4] x [1], precision = [DEFAULT, DEFAULT] : (tensor<2x8x5x768x768xf32>, tensor<2x768x8x128xf32>) -> tensor<2x8x5x768x128xf32>
def val_main_v57 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) (e2 : (⟨S2x768x8x128, .f32⟩ : BufTy).Contents (Elt F)) : (⟨S2x8x5x768x128, .f32⟩ : BufTy).Contents (Elt F) :=
  Host.dotGeneral dot_S2x8x5x768x768_S2x768x8x128_S2x8x5x768x128_4_1_23_3_01_02 none (val_main_v56 (F := F) x3 x4 e0 e1) (e2)
theorem lhs_main_v57_0 (i : S2x8x5x768x128.Idx) (q : dot_S2x8x5x768x768_S2x768x8x128_S2x8x5x768x128_4_1_23_3_01_02.contr.Idx) :
    (dot_S2x8x5x768x768_S2x768x8x128_S2x8x5x768x128_4_1_23_3_01_02.lhsIdx i q 0).val = (i 0).val := by
  unfold DotDims.lhsIdx
  rw [dif_pos (show (0 : Fin S2x8x5x768x768.rank) ∈ dot_S2x8x5x768x768_S2x768x8x128_S2x8x5x768x128_4_1_23_3_01_02.lhsBatch by decide)]
  rfl
theorem lhs_main_v57_1 (i : S2x8x5x768x128.Idx) (q : dot_S2x8x5x768x768_S2x768x8x128_S2x8x5x768x128_4_1_23_3_01_02.contr.Idx) :
    (dot_S2x8x5x768x768_S2x768x8x128_S2x8x5x768x128_4_1_23_3_01_02.lhsIdx i q 1).val = (i 1).val := by
  unfold DotDims.lhsIdx
  rw [dif_pos (show (1 : Fin S2x8x5x768x768.rank) ∈ dot_S2x8x5x768x768_S2x768x8x128_S2x8x5x768x128_4_1_23_3_01_02.lhsBatch by decide)]
  rfl
theorem lhs_main_v57_2 (i : S2x8x5x768x128.Idx) (q : dot_S2x8x5x768x768_S2x768x8x128_S2x8x5x768x128_4_1_23_3_01_02.contr.Idx) :
    (dot_S2x8x5x768x768_S2x768x8x128_S2x8x5x768x128_4_1_23_3_01_02.lhsIdx i q 2).val = (i 2).val := by
  unfold DotDims.lhsIdx
  rw [dif_neg (show ¬(2 : Fin S2x8x5x768x768.rank) ∈ dot_S2x8x5x768x768_S2x768x8x128_S2x8x5x768x128_4_1_23_3_01_02.lhsBatch by decide), dif_pos (show (2 : Fin S2x8x5x768x768.rank) ∈ dot_S2x8x5x768x768_S2x768x8x128_S2x8x5x768x128_4_1_23_3_01_02.lhsNonContracting by decide)]
  rfl
theorem lhs_main_v57_3 (i : S2x8x5x768x128.Idx) (q : dot_S2x8x5x768x768_S2x768x8x128_S2x8x5x768x128_4_1_23_3_01_02.contr.Idx) :
    (dot_S2x8x5x768x768_S2x768x8x128_S2x8x5x768x128_4_1_23_3_01_02.lhsIdx i q 3).val = (i 3).val := by
  unfold DotDims.lhsIdx
  rw [dif_neg (show ¬(3 : Fin S2x8x5x768x768.rank) ∈ dot_S2x8x5x768x768_S2x768x8x128_S2x8x5x768x128_4_1_23_3_01_02.lhsBatch by decide), dif_pos (show (3 : Fin S2x8x5x768x768.rank) ∈ dot_S2x8x5x768x768_S2x768x8x128_S2x8x5x768x128_4_1_23_3_01_02.lhsNonContracting by decide)]
  rfl
theorem lhs_main_v57_4 (i : S2x8x5x768x128.Idx) (q : dot_S2x8x5x768x768_S2x768x8x128_S2x8x5x768x128_4_1_23_3_01_02.contr.Idx) :
    (dot_S2x8x5x768x768_S2x768x8x128_S2x8x5x768x128_4_1_23_3_01_02.lhsIdx i q 4).val = (q ⟨0, by decide⟩).val :=
  dot_S2x8x5x768x768_S2x768x8x128_S2x8x5x768x128_4_1_23_3_01_02.lhsIdx_val_of_single rfl i q
theorem rhs_main_v57_0 (i : S2x8x5x768x128.Idx) (q : dot_S2x8x5x768x768_S2x768x8x128_S2x8x5x768x128_4_1_23_3_01_02.contr.Idx) :
    (dot_S2x8x5x768x768_S2x768x8x128_S2x8x5x768x128_4_1_23_3_01_02.rhsIdx i q 0).val = (i 0).val := by
  unfold DotDims.rhsIdx
  rw [dif_pos (show (0 : Fin S2x768x8x128.rank) ∈ dot_S2x8x5x768x768_S2x768x8x128_S2x8x5x768x128_4_1_23_3_01_02.rhsBatch by decide)]
  rfl
theorem rhs_main_v57_1 (i : S2x8x5x768x128.Idx) (q : dot_S2x8x5x768x768_S2x768x8x128_S2x8x5x768x128_4_1_23_3_01_02.contr.Idx) :
    (dot_S2x8x5x768x768_S2x768x8x128_S2x8x5x768x128_4_1_23_3_01_02.rhsIdx i q 1).val = (q ⟨0, by decide⟩).val :=
  dot_S2x8x5x768x768_S2x768x8x128_S2x8x5x768x128_4_1_23_3_01_02.rhsIdx_val_of_single rfl i q
theorem rhs_main_v57_2 (i : S2x8x5x768x128.Idx) (q : dot_S2x8x5x768x768_S2x768x8x128_S2x8x5x768x128_4_1_23_3_01_02.contr.Idx) :
    (dot_S2x8x5x768x768_S2x768x8x128_S2x8x5x768x128_4_1_23_3_01_02.rhsIdx i q 2).val = (i 1).val := by
  unfold DotDims.rhsIdx
  rw [dif_pos (show (2 : Fin S2x768x8x128.rank) ∈ dot_S2x8x5x768x768_S2x768x8x128_S2x8x5x768x128_4_1_23_3_01_02.rhsBatch by decide)]
  rfl
theorem rhs_main_v57_3 (i : S2x8x5x768x128.Idx) (q : dot_S2x8x5x768x768_S2x768x8x128_S2x8x5x768x128_4_1_23_3_01_02.contr.Idx) :
    (dot_S2x8x5x768x768_S2x768x8x128_S2x8x5x768x128_4_1_23_3_01_02.rhsIdx i q 3).val = (i 4).val := by
  unfold DotDims.rhsIdx
  rw [dif_neg (show ¬(3 : Fin S2x768x8x128.rank) ∈ dot_S2x8x5x768x768_S2x768x8x128_S2x8x5x768x128_4_1_23_3_01_02.rhsBatch by decide), dif_pos (show (3 : Fin S2x768x8x128.rank) ∈ dot_S2x8x5x768x768_S2x768x8x128_S2x8x5x768x128_4_1_23_3_01_02.rhsNonContracting by decide)]
  rfl
abbrev lidx_main_v57 (i : S2x8x5x768x128.Idx) (k : Fin 768) : S2x8x5x768x768.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨k.val, k.isLt⟩
abbrev ridx_main_v57 (i : S2x8x5x768x128.Idx) (k : Fin 768) : S2x768x8x128.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 4).val, (i 4).isLt⟩
/-- Stated at `F := Ideal`, where the host's `dot_general` is this sum; at a bit-exact instance it is an opaque function of its operands. -/
theorem val_main_v57_apply (x3 : (⟨S2x768x160, .f32⟩ : BufTy).Contents (Elt Ideal)) (x4 : (⟨S2x768x32, .f32⟩ : BufTy).Contents (Elt Ideal)) (e0 : (⟨S2x768x160x32, .f32⟩ : BufTy).Contents (Elt Ideal)) (e1 : (⟨S2x768x32x32, .f32⟩ : BufTy).Contents (Elt Ideal)) (e2 : (⟨S2x768x8x128, .f32⟩ : BufTy).Contents (Elt Ideal)) (i : S2x8x5x768x128.Idx) :
    val_main_v57 (F := Ideal) x3 x4 e0 e1 e2 i = ∑ k : Fin 768, (val_main_v56 (F := Ideal) x3 x4 e0 e1) (lidx_main_v57 i k) * e2 (ridx_main_v57 i k) := by
  unfold val_main_v57
  generalize val_main_v56 (F := Ideal) x3 x4 e0 e1 = y0
  simp only [Host.dotGeneral]
  rw [Ideal.dotGeneral_apply, ← Equiv.sum_comp (ValueIdx.contrEquiv1 dot_S2x8x5x768x768_S2x768x8x128_S2x8x5x768x128_4_1_23_3_01_02 768 rfl rfl).symm]
  refine Finset.sum_congr rfl fun k _ => ?_
  have hk := ValueIdx.contrEquiv1_symm_val dot_S2x8x5x768x768_S2x768x8x128_S2x8x5x768x128_4_1_23_3_01_02 768 rfl rfl k
  have el : dot_S2x8x5x768x768_S2x768x8x128_S2x8x5x768x128_4_1_23_3_01_02.lhsIdx i ((ValueIdx.contrEquiv1 dot_S2x8x5x768x768_S2x768x8x128_S2x8x5x768x128_4_1_23_3_01_02 768 rfl rfl).symm k) = lidx_main_v57 i k := funext fun a => Fin.ext (by
    match a with
    | ⟨0, _⟩ => exact lhs_main_v57_0 _ _
    | ⟨1, _⟩ => exact lhs_main_v57_1 _ _
    | ⟨2, _⟩ => exact lhs_main_v57_2 _ _
    | ⟨3, _⟩ => exact lhs_main_v57_3 _ _
    | ⟨4, _⟩ => exact (lhs_main_v57_4 _ _).trans hk)
  have er : dot_S2x8x5x768x768_S2x768x8x128_S2x8x5x768x128_4_1_23_3_01_02.rhsIdx i ((ValueIdx.contrEquiv1 dot_S2x8x5x768x768_S2x768x8x128_S2x8x5x768x128_4_1_23_3_01_02 768 rfl rfl).symm k) = ridx_main_v57 i k := funext fun a => Fin.ext (by
    match a with
    | ⟨0, _⟩ => exact rhs_main_v57_0 _ _
    | ⟨1, _⟩ => exact (rhs_main_v57_1 _ _).trans hk
    | ⟨2, _⟩ => exact rhs_main_v57_2 _ _
    | ⟨3, _⟩ => exact rhs_main_v57_3 _ _)
  rw [el, er]

-- %58 = stablehlo.broadcast_in_dim %arg5, dims = [0, 1] : (tensor<2x8xf32>) -> tensor<2x8x1x1x1xf32>
def val_main_v58 (x5 : (⟨S2x8, .f32⟩ : BufTy).Contents (Elt F)) : (⟨S2x8x1x1x1, .f32⟩ : BufTy).Contents (Elt F) :=
  broadcastInDim S2x8x1x1x1 ![0, 1] bcast_S2x8_S2x8x1x1x1_0_1 (x5)
abbrev idx_main_v58 (i : S2x8x1x1x1.Idx) : S2x8.Idx := fun a => match a with
  | ⟨0, _⟩ => ⟨(i 0).val, (i 0).isLt⟩
  | ⟨1, _⟩ => ⟨(i 1).val, (i 1).isLt⟩
theorem val_main_v58_apply (x5 : (⟨S2x8, .f32⟩ : BufTy).Contents (Elt F)) (i : S2x8x1x1x1.Idx) :
    val_main_v58 (F := F) x5 i = x5 (idx_main_v58 i) := by
  unfold val_main_v58
  exact broadcastInDim_apply _ bcast_S2x8_S2x8x1x1x1_0_1 x5 i (idx_main_v58 i) (fun a => match a with
    | ⟨0, _⟩ => by show (i 0).val = if (2 : Nat) = 1 then 0 else (i 0).val; rw [if_neg (by decide)]
    | ⟨1, _⟩ => by show (i 1).val = if (8 : Nat) = 1 then 0 else (i 1).val; rw [if_neg (by decide)])

-- %cst_15 = stablehlo.constant dense<3.906250e-03> : tensor<f32>
def val_main_cst_15 : (⟨S_, .f32⟩ : BufTy).Contents (Elt F) :=
  constant S_ .f32 0x3B800000#32
theorem val_main_cst_15_apply (i : S_.Idx) :
    val_main_cst_15 (F := F) i = FloatOps.ofBits .f32 0x3B800000#32 := rfl

-- %59 = stablehlo.broadcast_in_dim %cst_15, dims = [] : (tensor<f32>) -> tensor<2x8x1x1x1xf32>
def val_main_v59 : (⟨S2x8x1x1x1, .f32⟩ : BufTy).Contents (Elt F) :=
  broadcastInDim S2x8x1x1x1 ![] bcast_S_S2x8x1x1x1 (val_main_cst_15 (F := F))
abbrev idx_main_v59 (i : S2x8x1x1x1.Idx) : S_.Idx := fun a => a.elim0
theorem val_main_v59_apply (i : S2x8x1x1x1.Idx) :
    val_main_v59 (F := F) i = val_main_cst_15 (F := F) (idx_main_v59 i) := by
  unfold val_main_v59
  generalize val_main_cst_15 (F := F) = y
  exact broadcastInDim_apply _ bcast_S_S2x8x1x1x1 y i (idx_main_v59 i) (fun a => a.elim0)

-- %60 = stablehlo.multiply %58, %59 : tensor<2x8x1x1x1xf32>
def val_main_v60 (x5 : (⟨S2x8, .f32⟩ : BufTy).Contents (Elt F)) : (⟨S2x8x1x1x1, .f32⟩ : BufTy).Contents (Elt F) :=
  mulf (val_main_v58 (F := F) x5) (val_main_v59 (F := F))
theorem val_main_v60_apply (x5 : (⟨S2x8, .f32⟩ : BufTy).Contents (Elt F)) (i : S2x8x1x1x1.Idx) :
    val_main_v60 (F := F) x5 i = FloatOps.mulf (val_main_v58 (F := F) x5 i) (val_main_v59 (F := F) i) := rfl

-- %61 = stablehlo.broadcast_in_dim %53, dims = [0, 1, 2, 3] : (tensor<2x8x5x768xf32>) -> tensor<2x8x5x768x1xf32>
def val_main_v61 (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) : (⟨S2x8x5x768x1, .f32⟩ : BufTy).Contents (Elt F) :=
  broadcastInDim S2x8x5x768x1 ![0, 1, 2, 3] bcast_S2x8x5x768_S2x8x5x768x1_0_1_2_3 (val_main_v53 (F := F) x3 x4 e0 e1)
abbrev idx_main_v61 (i : S2x8x5x768x1.Idx) : S2x8x5x768.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v61_apply (x3 : (⟨S2x768x160, .f32⟩ : BufTy).Contents (Elt F)) (x4 : (⟨S2x768x32, .f32⟩ : BufTy).Contents (Elt F)) (e0 : (⟨S2x768x160x32, .f32⟩ : BufTy).Contents (Elt F)) (e1 : (⟨S2x768x32x32, .f32⟩ : BufTy).Contents (Elt F)) (i : S2x8x5x768x1.Idx) :
    val_main_v61 (F := F) x3 x4 e0 e1 i = val_main_v53 (F := F) x3 x4 e0 e1 (idx_main_v61 i) := by
  unfold val_main_v61
  generalize val_main_v53 (F := F) x3 x4 e0 e1 = y
  exact broadcastInDim_apply _ bcast_S2x8x5x768_S2x8x5x768x1_0_1_2_3 y i (idx_main_v61 i) (fun a => match a with
    | ⟨0, _⟩ => by show (i 0).val = if (2 : Nat) = 1 then 0 else (i 0).val; rw [if_neg (by decide)]
    | ⟨1, _⟩ => by show (i 1).val = if (8 : Nat) = 1 then 0 else (i 1).val; rw [if_neg (by decide)]
    | ⟨2, _⟩ => by show (i 2).val = if (5 : Nat) = 1 then 0 else (i 2).val; rw [if_neg (by decide)]
    | ⟨3, _⟩ => by show (i 3).val = if (768 : Nat) = 1 then 0 else (i 3).val; rw [if_neg (by decide)])

-- %62 = stablehlo.broadcast_in_dim %60, dims = [0, 1, 2, 3, 4] : (tensor<2x8x1x1x1xf32>) -> tensor<2x8x5x768x1xf32>
def val_main_v62 (x5 : (⟨S2x8, .f32⟩ : BufTy).Contents (Elt F)) : (⟨S2x8x5x768x1, .f32⟩ : BufTy).Contents (Elt F) :=
  broadcastInDim S2x8x5x768x1 ![0, 1, 2, 3, 4] bcast_S2x8x1x1x1_S2x8x5x768x1_0_1_2_3_4 (val_main_v60 (F := F) x5)
abbrev idx_main_v62 (i : S2x8x5x768x1.Idx) : S2x8x1x1x1.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨0, Nat.one_pos⟩
  | ⟨4, _⟩ => ⟨0, Nat.one_pos⟩
theorem val_main_v62_apply (x5 : (⟨S2x8, .f32⟩ : BufTy).Contents (Elt F)) (i : S2x8x5x768x1.Idx) :
    val_main_v62 (F := F) x5 i = val_main_v60 (F := F) x5 (idx_main_v62 i) := by
  unfold val_main_v62
  generalize val_main_v60 (F := F) x5 = y
  exact broadcastInDim_apply _ bcast_S2x8x1x1x1_S2x8x5x768x1_0_1_2_3_4 y i (idx_main_v62 i) (fun a => match a with
    | ⟨0, _⟩ => by show (i 0).val = if (2 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl]
    | ⟨4, _⟩ => by show 0 = if (1 : Nat) = 1 then 0 else (i 4).val; rw [if_pos rfl])

-- %63 = stablehlo.divide %62, %61 : tensor<2x8x5x768x1xf32>
def val_main_v63 (x3 : (⟨S2x768x160, .f32⟩ : BufTy).Contents (Elt F)) (x4 : (⟨S2x768x32, .f32⟩ : BufTy).Contents (Elt F)) (x5 : (⟨S2x8, .f32⟩ : BufTy).Contents (Elt F)) (e0 : (⟨S2x768x160x32, .f32⟩ : BufTy).Contents (Elt F)) (e1 : (⟨S2x768x32x32, .f32⟩ : BufTy).Contents (Elt F)) : (⟨S2x8x5x768x1, .f32⟩ : BufTy).Contents (Elt F) :=
  Host.divf (val_main_v62 (F := F) x5) (val_main_v61 (F := F) x3 x4 e0 e1)
theorem val_main_v63_apply (x3 : (⟨S2x768x160, .f32⟩ : BufTy).Contents (Elt F)) (x4 : (⟨S2x768x32, .f32⟩ : BufTy).Contents (Elt F)) (x5 : (⟨S2x8, .f32⟩ : BufTy).Contents (Elt F)) (e0 : (⟨S2x768x160x32, .f32⟩ : BufTy).Contents (Elt F)) (e1 : (⟨S2x768x32x32, .f32⟩ : BufTy).Contents (Elt F)) (i : S2x8x5x768x1.Idx) :
    val_main_v63 (F := F) x3 x4 x5 e0 e1 i = FloatOps.hostDivf (val_main_v62 (F := F) x5 i) (val_main_v61 (F := F) x3 x4 e0 e1 i) := rfl

-- %64 = stablehlo.broadcast_in_dim %63, dims = [0, 1, 2, 3, 4] : (tensor<2x8x5x768x1xf32>) -> tensor<2x8x5x768x128xf32>
def val_main_v64 (x3 : (⟨S2x768x160, .f32⟩ : BufTy).Contents (Elt F)) (x4 : (⟨S2x768x32, .f32⟩ : BufTy).Contents (Elt F)) (x5 : (⟨S2x8, .f32⟩ : BufTy).Contents (Elt F)) (e0 : (⟨S2x768x160x32, .f32⟩ : BufTy).Contents (Elt F)) (e1 : (⟨S2x768x32x32, .f32⟩ : BufTy).Contents (Elt F)) : (⟨S2x8x5x768x128, .f32⟩ : BufTy).Contents (Elt F) :=
  broadcastInDim S2x8x5x768x128 ![0, 1, 2, 3, 4] bcast_S2x8x5x768x1_S2x8x5x768x128_0_1_2_3_4 (val_main_v63 (F := F) x3 x4 x5 e0 e1)
abbrev idx_main_v64 (i : S2x8x5x768x128.Idx) : S2x8x5x768x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨0, Nat.one_pos⟩
theorem val_main_v64_apply (x3 : (⟨S2x768x160, .f32⟩ : BufTy).Contents (Elt F)) (x4 : (⟨S2x768x32, .f32⟩ : BufTy).Contents (Elt F)) (x5 : (⟨S2x8, .f32⟩ : BufTy).Contents (Elt F)) (e0 : (⟨S2x768x160x32, .f32⟩ : BufTy).Contents (Elt F)) (e1 : (⟨S2x768x32x32, .f32⟩ : BufTy).Contents (Elt F)) (i : S2x8x5x768x128.Idx) :
    val_main_v64 (F := F) x3 x4 x5 e0 e1 i = val_main_v63 (F := F) x3 x4 x5 e0 e1 (idx_main_v64 i) := by
  unfold val_main_v64
  generalize val_main_v63 (F := F) x3 x4 x5 e0 e1 = y
  exact broadcastInDim_apply _ bcast_S2x8x5x768x1_S2x8x5x768x128_0_1_2_3_4 y i (idx_main_v64 i) (fun a => match a with
    | ⟨0, _⟩ => by show (i 0).val = if (2 : Nat) = 1 then 0 else (i 0).val; rw [if_neg (by decide)]
    | ⟨1, _⟩ => by show (i 1).val = if (8 : Nat) = 1 then 0 else (i 1).val; rw [if_neg (by decide)]
    | ⟨2, _⟩ => by show (i 2).val = if (5 : Nat) = 1 then 0 else (i 2).val; rw [if_neg (by decide)]
    | ⟨3, _⟩ => by show (i 3).val = if (768 : Nat) = 1 then 0 else (i 3).val; rw [if_neg (by decide)]
    | ⟨4, _⟩ => by show 0 = if (1 : Nat) = 1 then 0 else (i 4).val; rw [if_pos rfl])

-- %65 = stablehlo.multiply %57, %64 : tensor<2x8x5x768x128xf32>
def val_main_v65 (x3 : (⟨S2x768x160, .f32⟩ : BufTy).Contents (Elt F)) (x4 : (⟨S2x768x32, .f32⟩ : BufTy).Contents (Elt F)) (x5 : (⟨S2x8, .f32⟩ : BufTy).Contents (Elt F)) (e0 : (⟨S2x768x160x32, .f32⟩ : BufTy).Contents (Elt F)) (e1 : (⟨S2x768x32x32, .f32⟩ : BufTy).Contents (Elt F)) (e2 : (⟨S2x768x8x128, .f32⟩ : BufTy).Contents (Elt F)) : (⟨S2x8x5x768x128, .f32⟩ : BufTy).Contents (Elt F) :=
  mulf (val_main_v57 (F := F) x3 x4 e0 e1 e2) (val_main_v64 (F := F) x3 x4 x5 e0 e1)
theorem val_main_v65_apply (x3 : (⟨S2x768x160, .f32⟩ : BufTy).Contents (Elt F)) (x4 : (⟨S2x768x32, .f32⟩ : BufTy).Contents (Elt F)) (x5 : (⟨S2x8, .f32⟩ : BufTy).Contents (Elt F)) (e0 : (⟨S2x768x160x32, .f32⟩ : BufTy).Contents (Elt F)) (e1 : (⟨S2x768x32x32, .f32⟩ : BufTy).Contents (Elt F)) (e2 : (⟨S2x768x8x128, .f32⟩ : BufTy).Contents (Elt F)) (i : S2x8x5x768x128.Idx) :
    val_main_v65 (F := F) x3 x4 x5 e0 e1 e2 i = FloatOps.mulf (val_main_v57 (F := F) x3 x4 e0 e1 e2 i) (val_main_v64 (F := F) x3 x4 x5 e0 e1 i) := rfl

-- %66 = stablehlo.convert %65 : (tensor<2x8x5x768x128xf32>) -> tensor<2x8x5x768x128xbf16>
def val_main_v66 (x3 : (⟨S2x768x160, .f32⟩ : BufTy).Contents (Elt F)) (x4 : (⟨S2x768x32, .f32⟩ : BufTy).Contents (Elt F)) (x5 : (⟨S2x8, .f32⟩ : BufTy).Contents (Elt F)) (e0 : (⟨S2x768x160x32, .f32⟩ : BufTy).Contents (Elt F)) (e1 : (⟨S2x768x32x32, .f32⟩ : BufTy).Contents (Elt F)) (e2 : (⟨S2x768x8x128, .f32⟩ : BufTy).Contents (Elt F)) : (⟨S2x8x5x768x128, .bf16⟩ : BufTy).Contents (Elt F) :=
  truncf .bf16 (val_main_v65 (F := F) x3 x4 x5 e0 e1 e2) bitsLt_bf16_f32
theorem val_main_v66_apply (x3 : (⟨S2x768x160, .f32⟩ : BufTy).Contents (Elt F)) (x4 : (⟨S2x768x32, .f32⟩ : BufTy).Contents (Elt F)) (x5 : (⟨S2x8, .f32⟩ : BufTy).Contents (Elt F)) (e0 : (⟨S2x768x160x32, .f32⟩ : BufTy).Contents (Elt F)) (e1 : (⟨S2x768x32x32, .f32⟩ : BufTy).Contents (Elt F)) (e2 : (⟨S2x768x8x128, .f32⟩ : BufTy).Contents (Elt F)) (i : S2x8x5x768x128.Idx) :
    val_main_v66 (F := F) x3 x4 x5 e0 e1 e2 i = FloatOps.truncf .bf16 bitsLt_bf16_f32 (val_main_v65 (F := F) x3 x4 x5 e0 e1 e2 i) := rfl

-- %67 = stablehlo.transpose %66, dims = [0, 3, 1, 2, 4] : (tensor<2x8x5x768x128xbf16>) -> tensor<2x768x8x5x128xbf16>
def val_main_v67 (x3 : (⟨S2x768x160, .f32⟩ : BufTy).Contents (Elt F)) (x4 : (⟨S2x768x32, .f32⟩ : BufTy).Contents (Elt F)) (x5 : (⟨S2x8, .f32⟩ : BufTy).Contents (Elt F)) (e0 : (⟨S2x768x160x32, .f32⟩ : BufTy).Contents (Elt F)) (e1 : (⟨S2x768x32x32, .f32⟩ : BufTy).Contents (Elt F)) (e2 : (⟨S2x768x8x128, .f32⟩ : BufTy).Contents (Elt F)) : (⟨S2x768x8x5x128, .bf16⟩ : BufTy).Contents (Elt F) :=
  transpose S2x768x8x5x128 [0, 3, 1, 2, 4] (val_main_v66 (F := F) x3 x4 x5 e0 e1 e2) transposes_S2x8x5x768x128_S2x768x8x5x128_0_3_1_2_4
abbrev idx_main_v67 (i : S2x768x8x5x128.Idx) : S2x8x5x768x128.Idx := fun a => match a with
  | ⟨0, _⟩ => ⟨(i 0).val, (i 0).isLt⟩
  | ⟨1, _⟩ => ⟨(i 2).val, (i 2).isLt⟩
  | ⟨2, _⟩ => ⟨(i 3).val, (i 3).isLt⟩
  | ⟨3, _⟩ => ⟨(i 1).val, (i 1).isLt⟩
  | ⟨4, _⟩ => ⟨(i 4).val, (i 4).isLt⟩
theorem val_main_v67_apply (x3 : (⟨S2x768x160, .f32⟩ : BufTy).Contents (Elt F)) (x4 : (⟨S2x768x32, .f32⟩ : BufTy).Contents (Elt F)) (x5 : (⟨S2x8, .f32⟩ : BufTy).Contents (Elt F)) (e0 : (⟨S2x768x160x32, .f32⟩ : BufTy).Contents (Elt F)) (e1 : (⟨S2x768x32x32, .f32⟩ : BufTy).Contents (Elt F)) (e2 : (⟨S2x768x8x128, .f32⟩ : BufTy).Contents (Elt F)) (i : S2x768x8x5x128.Idx) :
    val_main_v67 (F := F) x3 x4 x5 e0 e1 e2 i = val_main_v66 (F := F) x3 x4 x5 e0 e1 e2 (idx_main_v67 i) := by
  unfold val_main_v67
  generalize val_main_v66 (F := F) x3 x4 x5 e0 e1 e2 = y
  exact transpose_apply [0, 3, 1, 2, 4] y transposes_S2x8x5x768x128_S2x768x8x5x128_0_3_1_2_4 i (idx_main_v67 i) (fun b => match b with
    | ⟨0, _⟩ => rfl
    | ⟨1, _⟩ => rfl
    | ⟨2, _⟩ => rfl
    | ⟨3, _⟩ => rfl
    | ⟨4, _⟩ => rfl)

-- %68 = stablehlo.reshape %67 : (tensor<2x768x8x5x128xbf16>) -> tensor<2x768x5120xbf16>
def val_main_v68 (x3 : (⟨S2x768x160, .f32⟩ : BufTy).Contents (Elt F)) (x4 : (⟨S2x768x32, .f32⟩ : BufTy).Contents (Elt F)) (x5 : (⟨S2x8, .f32⟩ : BufTy).Contents (Elt F)) (e0 : (⟨S2x768x160x32, .f32⟩ : BufTy).Contents (Elt F)) (e1 : (⟨S2x768x32x32, .f32⟩ : BufTy).Contents (Elt F)) (e2 : (⟨S2x768x8x128, .f32⟩ : BufTy).Contents (Elt F)) : (⟨S2x768x5120, .bf16⟩ : BufTy).Contents (Elt F) :=
  shapeCast _ (val_main_v67 (F := F) x3 x4 x5 e0 e1 e2) shapeCasts_S2x768x8x5x128_S2x768x5120
set_option backward.proofsInPublic true in
abbrev idx_main_v68 (i : S2x768x5120.Idx) : S2x768x8x5x128.Idx := fun a => match a with
  | ⟨0, _⟩ => ⟨(((i 0).val * 768 + (i 1).val) * 5120 + (i 2).val) / 3932160, by have h0 : (i 0).val < 2 := (i 0).isLt; have h1 : (i 1).val < 768 := (i 1).isLt; have h2 : (i 2).val < 5120 := (i 2).isLt; show (((i 0).val * 768 + (i 1).val) * 5120 + (i 2).val) / 3932160 < 2; omega⟩
  | ⟨1, _⟩ => ⟨(((i 0).val * 768 + (i 1).val) * 5120 + (i 2).val) / 5120 % 768, by have h0 : (i 0).val < 2 := (i 0).isLt; have h1 : (i 1).val < 768 := (i 1).isLt; have h2 : (i 2).val < 5120 := (i 2).isLt; show (((i 0).val * 768 + (i 1).val) * 5120 + (i 2).val) / 5120 % 768 < 768; omega⟩
  | ⟨2, _⟩ => ⟨(((i 0).val * 768 + (i 1).val) * 5120 + (i 2).val) / 640 % 8, by have h0 : (i 0).val < 2 := (i 0).isLt; have h1 : (i 1).val < 768 := (i 1).isLt; have h2 : (i 2).val < 5120 := (i 2).isLt; show (((i 0).val * 768 + (i 1).val) * 5120 + (i 2).val) / 640 % 8 < 8; omega⟩
  | ⟨3, _⟩ => ⟨(((i 0).val * 768 + (i 1).val) * 5120 + (i 2).val) / 128 % 5, by have h0 : (i 0).val < 2 := (i 0).isLt; have h1 : (i 1).val < 768 := (i 1).isLt; have h2 : (i 2).val < 5120 := (i 2).isLt; show (((i 0).val * 768 + (i 1).val) * 5120 + (i 2).val) / 128 % 5 < 5; omega⟩
  | ⟨4, _⟩ => ⟨(((i 0).val * 768 + (i 1).val) * 5120 + (i 2).val) % 128, by have h0 : (i 0).val < 2 := (i 0).isLt; have h1 : (i 1).val < 768 := (i 1).isLt; have h2 : (i 2).val < 5120 := (i 2).isLt; show (((i 0).val * 768 + (i 1).val) * 5120 + (i 2).val) % 128 < 128; omega⟩
theorem val_main_v68_apply (x3 : (⟨S2x768x160, .f32⟩ : BufTy).Contents (Elt F)) (x4 : (⟨S2x768x32, .f32⟩ : BufTy).Contents (Elt F)) (x5 : (⟨S2x8, .f32⟩ : BufTy).Contents (Elt F)) (e0 : (⟨S2x768x160x32, .f32⟩ : BufTy).Contents (Elt F)) (e1 : (⟨S2x768x32x32, .f32⟩ : BufTy).Contents (Elt F)) (e2 : (⟨S2x768x8x128, .f32⟩ : BufTy).Contents (Elt F)) (i : S2x768x5120.Idx) :
    val_main_v68 (F := F) x3 x4 x5 e0 e1 e2 i = val_main_v67 (F := F) x3 x4 x5 e0 e1 e2 (idx_main_v68 i) := by
  unfold val_main_v68
  generalize val_main_v67 (F := F) x3 x4 x5 e0 e1 e2 = y
  exact shapeCast_apply y shapeCasts_S2x768x8x5x128_S2x768x5120 i (idx_main_v68 i)
    (by rewrite [Shape.rowMajor_val_five, Shape.rowMajor_val_three]; have h0 : (i 0).val < 2 := (i 0).isLt; have h1 : (i 1).val < 768 := (i 1).isLt; have h2 : (i 2).val < 5120 := (i 2).isLt; show ((((((i 0).val * 768 + (i 1).val) * 5120 + (i 2).val) / 3932160 * 768 + (((i 0).val * 768 + (i 1).val) * 5120 + (i 2).val) / 5120 % 768) * 8 + (((i 0).val * 768 + (i 1).val) * 5120 + (i 2).val) / 640 % 8) * 5 + (((i 0).val * 768 + (i 1).val) * 5120 + (i 2).val) / 128 % 5) * 128 + (((i 0).val * 768 + (i 1).val) * 5120 + (i 2).val) % 128 = ((i 0).val * 768 + (i 1).val) * 5120 + (i 2).val; omega)

/-- The term the Run module states for `main_v68` over any contents `V0` is the stage. -/
theorem val_main_v68_eq (V0 : Valuation τ sig (Elt F)) :
    shapeCast _ (transpose S2x768x8x5x128 [0, 3, 1, 2, 4] (truncf .bf16 (mulf (Host.dotGeneral dot_S2x8x5x768x768_S2x768x8x128_S2x8x5x768x128_4_1_23_3_01_02 none (minimumf (broadcastInDim S2x8x5x768x768 ![] bcast_S_S2x8x5x768x768 (id (constant S_ .f32 0x43E00000#32))) (maximumf (broadcastInDim S2x8x5x768x768 ![] bcast_S_S2x8x5x768x768 (id (constant S_ .f32 0xC3E00000#32))) (mulf (Host.exp (subf (select (broadcastInDim S2x8x5x768x768 ![3, 4] bcast_S768x768_S2x8x5x768x768_3_4 (cmpi .sle (broadcastInDim S768x768 ![0, 1] bcast_S1x768_S768x768_0_1 (broadcastInDim S1x768 ![1] bcast_S768_S1x768_1 (iotaInDim S768 32 0))) (broadcastInDim S768x768 ![0, 1] bcast_S768x1_S768x768_0_1 (broadcastInDim S768x1 ![0] bcast_S768_S768x1_0 (iotaInDim S768 32 0))))) (Host.divf (transpose S2x8x5x768x768 [0, 1, 4, 3, 2] (Host.dotGeneral dot_S2x768x8x128_S2x768x8x5x128_S2x8x768x768x5_3_4_1_13_02_02 none (shapeCast _ (mulf (V0 (Proc.devRef .tc main_v15)) (broadcastInDim S2x768x32x32 ![0, 1, 2, 3] bcast_S2x768x32x1_S2x768x32x32_0_1_2_3 (broadcastInDim S2x768x32x1 ![0, 1, 2] bcast_S2x768x32_S2x768x32x1_0_1_2 (V0 (Proc.devRef .tc main_arg4))))) shapeCasts_S2x768x32x32_S2x768x8x128) (shapeCast _ (mulf (V0 (Proc.devRef .tc main_v7)) (broadcastInDim S2x768x160x32 ![0, 1, 2, 3] bcast_S2x768x160x1_S2x768x160x32_0_1_2_3 (broadcastInDim S2x768x160x1 ![0, 1, 2] bcast_S2x768x160_S2x768x160x1_0_1_2 (V0 (Proc.devRef .tc main_arg3))))) shapeCasts_S2x768x160x32_S2x768x8x5x128)) transposes_S2x8x768x768x5_S2x8x5x768x768_0_1_4_3_2) (broadcastInDim S2x8x5x768x768 ![] bcast_S_S2x8x5x768x768 (Host.sqrt (constant S_ .f32 0x43000000#32)))) (broadcastInDim S2x8x5x768x768 ![] bcast_S_S2x8x5x768x768 (id (constant S_ .f32 0xFF800000#32)))) (broadcastInDim S2x8x5x768x768 ![0, 1, 2, 3, 4] bcast_S2x8x5x768x1_S2x8x5x768x768_0_1_2_3_4 (broadcastInDim S2x8x5x768x1 ![0, 1, 2, 3] bcast_S2x8x5x768_S2x8x5x768x1_0_1_2_3 (Host.reduce FloatOps.maximumf (select (broadcastInDim S2x8x5x768x768 ![3, 4] bcast_S768x768_S2x8x5x768x768_3_4 (cmpi .sle (broadcastInDim S768x768 ![0, 1] bcast_S1x768_S768x768_0_1 (broadcastInDim S1x768 ![1] bcast_S768_S1x768_1 (iotaInDim S768 32 0))) (broadcastInDim S768x768 ![0, 1] bcast_S768x1_S768x768_0_1 (broadcastInDim S768x1 ![0] bcast_S768_S768x1_0 (iotaInDim S768 32 0))))) (Host.divf (transpose S2x8x5x768x768 [0, 1, 4, 3, 2] (Host.dotGeneral dot_S2x768x8x128_S2x768x8x5x128_S2x8x768x768x5_3_4_1_13_02_02 none (shapeCast _ (mulf (V0 (Proc.devRef .tc main_v15)) (broadcastInDim S2x768x32x32 ![0, 1, 2, 3] bcast_S2x768x32x1_S2x768x32x32_0_1_2_3 (broadcastInDim S2x768x32x1 ![0, 1, 2] bcast_S2x768x32_S2x768x32x1_0_1_2 (V0 (Proc.devRef .tc main_arg4))))) shapeCasts_S2x768x32x32_S2x768x8x128) (shapeCast _ (mulf (V0 (Proc.devRef .tc main_v7)) (broadcastInDim S2x768x160x32 ![0, 1, 2, 3] bcast_S2x768x160x1_S2x768x160x32_0_1_2_3 (broadcastInDim S2x768x160x1 ![0, 1, 2] bcast_S2x768x160_S2x768x160x1_0_1_2 (V0 (Proc.devRef .tc main_arg3))))) shapeCasts_S2x768x160x32_S2x768x8x5x128)) transposes_S2x8x768x768x5_S2x8x5x768x768_0_1_4_3_2) (broadcastInDim S2x8x5x768x768 ![] bcast_S_S2x8x5x768x768 (Host.sqrt (constant S_ .f32 0x43000000#32)))) (broadcastInDim S2x8x5x768x768 ![] bcast_S_S2x8x5x768x768 (id (constant S_ .f32 0xFF800000#32)))) (constant S_ .f32 0xFF800000#32) reducesTo_S2x8x5x768x768_S2x8x5x768_d4 h_S_))))) (broadcastInDim S2x8x5x768x768 ![] bcast_S_S2x8x5x768x768 (constant S_ .f32 0x43800000#32))))) (V0 (Proc.devRef .tc main_v23))) (broadcastInDim S2x8x5x768x128 ![0, 1, 2, 3, 4] bcast_S2x8x5x768x1_S2x8x5x768x128_0_1_2_3_4 (Host.divf (broadcastInDim S2x8x5x768x1 ![0, 1, 2, 3, 4] bcast_S2x8x1x1x1_S2x8x5x768x1_0_1_2_3_4 (mulf (broadcastInDim S2x8x1x1x1 ![0, 1] bcast_S2x8_S2x8x1x1x1_0_1 (V0 (Proc.devRef .tc main_arg5))) (broadcastInDim S2x8x1x1x1 ![] bcast_S_S2x8x1x1x1 (constant S_ .f32 0x3B800000#32)))) (broadcastInDim S2x8x5x768x1 ![0, 1, 2, 3] bcast_S2x8x5x768_S2x8x5x768x1_0_1_2_3 (Host.reduceAdd (Host.exp (subf (select (broadcastInDim S2x8x5x768x768 ![3, 4] bcast_S768x768_S2x8x5x768x768_3_4 (cmpi .sle (broadcastInDim S768x768 ![0, 1] bcast_S1x768_S768x768_0_1 (broadcastInDim S1x768 ![1] bcast_S768_S1x768_1 (iotaInDim S768 32 0))) (broadcastInDim S768x768 ![0, 1] bcast_S768x1_S768x768_0_1 (broadcastInDim S768x1 ![0] bcast_S768_S768x1_0 (iotaInDim S768 32 0))))) (Host.divf (transpose S2x8x5x768x768 [0, 1, 4, 3, 2] (Host.dotGeneral dot_S2x768x8x128_S2x768x8x5x128_S2x8x768x768x5_3_4_1_13_02_02 none (shapeCast _ (mulf (V0 (Proc.devRef .tc main_v15)) (broadcastInDim S2x768x32x32 ![0, 1, 2, 3] bcast_S2x768x32x1_S2x768x32x32_0_1_2_3 (broadcastInDim S2x768x32x1 ![0, 1, 2] bcast_S2x768x32_S2x768x32x1_0_1_2 (V0 (Proc.devRef .tc main_arg4))))) shapeCasts_S2x768x32x32_S2x768x8x128) (shapeCast _ (mulf (V0 (Proc.devRef .tc main_v7)) (broadcastInDim S2x768x160x32 ![0, 1, 2, 3] bcast_S2x768x160x1_S2x768x160x32_0_1_2_3 (broadcastInDim S2x768x160x1 ![0, 1, 2] bcast_S2x768x160_S2x768x160x1_0_1_2 (V0 (Proc.devRef .tc main_arg3))))) shapeCasts_S2x768x160x32_S2x768x8x5x128)) transposes_S2x8x768x768x5_S2x8x5x768x768_0_1_4_3_2) (broadcastInDim S2x8x5x768x768 ![] bcast_S_S2x8x5x768x768 (Host.sqrt (constant S_ .f32 0x43000000#32)))) (broadcastInDim S2x8x5x768x768 ![] bcast_S_S2x8x5x768x768 (id (constant S_ .f32 0xFF800000#32)))) (broadcastInDim S2x8x5x768x768 ![0, 1, 2, 3, 4] bcast_S2x8x5x768x1_S2x8x5x768x768_0_1_2_3_4 (broadcastInDim S2x8x5x768x1 ![0, 1, 2, 3] bcast_S2x8x5x768_S2x8x5x768x1_0_1_2_3 (Host.reduce FloatOps.maximumf (select (broadcastInDim S2x8x5x768x768 ![3, 4] bcast_S768x768_S2x8x5x768x768_3_4 (cmpi .sle (broadcastInDim S768x768 ![0, 1] bcast_S1x768_S768x768_0_1 (broadcastInDim S1x768 ![1] bcast_S768_S1x768_1 (iotaInDim S768 32 0))) (broadcastInDim S768x768 ![0, 1] bcast_S768x1_S768x768_0_1 (broadcastInDim S768x1 ![0] bcast_S768_S768x1_0 (iotaInDim S768 32 0))))) (Host.divf (transpose S2x8x5x768x768 [0, 1, 4, 3, 2] (Host.dotGeneral dot_S2x768x8x128_S2x768x8x5x128_S2x8x768x768x5_3_4_1_13_02_02 none (shapeCast _ (mulf (V0 (Proc.devRef .tc main_v15)) (broadcastInDim S2x768x32x32 ![0, 1, 2, 3] bcast_S2x768x32x1_S2x768x32x32_0_1_2_3 (broadcastInDim S2x768x32x1 ![0, 1, 2] bcast_S2x768x32_S2x768x32x1_0_1_2 (V0 (Proc.devRef .tc main_arg4))))) shapeCasts_S2x768x32x32_S2x768x8x128) (shapeCast _ (mulf (V0 (Proc.devRef .tc main_v7)) (broadcastInDim S2x768x160x32 ![0, 1, 2, 3] bcast_S2x768x160x1_S2x768x160x32_0_1_2_3 (broadcastInDim S2x768x160x1 ![0, 1, 2] bcast_S2x768x160_S2x768x160x1_0_1_2 (V0 (Proc.devRef .tc main_arg3))))) shapeCasts_S2x768x160x32_S2x768x8x5x128)) transposes_S2x8x768x768x5_S2x8x5x768x768_0_1_4_3_2) (broadcastInDim S2x8x5x768x768 ![] bcast_S_S2x8x5x768x768 (Host.sqrt (constant S_ .f32 0x43000000#32)))) (broadcastInDim S2x8x5x768x768 ![] bcast_S_S2x8x5x768x768 (id (constant S_ .f32 0xFF800000#32)))) (constant S_ .f32 0xFF800000#32) reducesTo_S2x8x5x768x768_S2x8x5x768_d4 h_S_))))) (constant S_ .f32 0x00000000#32) reducesTo_S2x8x5x768x768_S2x8x5x768_d4 h_S_))))) bitsLt_bf16_f32) transposes_S2x8x5x768x128_S2x768x8x5x128_0_3_1_2_4) shapeCasts_S2x768x8x5x128_S2x768x5120
      = val_main_v68 (F := F) (V0 (Proc.devRef .tc main_arg3)) (V0 (Proc.devRef .tc main_arg4)) (V0 (Proc.devRef .tc main_arg5)) (V0 (Proc.devRef .tc main_v7)) (V0 (Proc.devRef .tc main_v15)) (V0 (Proc.devRef .tc main_v23)) := rfl

end Cert.ReferenceIdeal.Read

end
-- ==== Proof.Ref.lean ====
module
public import proofs.«01_k».proof.Proof.Arrays
public import proofs.«01_k».proof.Proof.RefRead

/-! The reference's result array read at an index: the textbook's row of scores, weights and outputs, which the row
    identity turns into the kernel's. -/

@[expose] public section

noncomputable section

namespace Cert.Ref

open Cert.ReferenceIdeal Cert.ReferenceIdeal.Gen Cert.ReferenceIdeal.Read Cert.Attn Cert.Array Cert.Consts
open Idealize.ShloMosaic Idealize.ShloMosaic.ValueIdx
open scoped BigOperators

variable (x0 : S2x768x5120.Idx → EReal) (x1 x2 : S2x768x1024.Idx → EReal)
  (x3 : S2x768x160.Idx → EReal) (x4 : S2x768x32.Idx → EReal) (x5 : S2x8.Idx → EReal)
  (e0 : S2x768x160x32.Idx → EReal) (e1 : S2x768x32x32.Idx → EReal) (e2 : S2x768x8x128.Idx → EReal)
  (he0 : ∀ (b : Fin 2) (r : Fin 768) (n : Fin 160) (t : Fin 32),
    e0 (ix4 b r n t) = C x0 (LQ x3) (ix3 b r (Fin.ofNat 5120 (32 * n.val + t.val))))
  (he1 : ∀ (b : Fin 2) (r : Fin 768) (n : Fin 32) (t : Fin 32),
    e1 (ix4 b r n t) = C x1 (LK x4) (ix3 b r (Fin.ofNat 1024 (32 * n.val + t.val))))
  (he2 : ∀ (b : Fin 2) (j : Fin 768) (g : Fin 8) (d : Fin 128),
    e2 (ix4 b j g d) = V (kb x2 b.val g.val) (sb x5 b.val g.val) d j.val)
variable (b : Fin 2) (g : Fin 8) (h : Fin 5) (r j : Fin 768)

/-- The value scale `1 / 256`. -/
theorem ofBits_inv256 : Ideal.ofBits .f32 0x3B800000#32 = ((1 / 256 : ℝ) : EReal) := by
  simp [Ideal.ofBits, Ideal.ieee, -EReal.coe_mul]; norm_num
/-- The multiplier of the weights. -/
theorem ofBits_256 : Ideal.ofBits .f32 0x43800000#32 = ((256 : ℝ) : EReal) := by
  simp [Ideal.ofBits, Ideal.ieee, -EReal.coe_mul]; norm_num
/-- One. -/
theorem ofBits_1 : Ideal.ofBits .f32 0x3F800000#32 = 1 := by
  simp [Ideal.ofBits, Ideal.ieee, -EReal.coe_mul]; norm_num
/-- Zero. -/
theorem ofBits_0 : Ideal.ofBits .f32 0x00000000#32 = 0 := by
  simp [Ideal.ofBits, Ideal.ieee, -EReal.coe_mul]

/-- The root of the head dimension. -/
theorem root : Ideal.hostUnary .sqrt (Ideal.ofBits .f32 0x43000000#32) = ((Real.sqrt 128 : ℝ) : EReal) := by
  rw [ofBits_128]; exact (Ideal.sqrt_coe 128).trans (if_neg (by norm_num))

include he1 in
/-- A key word. -/
theorem kword (k : Fin 128) : val_main_v35 (F := Ideal) x4 e1 (ix4 b j g k)
    = kb (D x1 (LK x4)) b.val g.val (ix3 0 (Fin.ofNat 768 j.val) k) := by
  have hb := b.isLt; have hg := g.isLt; have hj := j.isLt; have hk := k.isLt
  have e : idx_main_v35 (ix4 b j g k)
      = ix4 b j (⟨(128 * g.val + k.val) / 32, by omega⟩ : Fin 32) (⟨(128 * g.val + k.val) % 32, by omega⟩ : Fin 32) :=
    funext fun a => Fin.ext (by
      match a with
      | ⟨0, _⟩ => show (((b.val * 768 + j.val) * 8 + g.val) * 128 + k.val) / 786432 = b.val; omega
      | ⟨1, _⟩ => show (((b.val * 768 + j.val) * 8 + g.val) * 128 + k.val) / 1024 % 768 = j.val; omega
      | ⟨2, _⟩ => show (((b.val * 768 + j.val) * 8 + g.val) * 128 + k.val) / 32 % 32 = (128 * g.val + k.val) / 32; omega
      | ⟨3, _⟩ => show (((b.val * 768 + j.val) * 8 + g.val) * 128 + k.val) % 32 = (128 * g.val + k.val) % 32; omega)
  rw [val_main_v35_apply, val_main_v34_apply, val_main_v33_apply, val_main_v32_apply, e, he1]
  have f : ix3 b j (Fin.ofNat 1024 (32 * ((128 * g.val + k.val) / 32) + (128 * g.val + k.val) % 32))
      = ix3 (Fin.ofNat 2 b.val) (Fin.ofNat 768 j.val) (Fin.ofNat 1024 (128 * g.val + k.val)) := funext fun a => Fin.ext (by
    match a with
    | ⟨0, _⟩ => show b.val = b.val % 2; omega
    | ⟨1, _⟩ => show j.val = j.val % 768; omega
    | ⟨2, _⟩ => show (32 * ((128 * g.val + k.val) / 32) + (128 * g.val + k.val) % 32) % 1024 = (128 * g.val + k.val) % 1024; omega)
  show C x1 (LK x4) (ix3 b j (Fin.ofNat 1024 (32 * ((128 * g.val + k.val) / 32) + (128 * g.val + k.val) % 32))) * x4 _
    = C x1 (LK x4) (ix3 (Fin.ofNat 2 b.val) (Fin.ofNat 768 j.val) (Fin.ofNat 1024 (128 * g.val + k.val)))
      * LK x4 (ix3 (Fin.ofNat 2 b.val) (Fin.ofNat 768 j.val) (Fin.ofNat 1024 (128 * g.val + k.val)))
  rw [f]
  refine congrArg (_ * ·) (congrArg x4 (funext fun a => Fin.ext ?_))
  match a with
  | ⟨0, _⟩ => show b.val = b.val % 2; omega
  | ⟨1, _⟩ => show j.val = j.val % 768; omega
  | ⟨2, _⟩ => show (128 * g.val + k.val) / 32 = (128 * g.val + k.val) % 1024 / 32 % 32; omega

include he0 in
/-- A query word. -/
theorem qword (k : Fin 128) : val_main_v31 (F := Ideal) x3 e0 (ix5 b r g h k)
    = xb (D x0 (LQ x3)) b.val g.val (ix3 0 (Fin.ofNat 768 r.val) (Fin.ofNat 640 (128 * h.val + k.val))) := by
  have hb := b.isLt; have hg := g.isLt; have hh := h.isLt; have hr := r.isLt; have hk := k.isLt
  have e : idx_main_v31 (ix5 b r g h k)
      = ix4 b r (⟨(640 * g.val + 128 * h.val + k.val) / 32, by omega⟩ : Fin 160)
          (⟨(640 * g.val + 128 * h.val + k.val) % 32, by omega⟩ : Fin 32) :=
    funext fun a => Fin.ext (by
      match a with
      | ⟨0, _⟩ => show ((((b.val * 768 + r.val) * 8 + g.val) * 5 + h.val) * 128 + k.val) / 3932160 = b.val; omega
      | ⟨1, _⟩ => show ((((b.val * 768 + r.val) * 8 + g.val) * 5 + h.val) * 128 + k.val) / 5120 % 768 = r.val; omega
      | ⟨2, _⟩ =>
        show ((((b.val * 768 + r.val) * 8 + g.val) * 5 + h.val) * 128 + k.val) / 32 % 160 = (640 * g.val + 128 * h.val + k.val) / 32
        omega
      | ⟨3, _⟩ =>
        show ((((b.val * 768 + r.val) * 8 + g.val) * 5 + h.val) * 128 + k.val) % 32 = (640 * g.val + 128 * h.val + k.val) % 32
        omega)
  rw [val_main_v31_apply, val_main_v30_apply, val_main_v29_apply, val_main_v28_apply, e, he0]
  have f : ix3 b r (Fin.ofNat 5120 (32 * ((640 * g.val + 128 * h.val + k.val) / 32) + (640 * g.val + 128 * h.val + k.val) % 32))
      = ix3 (Fin.ofNat 2 b.val) (Fin.ofNat 768 r.val) (Fin.ofNat 5120 (640 * g.val + (128 * h.val + k.val) % 640)) :=
    funext fun a => Fin.ext (by
      match a with
      | ⟨0, _⟩ => show b.val = b.val % 2; omega
      | ⟨1, _⟩ => show r.val = r.val % 768; omega
      | ⟨2, _⟩ =>
        show (32 * ((640 * g.val + 128 * h.val + k.val) / 32) + (640 * g.val + 128 * h.val + k.val) % 32) % 5120
          = (640 * g.val + (128 * h.val + k.val) % 640) % 5120
        omega)
  show C x0 (LQ x3) (ix3 b r (Fin.ofNat 5120
      (32 * ((640 * g.val + 128 * h.val + k.val) / 32) + (640 * g.val + 128 * h.val + k.val) % 32))) * x3 _
    = C x0 (LQ x3) (ix3 (Fin.ofNat 2 b.val) (Fin.ofNat 768 r.val) (Fin.ofNat 5120 (640 * g.val + (128 * h.val + k.val) % 640)))
      * LQ x3 (ix3 (Fin.ofNat 2 b.val) (Fin.ofNat 768 r.val) (Fin.ofNat 5120 (640 * g.val + (128 * h.val + k.val) % 640)))
  rw [f]
  refine congrArg (_ * ·) (congrArg x3 (funext fun a => Fin.ext ?_))
  match a with
  | ⟨0, _⟩ => show b.val = b.val % 2; omega
  | ⟨1, _⟩ => show r.val = r.val % 768; omega
  | ⟨2, _⟩ =>
    show (640 * g.val + 128 * h.val + k.val) / 32 = (640 * g.val + (128 * h.val + k.val) % 640) % 5120 / 32 % 160
    omega

include he0 he1 in
/-- A raw score. -/
theorem score : val_main_v37 (F := Ideal) x3 x4 e0 e1 (ix5 b g h r j)
    = A (xb (D x0 (LQ x3)) b.val g.val) (kb (D x1 (LK x4)) b.val g.val) h.val r.val j.val := by
  rw [val_main_v37_apply, val_main_v36_apply]
  unfold A
  refine Finset.sum_congr rfl fun k _ => ?_
  have el : lidx_main_v36 (idx_main_v37 (ix5 b g h r j)) k = ix4 b j g k := funext fun a => Fin.ext (by
    match a with | ⟨0, _⟩ => rfl | ⟨1, _⟩ => rfl | ⟨2, _⟩ => rfl | ⟨3, _⟩ => rfl)
  have er : ridx_main_v36 (idx_main_v37 (ix5 b g h r j)) k = ix5 b r g h k := funext fun a => Fin.ext (by
    match a with | ⟨0, _⟩ => rfl | ⟨1, _⟩ => rfl | ⟨2, _⟩ => rfl | ⟨3, _⟩ => rfl | ⟨4, _⟩ => rfl)
  rw [el, er, kword x1 x4 e1 he1, qword x0 x3 e0 he0]

/-- Comparing two small numbers as 32 bit words. -/
theorem mask (p q : ℕ) (hp : p < 768) (hq : q < 768) :
    IntOp.cmpi .sle (BitVec.ofNat 32 p) (BitVec.ofNat 32 q) = if p ≤ q then 1#1 else 0#1 := by
  have e : BitVec.sle (BitVec.ofNat 32 p) (BitVec.ofNat 32 q) = decide (p ≤ q) := by
    rw [BitVec.sle_eq_decide]
    have t : ∀ k, k < 768 → (BitVec.ofNat 32 k).toInt = (k : ℤ) := by
      intro k hk
      have e : (BitVec.ofNat 32 k).toNat = k := by
        rw [BitVec.toNat_ofNat]; exact Nat.mod_eq_of_lt (by omega)
      rw [BitVec.toInt_eq_toNat_of_lt (by omega), e]
    rw [t p hp, t q hq]
    simp
  show BitVec.ofBool (BitVec.sle (BitVec.ofNat 32 p) (BitVec.ofNat 32 q)) = _
  rw [e]
  by_cases hpq : p ≤ q
  · rw [if_pos hpq, decide_eq_true hpq]; rfl
  · rw [if_neg hpq, decide_eq_false hpq]; rfl

include he0 he1 in
/-- A masked and scaled score. -/
theorem masked : val_main_v47 (F := Ideal) x3 x4 e0 e1 (ix5 b g h r j)
    = Row.sc (S (xb (D x0 (LQ x3)) b.val g.val) (kb (D x1 (LK x4)) b.val g.val) h.val r.val j.val) := by
  rw [val_main_v47_apply, val_main_call3_v1_apply, val_main_v43_apply, val_main_v41_apply, val_main_v42_apply,
    val_main_v39_apply, val_main_v40_apply, val_main_v38_apply, val_main_v38_apply]
  have e : (IntOp.cmpi .sle (BitVec.ofNat 32 j.val) (BitVec.ofNat 32 r.val)) = if j.val ≤ r.val then 1#1 else 0#1 :=
    mask _ _ j.isLt r.isLt
  show Scalar.select (IntOp.cmpi .sle (BitVec.ofNat 32 j.val) (BitVec.ofNat 32 r.val)) _ _ = _
  rw [e]
  unfold S
  by_cases hjr : j.val ≤ r.val
  · rw [if_pos hjr, if_pos hjr, val_main_v46_apply, score x0 x1 x3 x4 e0 e1 he0 he1, val_main_v45_apply, val_main_v44_apply, val_main_cst_8_apply]
    show Ideal.div _ (Ideal.hostUnary .sqrt (Ideal.ofBits .f32 0x43000000#32)) = _
    rw [root]; rfl
  · rw [if_neg hjr, if_neg hjr, val_main_call3_v2_apply, val_main_call3_v0_apply, val_main_cst_9_apply, Row.sc_bot]
    show Ideal.ofBits .f32 0xFF800000#32 = _
    exact ofBits_ninf

include he0 he1 in
/-- The maximum of a row. -/
theorem rowmax : val_main_v48 (F := Ideal) x3 x4 e0 e1 (ix4 b g h r)
    = Finset.univ.sup fun j : Fin 768 => Row.sc (S (xb (D x0 (LQ x3)) b.val g.val) (kb (D x1 (LK x4)) b.val g.val) h.val r.val j.val) := by
  unfold val_main_v48
  rw [Host.reduce_eq_fold_single FloatOps.maximumf _ _ _ (by decide : S2x8x5x768x768.Reduces [4] S2x8x5x768)]
  rw [val_main_cst_10_apply]
  show Finset.univ.fold max (Ideal.ofBits .f32 0xFF800000#32) _ = _
  rw [ofBits_ninf, Tile.fold_max_bot]
  refine Finset.sup_congr rfl fun k _ => ?_
  refine Eq.trans ?_ (masked x0 x1 x3 x4 e0 e1 he0 he1 b g h r k)
  exact congrArg (val_main_v47 (F := Ideal) x3 x4 e0 e1) (funext fun a => Fin.ext (by
    match a with | ⟨0, _⟩ => rfl | ⟨1, _⟩ => rfl | ⟨2, _⟩ => rfl | ⟨3, _⟩ => rfl | ⟨4, _⟩ => rfl))

include he0 he1 in
/-- The textbook's weight. -/
theorem weight : val_main_v52 (F := Ideal) x3 x4 e0 e1 (ix5 b g h r j)
    = Ideal.exp (Row.sc (S (xb (D x0 (LQ x3)) b.val g.val) (kb (D x1 (LK x4)) b.val g.val) h.val r.val j.val)
      - Finset.univ.sup fun j : Fin 768 => Row.sc (S (xb (D x0 (LQ x3)) b.val g.val) (kb (D x1 (LK x4)) b.val g.val) h.val r.val j.val)) := by
  rw [val_main_v52_apply, val_main_v51_apply, masked x0 x1 x3 x4 e0 e1 he0 he1, val_main_v50_apply, val_main_v49_apply]
  have e : idx_main_v49 (idx_main_v50 (ix5 b g h r j)) = ix4 b g h r := funext fun a => Fin.ext (by
    match a with | ⟨0, _⟩ => rfl | ⟨1, _⟩ => rfl | ⟨2, _⟩ => rfl | ⟨3, _⟩ => rfl)
  rw [e, rowmax x0 x1 x3 x4 e0 e1 he0 he1]
  rfl

include he0 he1 in
/-- The sum of a row's weights. -/
theorem rowsum : val_main_v53 (F := Ideal) x3 x4 e0 e1 (ix4 b g h r)
    = ∑ j : Fin 768, Ideal.exp (Row.sc (S (xb (D x0 (LQ x3)) b.val g.val) (kb (D x1 (LK x4)) b.val g.val) h.val r.val j.val)
      - Finset.univ.sup fun j : Fin 768 => Row.sc (S (xb (D x0 (LQ x3)) b.val g.val) (kb (D x1 (LK x4)) b.val g.val) h.val r.val j.val)) := by
  rw [val_main_v53_apply, val_main_cst_11_apply]
  show Ideal.ofBits .f32 0x00000000#32 + _ = _
  rw [ofBits_0, zero_add]
  refine Finset.sum_congr rfl fun k _ => ?_
  refine Eq.trans ?_ (weight x0 x1 x3 x4 e0 e1 he0 he1 b g h r k)
  exact congrArg (val_main_v52 (F := Ideal) x3 x4 e0 e1) (funext fun a => Fin.ext (by
    match a with | ⟨0, _⟩ => rfl | ⟨1, _⟩ => rfl | ⟨2, _⟩ => rfl | ⟨3, _⟩ => rfl | ⟨4, _⟩ => rfl))

include he0 he1 in
/-- The quantised weight. -/
theorem wcode : val_main_v56 (F := Ideal) x3 x4 e0 e1 (ix5 b g h r j)
    = Tile.clip (Ideal.exp (Row.sc (S (xb (D x0 (LQ x3)) b.val g.val) (kb (D x1 (LK x4)) b.val g.val) h.val r.val j.val)
      - Finset.univ.sup fun j : Fin 768 => Row.sc (S (xb (D x0 (LQ x3)) b.val g.val) (kb (D x1 (LK x4)) b.val g.val) h.val r.val j.val))
        * ((256 : ℝ) : EReal)) := by
  rw [val_main_v56_apply, val_main_call4_v4_apply, val_main_call4_v3_apply, val_main_cst_14_apply, val_main_call4_v2_apply,
    val_main_call4_v1_apply, val_main_call4_v0_apply, val_main_cst_13_apply, val_main_v55_apply, weight x0 x1 x3 x4 e0 e1 he0 he1, val_main_v54_apply,
    val_main_cst_12_apply]
  show min (Ideal.ofBits .f32 0x43E00000#32) (max (Ideal.ofBits .f32 0xC3E00000#32) (_ * Ideal.ofBits .f32 0x43800000#32)) = _
  rw [ofBits_448, ofBits_neg448, ofBits_256]
  rfl

include he0 he1 he2 in
/-- One output. -/
theorem output (d : Fin 128) : val_main_v65 (F := Ideal) x3 x4 x5 e0 e1 e2 (ix5 b g h r d)
    = O (xb (D x0 (LQ x3)) b.val g.val) (kb (D x1 (LK x4)) b.val g.val) (kb x2 b.val g.val) (sb x5 b.val g.val) h.val r.val d := by
  rw [val_main_v65_apply, val_main_v57_apply, val_main_v64_apply, val_main_v63_apply, val_main_v62_apply, val_main_v61_apply,
    val_main_v60_apply, val_main_v59_apply, val_main_v58_apply, val_main_cst_15_apply]
  have f1 : idx_main_v61 (idx_main_v64 (ix5 b g h r d)) = ix4 b g h r := funext fun a => Fin.ext (by
    match a with | ⟨0, _⟩ => rfl | ⟨1, _⟩ => rfl | ⟨2, _⟩ => rfl | ⟨3, _⟩ => rfl)
  have f2 : idx_main_v58 (idx_main_v62 (idx_main_v64 (ix5 b g h r d))) = ix2 (Fin.ofNat 2 b.val) (Fin.ofNat 8 g.val) :=
    funext fun a => Fin.ext (by
      have hb := b.isLt; have hg := g.isLt
      match a with
      | ⟨0, _⟩ => show b.val = b.val % 2; omega
      | ⟨1, _⟩ => show g.val = g.val % 8; omega)
  rw [f1, f2, rowsum x0 x1 x3 x4 e0 e1 he0 he1]
  unfold O W L Attn.M
  refine Eq.trans ?_ (Row.row_eq (fun j : Fin 768 => S (xb (D x0 (LQ x3)) b.val g.val) (kb (D x1 (LK x4)) b.val g.val) h.val r.val j.val)
    (fun j : Fin 768 => V (kb x2 b.val g.val) (sb x5 b.val g.val) d j.val) _).symm
  show (∑ k : Fin 768, _) * Ideal.div (x5 (ix2 (Fin.ofNat 2 b.val) (Fin.ofNat 8 g.val)) * Ideal.ofBits .f32 0x3B800000#32) _ = _
  rw [ofBits_inv256]
  refine congrArg₂ (· * ·) (Finset.sum_congr rfl fun k _ => ?_) rfl
  have el : lidx_main_v57 (ix5 b g h r d) k = ix5 b g h r k := funext fun a => Fin.ext (by
    match a with | ⟨0, _⟩ => rfl | ⟨1, _⟩ => rfl | ⟨2, _⟩ => rfl | ⟨3, _⟩ => rfl | ⟨4, _⟩ => rfl)
  have er : ridx_main_v57 (ix5 b g h r d) k = ix4 b k g d := funext fun a => Fin.ext (by
    match a with | ⟨0, _⟩ => rfl | ⟨1, _⟩ => rfl | ⟨2, _⟩ => rfl | ⟨3, _⟩ => rfl)
  rw [el, er, wcode x0 x1 x3 x4 e0 e1 he0 he1, he2]

include he0 he1 he2 in
/-- The reference's result array is the kernel's. -/
theorem result : val_main_v68 (F := Ideal) x3 x4 x5 e0 e1 e2 = F (D x0 (LQ x3)) (D x1 (LK x4)) x2 x5 := by
  funext i
  have h0 : (i 0).val < 2 := (i 0).isLt
  have h1 : (i 1).val < 768 := (i 1).isLt
  have h2 : (i 2).val < 5120 := (i 2).isLt
  rw [val_main_v68_apply, val_main_v67_apply, val_main_v66_apply]
  have e : idx_main_v67 (idx_main_v68 i)
      = ix5 (⟨(i 0).val, h0⟩ : Fin 2) (⟨(i 2).val / 640, by omega⟩ : Fin 8) (⟨(i 2).val % 640 / 128, by omega⟩ : Fin 5)
        (⟨(i 1).val, h1⟩ : Fin 768) (Fin.ofNat 128 (i 2).val) := funext fun a => Fin.ext (by
    match a with
    | ⟨0, _⟩ => show (((i 0).val * 768 + (i 1).val) * 5120 + (i 2).val) / 3932160 = (i 0).val; omega
    | ⟨1, _⟩ => show (((i 0).val * 768 + (i 1).val) * 5120 + (i 2).val) / 640 % 8 = (i 2).val / 640; omega
    | ⟨2, _⟩ => show (((i 0).val * 768 + (i 1).val) * 5120 + (i 2).val) / 128 % 5 = (i 2).val % 640 / 128; omega
    | ⟨3, _⟩ => show (((i 0).val * 768 + (i 1).val) * 5120 + (i 2).val) / 5120 % 768 = (i 1).val; omega
    | ⟨4, _⟩ => show (((i 0).val * 768 + (i 1).val) * 5120 + (i 2).val) % 128 = (i 2).val % 128; omega)
  rw [e, output x0 x1 x2 x3 x4 x5 e0 e1 e2 he0 he1 he2]
  rfl

end Cert.Ref

end
-- ==== Proof.RefCodes.lean ====
module
public import proofs.«01_k».proof.Proof.Arrays
public import proofs.«01_k».proof.Proof.RefRead

/-! The reference's codes of the three inputs, and the arrays of its call that casts them. -/

@[expose] public section

noncomputable section

namespace Cert.Ref

open Cert.ReferenceIdeal Cert.ReferenceIdeal.Gen Cert.Attn Cert.Array Cert.Consts
open Idealize.ShloMosaic Idealize.ShloMosaic.TcCoe Idealize.SL.Sem Idealize.ShloMosaic.ValueIdx

/-- The codes of an array whose rows are cut into `N` blocks of 32 columns, one scale per block. -/
theorem blockCode {N M : ℕ} (hM : M = 32 * N) (X : FVec Ideal ⟨3, ![2, 768, M]⟩ .bf16) (Q : FVec Ideal ⟨3, ![2, 768, N]⟩ .f32)
    (h0 : (⟨0, ![]⟩ : Shape).BroadcastsInDim ⟨4, ![2, 768, N, 32]⟩ ![]) (hb : FTy.bits .bf16 < FTy.bits .f32)
    (h1 : (⟨3, ![2, 768, M]⟩ : Shape).ShapeCasts ⟨4, ![2, 768, N, 32]⟩)
    (h2 : (⟨4, ![2, 768, N, 1]⟩ : Shape).BroadcastsInDim ⟨4, ![2, 768, N, 32]⟩ ![0, 1, 2, 3])
    (h3 : (⟨3, ![2, 768, N]⟩ : Shape).BroadcastsInDim ⟨4, ![2, 768, N, 1]⟩ ![0, 1, 2])
    (h4 : (⟨0, ![]⟩ : Shape).BroadcastsInDim ⟨3, ![2, 768, N]⟩ ![]) (b : Fin 2) (r : Fin 768) (n : Fin N) (t : Fin 32) :
    minimumf (F := Ideal) (φ := .f32) (broadcastInDim ⟨4, ![2, 768, N, 32]⟩ ![] h0 (id (constant ⟨0, ![]⟩ .f32 0x43E00000#32)))
      (maximumf (broadcastInDim ⟨4, ![2, 768, N, 32]⟩ ![] h0 (id (constant ⟨0, ![]⟩ .f32 0xC3E00000#32)))
        (mulf (shapeCast ⟨4, ![2, 768, N, 32]⟩ (extf .f32 X hb) h1)
          (broadcastInDim ⟨4, ![2, 768, N, 32]⟩ ![0, 1, 2, 3] h2 (broadcastInDim ⟨4, ![2, 768, N, 1]⟩ ![0, 1, 2] h3
            (Host.divf (broadcastInDim ⟨3, ![2, 768, N]⟩ ![] h4 (constant ⟨0, ![]⟩ .f32 0x3F800000#32)) Q)))))
      (ix4 b r n t)
    = Tile.clip (X (ix3 b r (⟨32 * n.val + t.val, by omega⟩ : Fin M)) * Ideal.div 1 (Q (ix3 b r n))) := by
  have e1 : shapeCast ⟨4, ![2, 768, N, 32]⟩ (extf .f32 X hb) h1 (ix4 b r n t)
      = X (ix3 b r (⟨32 * n.val + t.val, by omega⟩ : Fin M)) := by
    refine (shapeCast_apply _ _ _ (ix3 b r (⟨32 * n.val + t.val, by omega⟩ : Fin M)) ?_).trans rfl
    rw [Shape.rowMajor_val_four, Shape.rowMajor_val_three]
    show (b.val * 768 + r.val) * M + (32 * n.val + t.val) = ((b.val * 768 + r.val) * N + n.val) * 32 + t.val
    rw [hM]; ring
  have e2 : broadcastInDim ⟨4, ![2, 768, N, 32]⟩ ![0, 1, 2, 3] h2 (broadcastInDim ⟨4, ![2, 768, N, 1]⟩ ![0, 1, 2] h3
      (Host.divf (broadcastInDim ⟨3, ![2, 768, N]⟩ ![] h4 (constant ⟨0, ![]⟩ .f32 0x3F800000#32)) Q)) (ix4 b r n t)
      = Ideal.div 1 (Q (ix3 b r n)) := by
    refine (broadcastInDim_apply _ _ _ _ (ix4 b r n 0) fun x => ?_).trans ?_
    · match x with
      | ⟨0, _⟩ => rfl
      | ⟨1, _⟩ => rfl
      | ⟨2, _⟩ => show (n.val) = if N = 1 then 0 else n.val; have := n.isLt; split <;> omega
      | ⟨3, _⟩ => rfl
    refine (broadcastInDim_apply _ _ _ _ (ix3 b r n) fun x => ?_).trans ?_
    · match x with
      | ⟨0, _⟩ => rfl
      | ⟨1, _⟩ => rfl
      | ⟨2, _⟩ => show (n.val) = if N = 1 then 0 else n.val; have := n.isLt; split <;> omega
    show Ideal.div (Ideal.ofBits .f32 0x3F800000#32) (Q (ix3 b r n)) = _
    rw [ofBits_1]
  show min (Ideal.ofBits .f32 0x43E00000#32) (max (Ideal.ofBits .f32 0xC3E00000#32)
    (shapeCast ⟨4, ![2, 768, N, 32]⟩ (extf .f32 X hb) h1 (ix4 b r n t)
      * broadcastInDim ⟨4, ![2, 768, N, 32]⟩ ![0, 1, 2, 3] h2 (broadcastInDim ⟨4, ![2, 768, N, 1]⟩ ![0, 1, 2] h3
      (Host.divf (broadcastInDim ⟨3, ![2, 768, N]⟩ ![] h4 (constant ⟨0, ![]⟩ .f32 0x3F800000#32)) Q)) (ix4 b r n t))) = _
  rw [e1, e2, ofBits_448, ofBits_neg448]
  rfl

variable (m : (ℓ : Loc nD τ sig) → Buf (Elt Ideal) ℓ)

/-- The reference's query codes. -/
def E0 (c : Dev nD) : S2x768x160x32.Idx → EReal := Value.exitV m c (Proc.devRef .tc main_v7)
/-- The reference's key codes. -/
def E1 (c : Dev nD) : S2x768x32x32.Idx → EReal := Value.exitV m c (Proc.devRef .tc main_v15)
/-- The reference's value codes. -/
def E2 (c : Dev nD) : S2x768x8x128.Idx → EReal := Value.exitV m c (Proc.devRef .tc main_v23)

/-- A query code. -/
theorem E0_apply (c : Dev nD) (b : Fin 2) (r : Fin 768) (n : Fin 160) (t : Fin 32) :
    E0 m c (ix4 b r n t) = C (m ((c : Thread nD τ).loc main_arg0)) (LQ (m ((c : Thread nD τ).loc main_arg3)))
      (ix3 b r (Fin.ofNat 5120 (32 * n.val + t.val))) := by
  have hn := n.isLt; have ht := t.isLt
  unfold E0
  rw [Value.exit_main_v7]
  refine (blockCode (N := 160) (M := 5120) rfl _ _ _ _ _ _ _ _ b r n t).trans ?_
  have f : (⟨32 * n.val + t.val, by omega⟩ : Fin 5120) = Fin.ofNat 5120 (32 * n.val + t.val) := Fin.ext (by
    show 32 * n.val + t.val = (32 * n.val + t.val) % 5120; omega)
  have g : n = Fin.ofNat 160 ((32 * n.val + t.val) % 5120 / 32) := Fin.ext (by
    show n.val = (32 * n.val + t.val) % 5120 / 32 % 160; omega)
  rw [f]
  exact congrArg (fun z => Tile.clip (_ * Ideal.div 1 (m ((c : Thread nD τ).loc main_arg3) (ix3 b r z)))) g

/-- A key code. -/
theorem E1_apply (c : Dev nD) (b : Fin 2) (r : Fin 768) (n : Fin 32) (t : Fin 32) :
    E1 m c (ix4 b r n t) = C (m ((c : Thread nD τ).loc main_arg1)) (LK (m ((c : Thread nD τ).loc main_arg4)))
      (ix3 b r (Fin.ofNat 1024 (32 * n.val + t.val))) := by
  have hn := n.isLt; have ht := t.isLt
  unfold E1
  rw [Value.exit_main_v15]
  refine (blockCode (N := 32) (M := 1024) rfl _ _ _ _ _ _ _ _ b r n t).trans ?_
  have f : (⟨32 * n.val + t.val, by omega⟩ : Fin 1024) = Fin.ofNat 1024 (32 * n.val + t.val) := Fin.ext (by
    show 32 * n.val + t.val = (32 * n.val + t.val) % 1024; omega)
  have g : n = Fin.ofNat 32 ((32 * n.val + t.val) % 1024 / 32) := Fin.ext (by
    show n.val = (32 * n.val + t.val) % 1024 / 32 % 32; omega)
  rw [f]
  exact congrArg (fun z => Tile.clip (_ * Ideal.div 1 (m ((c : Thread nD τ).loc main_arg4) (ix3 b r z)))) g

/-- A value code. -/
theorem E2_apply (c : Dev nD) (b : Fin 2) (j : Fin 768) (g : Fin 8) (d : Fin 128) :
    E2 m c (ix4 b j g d) = C (m ((c : Thread nD τ).loc main_arg2)) (LV (m ((c : Thread nD τ).loc main_arg5)))
      (ix3 b j (Fin.ofNat 1024 (128 * g.val + d.val))) := by
  have hg := g.isLt; have hd := d.isLt
  unfold E2
  rw [Value.exit_main_v23]
  have e1 : (shapeCast S2x768x8x128 (extf (F := Ideal) .f32 (m ((c : Thread nD τ).loc main_arg2)) bitsLt_bf16_f32 : FVec Ideal S2x768x1024 .f32) shapeCasts_S2x768x1024_S2x768x8x128
      (ix4 b j g d) : EReal) = m ((c : Thread nD τ).loc main_arg2) (ix3 b j (Fin.ofNat 1024 (128 * g.val + d.val))) := by
    refine (shapeCast_apply _ _ _ (ix3 b j (Fin.ofNat 1024 (128 * g.val + d.val))) ?_).trans rfl
    rw [Shape.rowMajor_val_four, Shape.rowMajor_val_three]
    show (b.val * 768 + j.val) * 1024 + (128 * g.val + d.val) % 1024 = ((b.val * 768 + j.val) * 8 + g.val) * 128 + d.val
    omega
  have e2 : broadcastInDim S2x768x8x128 ![0, 1, 2, 3] bcast_S2x1x8x1_S2x768x8x128_0_1_2_3 (broadcastInDim S2x1x8x1 ![0, 2]
      bcast_S2x8_S2x1x8x1_0_2 (Host.divf (F := Ideal) (φ := .f32) (broadcastInDim S2x8 ![] bcast_S_S2x8 (constant S_ .f32 0x3F800000#32))
        (m ((c : Thread nD τ).loc main_arg5)))) (ix4 b j g d)
      = Ideal.div 1 (LV (m ((c : Thread nD τ).loc main_arg5)) (ix3 b j (Fin.ofNat 1024 (128 * g.val + d.val)))) := by
    refine (broadcastInDim_apply _ _ _ _ (ix4 b 0 g 0) fun x => ?_).trans ?_
    · match x with | ⟨0, _⟩ => rfl | ⟨1, _⟩ => rfl | ⟨2, _⟩ => rfl | ⟨3, _⟩ => rfl
    refine (broadcastInDim_apply _ _ _ _ (ix2 b g) fun x => ?_).trans ?_
    · match x with | ⟨0, _⟩ => rfl | ⟨1, _⟩ => rfl
    show Ideal.div (Ideal.ofBits .f32 0x3F800000#32) (m ((c : Thread nD τ).loc main_arg5) (ix2 b g)) = _
    rw [ofBits_1]
    refine congrArg (fun z => Ideal.div 1 (m ((c : Thread nD τ).loc main_arg5) (ix2 b z))) (Fin.ext ?_)
    show g.val = (128 * g.val + d.val) % 1024 / 128 % 8
    omega
  show min (Ideal.ofBits .f32 0x43E00000#32) (max (Ideal.ofBits .f32 0xC3E00000#32) (_ * _)) = _
  rw [e1, e2, ofBits_448, ofBits_neg448]
  rfl

/-- … as the group's value code. -/
theorem E2_code (c : Dev nD) (b : Fin 2) (j : Fin 768) (g : Fin 8) (d : Fin 128) :
    E2 m c (ix4 b j g d) = V (kb (m ((c : Thread nD τ).loc main_arg2)) b.val g.val) (sb (m ((c : Thread nD τ).loc main_arg5)) b.val g.val)
      d j.val := by
  have hb := b.isLt; have hj := j.isLt; have hg := g.isLt; have hd := d.isLt
  rw [E2_apply]
  have f : ix3 b j (Fin.ofNat 1024 (128 * g.val + d.val)) = ix3 (Fin.ofNat 2 b.val) (Fin.ofNat 768 j.val) (Fin.ofNat 1024 (128 * g.val + d.val)) :=
    funext fun a => Fin.ext (by
      match a with
      | ⟨0, _⟩ => show b.val = b.val % 2; omega
      | ⟨1, _⟩ => show j.val = j.val % 768; omega
      | ⟨2, _⟩ => rfl)
  rw [f]
  refine congrArg (fun z => Tile.clip (_ * Ideal.div 1 (m ((c : Thread nD τ).loc main_arg5) z))) (funext fun a => Fin.ext ?_)
  match a with
  | ⟨0, _⟩ => rfl
  | ⟨1, _⟩ => show (128 * g.val + d.val) % 1024 / 128 % 8 = g.val % 8; omega

/-- The three inputs of the call, as the region finds them: the codes, reshaped. -/
theorem V_main_v24 (c : Dev nD) : Gen.V m c main_v24 = shapeCast S2x768x5120 (E0 m c) shapeCasts_S2x768x160x32_S2x768x5120 := by
  unfold E0
  rw [Value.exit_main_v7]
  show Gen.V0 m c (Proc.devRef .tc main_v24) = _
  simp only [Gen.V0, Gen.hostOps0, Gen.hostOps0_1, Gen.hostOps0_2, Gen.hostOps0_3, Gen.hostOps0_4, Gen.hostOps0_5, Gen.hostOps0_6, StableHlo.TRef.binary, StableHlo.TRef.unary, StableHlo.TRef.toBuf, StableHlo.TRef.ofBuf, cast_eq, List.flatten_cons, List.flatten_nil, List.append_nil, List.cons_append, List.nil_append]
  after_results_simp <;> rfl

theorem V_main_v25 (c : Dev nD) : Gen.V m c main_v25 = shapeCast S2x768x1024 (E1 m c) shapeCasts_S2x768x32x32_S2x768x1024 := by
  unfold E1
  rw [Value.exit_main_v15]
  show Gen.V0 m c (Proc.devRef .tc main_v25) = _
  simp only [Gen.V0, Gen.hostOps0, Gen.hostOps0_1, Gen.hostOps0_2, Gen.hostOps0_3, Gen.hostOps0_4, Gen.hostOps0_5, Gen.hostOps0_6, StableHlo.TRef.binary, StableHlo.TRef.unary, StableHlo.TRef.toBuf, StableHlo.TRef.ofBuf, cast_eq, List.flatten_cons, List.flatten_nil, List.append_nil, List.cons_append, List.nil_append]
  after_results_simp <;> rfl

theorem V_main_v26 (c : Dev nD) : Gen.V m c main_v26 = shapeCast S2x768x1024 (E2 m c) shapeCasts_S2x768x8x128_S2x768x1024 := by
  unfold E2
  rw [Value.exit_main_v23]
  show Gen.V0 m c (Proc.devRef .tc main_v26) = _
  simp only [Gen.V0, Gen.hostOps0, Gen.hostOps0_1, Gen.hostOps0_2, Gen.hostOps0_3, Gen.hostOps0_4, Gen.hostOps0_5, Gen.hostOps0_6, StableHlo.TRef.binary, StableHlo.TRef.unary, StableHlo.TRef.toBuf, StableHlo.TRef.ofBuf, cast_eq, List.flatten_cons, List.flatten_nil, List.append_nil, List.cons_append, List.nil_append]
  after_results_simp <;> rfl

/-- Reading blocked codes by rows. -/
theorem unblock {A B M : ℕ} (hM : M = A * B) (hB : 0 < B) (E : (⟨4, ![2, 768, A, B]⟩ : Shape).Idx → EReal)
    (h : (⟨4, ![2, 768, A, B]⟩ : Shape).ShapeCasts ⟨3, ![2, 768, M]⟩) (i : (⟨3, ![2, 768, M]⟩ : Shape).Idx) :
    shapeCast ⟨3, ![2, 768, M]⟩ E h i
    = E (ix4 (i 0) (i 1) (⟨(i 2).val / B, (Nat.div_lt_iff_lt_mul hB).2 (hM ▸ (i 2).isLt)⟩ : Fin A) (⟨(i 2).val % B, Nat.mod_lt _ hB⟩ : Fin B)) := by
  refine shapeCast_apply _ _ _ _ ?_
  rw [Shape.rowMajor_val_four, Shape.rowMajor_val_three]
  show (((i 0).val * 768 + (i 1).val) * A + (i 2).val / B) * B + (i 2).val % B = ((i 0).val * 768 + (i 1).val) * M + (i 2).val
  have := Nat.div_add_mod (i 2).val B
  have e : ((i 0).val * 768 + (i 1).val) * M = ((i 0).val * 768 + (i 1).val) * (A * B) := congrArg _ hM
  rw [e]
  calc _ = ((i 0).val * 768 + (i 1).val) * (A * B) + (B * ((i 2).val / B) + (i 2).val % B) := by ring
    _ = _ := by rw [this]

/-- The offsets of a whole array's rectangle. -/
theorem hz : (![0, 0, 0] : Fin 3 → Nat) = fun _ => 0 := funext fun a => by fin_cases a <;> rfl

/-- What the call writes back of the queries is what it finds. -/
theorem flushed3 (c : Dev nD) (t : Fin cfg0.N) :
    (dats m 0 c).flushed 3 t = (win0_3.blk t).view.read (Elt Ideal) (Gen.V m c main_v24) := by
  show (cfg0.win 3).cut (grid0.coords t) ((dats m 0 c).after 3 t) = _
  rw [after0_3]
  unfold out0_3 k0_pay1
  rw [View.canon_unit_zero hz, View.ld_unit_zero hz]
  dsimp only
  rw [shapeCast_self]
  rfl

theorem flushed4 (c : Dev nD) (t : Fin cfg0.N) :
    (dats m 0 c).flushed 4 t = (win0_4.blk t).view.read (Elt Ideal) (Gen.V m c main_v25) := by
  show (cfg0.win 4).cut (grid0.coords t) ((dats m 0 c).after 4 t) = _
  rw [after0_4]
  unfold out0_4 k0_pay2
  rw [View.canon_unit_zero hz, View.ld_unit_zero hz]
  dsimp only
  rw [shapeCast_self]
  rfl

theorem flushed5 (c : Dev nD) (t : Fin cfg0.N) :
    (dats m 0 c).flushed 5 t = (win0_5.blk t).view.read (Elt Ideal) (Gen.V m c main_v26) := by
  show (cfg0.win 5).cut (grid0.coords t) ((dats m 0 c).after 5 t) = _
  rw [after0_5]
  unfold out0_5 k0_pay3
  rw [View.canon_unit_zero hz, View.ld_unit_zero hz]
  dsimp only
  rw [shapeCast_self]
  rfl

/-- The one point of the call. -/
abbrev point : Fin cfg0.N := ⟨0, by rw [show cfg0.N = 1 from N_0]; omega⟩

/-- Its block is the whole array. -/
theorem cover3 (i : S2x768x5120.Idx) : ∃ t : Fin cfg0.N, (cfg0.win 3).flush t = true ∧ i ∈ ((cfg0.win 3).blk t).view.set := by
  refine ⟨point, flush0_3 _, ?_⟩
  have h := ((cfg0.win 3).blk point).view.emb_mem_set (i : S2x768x5120.Idx)
  have e : ((cfg0.win 3).blk point).view.emb (i : S2x768x5120.Idx) = i := funext fun a => Fin.ext (by
    match a with
    | ⟨0, _⟩ => show 0 * 2 + 1 * (i 0).val = (i 0).val; omega
    | ⟨1, _⟩ => show 0 * 768 + 1 * (i 1).val = (i 1).val; omega
    | ⟨2, _⟩ => show 0 * 5120 + 1 * (i 2).val = (i 2).val; omega)
  rwa [e] at h

theorem cover4 (i : S2x768x1024.Idx) : ∃ t : Fin cfg0.N, (cfg0.win 4).flush t = true ∧ i ∈ ((cfg0.win 4).blk t).view.set := by
  refine ⟨point, flush0_4 _, ?_⟩
  have h := ((cfg0.win 4).blk point).view.emb_mem_set (i : S2x768x1024.Idx)
  have e : ((cfg0.win 4).blk point).view.emb (i : S2x768x1024.Idx) = i := funext fun a => Fin.ext (by
    match a with
    | ⟨0, _⟩ => show 0 * 2 + 1 * (i 0).val = (i 0).val; omega
    | ⟨1, _⟩ => show 0 * 768 + 1 * (i 1).val = (i 1).val; omega
    | ⟨2, _⟩ => show 0 * 1024 + 1 * (i 2).val = (i 2).val; omega)
  rwa [e] at h

theorem cover5 (i : S2x768x1024.Idx) : ∃ t : Fin cfg0.N, (cfg0.win 5).flush t = true ∧ i ∈ ((cfg0.win 5).blk t).view.set := by
  refine ⟨point, flush0_5 _, ?_⟩
  have h := ((cfg0.win 5).blk point).view.emb_mem_set (i : S2x768x1024.Idx)
  have e : ((cfg0.win 5).blk point).view.emb (i : S2x768x1024.Idx) = i := funext fun a => Fin.ext (by
    match a with
    | ⟨0, _⟩ => show 0 * 2 + 1 * (i 0).val = (i 0).val; omega
    | ⟨1, _⟩ => show 0 * 768 + 1 * (i 1).val = (i 1).val; omega
    | ⟨2, _⟩ => show 0 * 1024 + 1 * (i 2).val = (i 2).val; omega)
  rwa [e] at h

/-- The reference's result array of query codes. -/
theorem codesQ (c : Dev nD) : Value.reg_main_v27_0 m c
    = C (m ((c : Thread nD τ).loc main_arg0)) (LQ (m ((c : Thread nD τ).loc main_arg3))) := by
  refine ((dats m 0 c).arrAt_eq_of_cover 3 (Gen.V m c main_v24) (fun t _ => flushed3 m c t) cover3).trans ?_
  funext i
  have h2 : (i 2).val < 5120 := (i 2).isLt
  rw [V_main_v24]
  refine (unblock (A := 160) (B := 32) rfl (by decide) _ _ i).trans ((E0_apply m c _ _ _ _).trans (congrArg _ (funext fun a => Fin.ext ?_)))
  match a with
  | ⟨0, _⟩ => rfl
  | ⟨1, _⟩ => rfl
  | ⟨2, _⟩ => show (32 * ((i 2).val / 32) + (i 2).val % 32) % 5120 = (i 2).val; omega

/-- The reference's result array of key codes. -/
theorem codesK (c : Dev nD) : Value.reg_main_v27_1 m c
    = C (m ((c : Thread nD τ).loc main_arg1)) (LK (m ((c : Thread nD τ).loc main_arg4))) := by
  refine ((dats m 0 c).arrAt_eq_of_cover 4 (Gen.V m c main_v25) (fun t _ => flushed4 m c t) cover4).trans ?_
  funext i
  have h2 : (i 2).val < 1024 := (i 2).isLt
  rw [V_main_v25]
  refine (unblock (A := 32) (B := 32) rfl (by decide) _ _ i).trans ((E1_apply m c _ _ _ _).trans (congrArg _ (funext fun a => Fin.ext ?_)))
  match a with
  | ⟨0, _⟩ => rfl
  | ⟨1, _⟩ => rfl
  | ⟨2, _⟩ => show (32 * ((i 2).val / 32) + (i 2).val % 32) % 1024 = (i 2).val; omega

/-- The reference's result array of value codes. -/
theorem codesV (c : Dev nD) : Value.reg_main_v27_2 m c
    = C (m ((c : Thread nD τ).loc main_arg2)) (LV (m ((c : Thread nD τ).loc main_arg5))) := by
  refine ((dats m 0 c).arrAt_eq_of_cover 5 (Gen.V m c main_v26) (fun t _ => flushed5 m c t) cover5).trans ?_
  funext i
  have h2 : (i 2).val < 1024 := (i 2).isLt
  rw [V_main_v26]
  refine (unblock (A := 8) (B := 128) rfl (by decide) _ _ i).trans ((E2_apply m c _ _ _ _).trans (congrArg _ (funext fun a => Fin.ext ?_)))
  match a with
  | ⟨0, _⟩ => rfl
  | ⟨1, _⟩ => rfl
  | ⟨2, _⟩ => show (128 * ((i 2).val / 128) + (i 2).val % 128) % 1024 = (i 2).val; omega

end Cert.Ref

end
-- ==== Proof.Claims.lean ====
module
public import proofs.«01_k».proof.Defs
public import proofs.«01_k».proof.Proof.Array
public import proofs.«01_k».proof.Proof.Ref
public import proofs.«01_k».proof.Proof.RefCodes
public import proofs.«01_k».proof.Proof.Gen.Kernel.Frame

/-! The five claims: the three programs run, the idealized kernel's named constant is the printed one, and the idealized
    kernel's four result arrays are the reference's. -/

@[expose] public section

noncomputable section

namespace Cert.Proof.Claims

open Idealize.ShloMosaic Idealize.ShloMosaic.TcCoe Idealize.SL.Sem Cert.Attn

/-- The kernel runs to its end and leaves every semaphore at zero. -/
theorem frame_p : Cert.quiescent_Kernel := fun m ρ _ => Cert.Kernel.Gen.frame m ρ
/-- So does the idealized kernel. -/
theorem frame_pi : Cert.quiescent_KernelIdeal := fun m ρ _ => Cert.KernelIdeal.Gen.frame m ρ
/-- So does the reference. -/
theorem frame_ri : Cert.quiescent_ReferenceIdeal := fun m ρ _ => Cert.ReferenceIdeal.Gen.frame m ρ

/-- The named constant is the table's. -/
theorem preserves : Cert.preserves_Kernel_KernelIdeal :=
  IdealRules.named_const.statement Cert.KernelIdeal.κ "c" .f32 0x3E0293EE#32
    (((Real.sqrt 128)⁻¹ * (Real.log 2)⁻¹ : ℝ) : EReal) rfl

/-- The reference's attention, as a function of its arguments. -/
theorem attention (m' : (ℓ : Loc Cert.ReferenceIdeal.nD Cert.ReferenceIdeal.τ Cert.ReferenceIdeal.sig) → Buf (Elt Ideal) ℓ)
    (c : Dev Cert.ReferenceIdeal.nD) : Cert.ReferenceIdeal.Value.res_main_v68 (F := Ideal) m' c
    = Cert.Array.F (D (m' ((c.tc : Thread _ _).loc Cert.ReferenceIdeal.main_arg0)) (Cert.Array.LQ (m' ((c.tc : Thread _ _).loc Cert.ReferenceIdeal.main_arg3))))
        (D (m' ((c.tc : Thread _ _).loc Cert.ReferenceIdeal.main_arg1)) (Cert.Array.LK (m' ((c.tc : Thread _ _).loc Cert.ReferenceIdeal.main_arg4))))
        (m' ((c.tc : Thread _ _).loc Cert.ReferenceIdeal.main_arg2)) (m' ((c.tc : Thread _ _).loc Cert.ReferenceIdeal.main_arg5)) := by
  refine ((Cert.ReferenceIdeal.Value.fin_main_v68 m' c).symm.trans
    ((Cert.ReferenceIdeal.Value.tail_main_v68 (Cert.ReferenceIdeal.Value.exitV m' c)).trans
      (Cert.ReferenceIdeal.Read.val_main_v68_eq (Cert.ReferenceIdeal.Value.exitV m' c)))).trans ?_
  rw [Cert.ReferenceIdeal.Value.exit_main_arg3, Cert.ReferenceIdeal.Value.exit_main_arg4, Cert.ReferenceIdeal.Value.exit_main_arg5]
  exact Cert.Ref.result _ _ _ _ _ _ _ _ _ (Cert.Ref.E0_apply m' c) (Cert.Ref.E1_apply m' c) (Cert.Ref.E2_code m' c)

/-- Where the arguments agree the four result arrays are the same functions of them. -/
theorem algebraic : Cert.algebraic_KernelIdeal_ReferenceIdeal := by
  intro m ρ m' ρ' _ hagree
  have h := Cert.KernelIdeal.Value.run_blocks (F := Ideal) m ρ
  simp only [Cert.Array.final6, Cert.Array.final7, Cert.Array.final8, Cert.Array.final9] at h
  refine ⟨_, _, _, _, h, ?_⟩
  refine (θ_run Cert.ReferenceIdeal.defs _ _).mono (fun _ h c => ⟨(h c).1.trans ?_, (h c).2.1.trans ?_, (h c).2.2.1.trans ?_,
      (h c).2.2.2.1.trans ?_, (h c).2.2.2.2⟩)
    (Cert.ReferenceIdeal.Value.run (F := Ideal) m' ρ')
  all_goals obtain ⟨e0, e1, e2, e3, e4, e5⟩ := hagree c
  · rw [attention, e0, e1, e2, e3, e4, e5]
  · rw [Cert.Ref.codesQ, e0, e3]
  · rw [Cert.Ref.codesK, e1, e4]
  · rw [Cert.Ref.codesV, e2, e5]

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Claims.frame_p, Claims.frame_pi, Claims.frame_ri, Claims.preserves, Claims.algebraic⟩

end Cert.Proof

end
